-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "sm_log2e" .f32 0x3DE995B3#32 (((10610843 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x3200 : Shape := ⟨3, ![2, 1024, 3200]⟩
abbrev S2x1024x800 : Shape := ⟨3, ![2, 1024, 800]⟩
abbrev S_ : Shape := ⟨0, ![]⟩

class Facts : Prop where
  bcast_S_S2x1024x3200 : S_.BroadcastsInDim S2x1024x3200 (![] : Fin 0 → Fin S2x1024x3200.rank)
  bcast_S_S2x1024x800 : S_.BroadcastsInDim S2x1024x800 (![] : Fin 0 → Fin S2x1024x800.rank)

variable [Facts]

def fn {F : FTy → Type} [FloatOps F] (main_arg0 : FVec F S2x1024x3200 .bf16) (main_arg1 : FVec F S2x1024x800 .bf16) (main_arg2 : FVec F S2x1024x800 .bf16) : IVec S2x1024x3200 1 × IVec S2x1024x800 1 × IVec S2x1024x800 1 :=
  let main_v0 : FVec F S2x1024x3200 .bf16 := Host.absf main_arg0
  let main_cst : FVec F S_ .bf16 := constant S_ .bf16 0x7F7F#16
  let main_v1 : FVec F S2x1024x3200 .bf16 := broadcastInDim S2x1024x3200 ![] bcast_S_S2x1024x3200 main_cst
  let main_v2 : IVec S2x1024x3200 1 := cmpf .ole main_v0 main_v1
  let main_v3 : FVec F S2x1024x800 .bf16 := Host.absf main_arg1
  let main_cst_0 : FVec F S_ .bf16 := constant S_ .bf16 0x7F7F#16
  let main_v4 : FVec F S2x1024x800 .bf16 := broadcastInDim S2x1024x800 ![] bcast_S_S2x1024x800 main_cst_0
  let main_v5 : IVec S2x1024x800 1 := cmpf .ole main_v3 main_v4
  let main_v6 : FVec F S2x1024x800 .bf16 := Host.absf main_arg2
  let main_cst_1 : FVec F S_ .bf16 := constant S_ .bf16 0x7F7F#16
  let main_v7 : FVec F S2x1024x800 .bf16 := broadcastInDim S2x1024x800 ![] bcast_S_S2x1024x800 main_cst_1
  let main_v8 : IVec S2x1024x800 1 := cmpf .ole main_v6 main_v7
  (main_v2, main_v5, main_v8)
-- ==== Kernel.lean ====
abbrev S2x1024x3200 : Shape := ⟨3, ![2, 1024, 3200]⟩
abbrev S2x1024x800 : Shape := ⟨3, ![2, 1024, 800]⟩
abbrev S2x20x8x160 : Shape := ⟨4, ![2, 20, 8, 160]⟩
abbrev S2x20x160x1024 : Shape := ⟨4, ![2, 20, 160, 1024]⟩
abbrev S2x8x20 : Shape := ⟨3, ![2, 8, 20]⟩
abbrev S2x5x160x1024 : Shape := ⟨4, ![2, 5, 160, 1024]⟩
abbrev S5x2x16 : Shape := ⟨3, ![5, 2, 16]⟩
abbrev S5x2x160 : Shape := ⟨3, ![5, 2, 160]⟩
abbrev S1x1024x640 : Shape := ⟨3, ![1, 1024, 640]⟩
abbrev S1x1024x800 : Shape := ⟨3, ![1, 1024, 800]⟩
abbrev S1x4x8x160 : Shape := ⟨4, ![1, 4, 8, 160]⟩
abbrev S1x4x160x1024 : Shape := ⟨4, ![1, 4, 160, 1024]⟩
abbrev S1x8x20 : Shape := ⟨3, ![1, 8, 20]⟩
abbrev S1x5x160x1024 : Shape := ⟨4, ![1, 5, 160, 1024]⟩
abbrev S5x1024x256 : Shape := ⟨3, ![5, 1024, 256]⟩
abbrev S5x16x128 : Shape := ⟨3, ![5, 16, 128]⟩
abbrev S5x160x128 : Shape := ⟨3, ![5, 160, 128]⟩
abbrev S256x512 : Shape := ⟨2, ![256, 512]⟩
abbrev S32x256 : Shape := ⟨2, ![32, 256]⟩
abbrev S8x128 : Shape := ⟨2, ![8, 128]⟩
abbrev S4x8x128 : Shape := ⟨3, ![4, 8, 128]⟩
abbrev S1024x32 : Shape := ⟨2, ![1024, 32]⟩
abbrev S1024x512 : Shape := ⟨2, ![1024, 512]⟩
abbrev S640x128 : Shape := ⟨2, ![640, 128]⟩
abbrev S1x1024x160 : Shape := ⟨3, ![1, 1024, 160]⟩
abbrev S1024x160 : Shape := ⟨2, ![1024, 160]⟩
abbrev S160 : Shape := ⟨1, ![160]⟩
abbrev S1x160 : Shape := ⟨2, ![1, 160]⟩
abbrev S16x64x160 : Shape := ⟨3, ![16, 64, 160]⟩
abbrev S16x160 : Shape := ⟨2, ![16, 160]⟩
abbrev S16 : Shape := ⟨1, ![16]⟩
abbrev S16x1 : Shape := ⟨2, ![16, 1]⟩
abbrev S16x128 : Shape := ⟨2, ![16, 128]⟩
abbrev S1x16x128 : Shape := ⟨3, ![1, 16, 128]⟩
abbrev S128x16 : Shape := ⟨2, ![128, 16]⟩
abbrev S1x16 : Shape := ⟨2, ![1, 16]⟩
abbrev S1x1x16 : Shape := ⟨3, ![1, 1, 16]⟩
abbrev S16x1x1 : Shape := ⟨3, ![16, 1, 1]⟩
abbrev S160x1024 : Shape := ⟨2, ![160, 1024]⟩
abbrev S1x1x160x1024 : Shape := ⟨4, ![1, 1, 160, 1024]⟩
abbrev S1x1x160 : Shape := ⟨3, ![1, 1, 160]⟩
abbrev S128x160 : Shape := ⟨2, ![128, 160]⟩
abbrev S160x128 : Shape := ⟨2, ![160, 128]⟩
abbrev S1x160x128 : Shape := ⟨3, ![1, 160, 128]⟩
abbrev S16x1024 : Shape := ⟨2, ![16, 1024]⟩
abbrev S1024x640 : Shape := ⟨2, ![1024, 640]⟩
abbrev S16x640 : Shape := ⟨2, ![16, 640]⟩
abbrev S8x640 : Shape := ⟨2, ![8, 640]⟩
abbrev S1x128x640 : Shape := ⟨3, ![1, 128, 640]⟩
abbrev S128x640 : Shape := ⟨2, ![128, 640]⟩
abbrev S640 : Shape := ⟨1, ![640]⟩
abbrev S1x640 : Shape := ⟨2, ![1, 640]⟩
abbrev S8x20 : Shape := ⟨2, ![8, 20]⟩
abbrev S8x160 : Shape := ⟨2, ![8, 160]⟩
abbrev S1x1x8x160 : Shape := ⟨4, ![1, 1, 8, 160]⟩
abbrev S8 : Shape := ⟨1, ![8]⟩
abbrev S8x1 : Shape := ⟨2, ![8, 1]⟩
abbrev S1x8x128 : Shape := ⟨3, ![1, 8, 128]⟩
abbrev S1x1024x256 : Shape := ⟨3, ![1, 1024, 256]⟩
abbrev S1024x256 : Shape := ⟨2, ![1024, 256]⟩
abbrev S256x256 : Shape := ⟨2, ![256, 256]⟩
abbrev S64x128 : Shape := ⟨2, ![64, 128]⟩
abbrev S1x256x640 : Shape := ⟨3, ![1, 256, 640]⟩
abbrev S256x640 : Shape := ⟨2, ![256, 640]⟩
abbrev S640x256 : Shape := ⟨2, ![640, 256]⟩
abbrev S1x1x128 : Shape := ⟨3, ![1, 1, 128]⟩
abbrev S1x128 : Shape := ⟨2, ![1, 128]⟩
abbrev S1x1x160x128 : Shape := ⟨4, ![1, 1, 160, 128]⟩
abbrev S1x128x256 : Shape := ⟨3, ![1, 128, 256]⟩
abbrev S128x256 : Shape := ⟨2, ![128, 256]⟩
abbrev S128x512 : Shape := ⟨2, ![128, 512]⟩
abbrev S64x1 : Shape := ⟨2, ![64, 1]⟩
abbrev S8x8x128 : Shape := ⟨3, ![8, 8, 128]⟩
abbrev S128 : Shape := ⟨1, ![128]⟩
abbrev S160x512 : Shape := ⟨2, ![160, 512]⟩
abbrev S1x256x256 : Shape := ⟨3, ![1, 256, 256]⟩
abbrev S1x1x160x256 : Shape := ⟨4, ![1, 1, 160, 256]⟩
abbrev S160x256 : Shape := ⟨2, ![160, 256]⟩
abbrev S1x384x256 : Shape := ⟨3, ![1, 384, 256]⟩
abbrev S384x256 : Shape := ⟨2, ![384, 256]⟩
abbrev S384x512 : Shape := ⟨2, ![384, 512]⟩
abbrev S1x1x160x384 : Shape := ⟨4, ![1, 1, 160, 384]⟩
abbrev S160x384 : Shape := ⟨2, ![160, 384]⟩
abbrev S1x512x256 : Shape := ⟨3, ![1, 512, 256]⟩
abbrev S512x256 : Shape := ⟨2, ![512, 256]⟩
abbrev S512x512 : Shape := ⟨2, ![512, 512]⟩
abbrev S1x1x160x512 : Shape := ⟨4, ![1, 1, 160, 512]⟩
abbrev S1x640x256 : Shape := ⟨3, ![1, 640, 256]⟩
abbrev S640x512 : Shape := ⟨2, ![640, 512]⟩
abbrev S1x1x160x640 : Shape := ⟨4, ![1, 1, 160, 640]⟩
abbrev S160x640 : Shape := ⟨2, ![160, 640]⟩
abbrev S1x768x256 : Shape := ⟨3, ![1, 768, 256]⟩
abbrev S768x256 : Shape := ⟨2, ![768, 256]⟩
abbrev S768x512 : Shape := ⟨2, ![768, 512]⟩
abbrev S1x1x160x768 : Shape := ⟨4, ![1, 1, 160, 768]⟩
abbrev S160x768 : Shape := ⟨2, ![160, 768]⟩
abbrev S1x896x256 : Shape := ⟨3, ![1, 896, 256]⟩
abbrev S896x256 : Shape := ⟨2, ![896, 256]⟩
abbrev S896x512 : Shape := ⟨2, ![896, 512]⟩
abbrev S1x1x160x896 : Shape := ⟨4, ![1, 1, 160, 896]⟩
abbrev S160x896 : Shape := ⟨2, ![160, 896]⟩

abbrev nBuf : Space → Nat
  | .hbm => 11
  | .vmem => 33
  | .smem => 0
  | _ => 0

abbrev bufTy : (tb : Table) → Fin (tcTables nBuf tb) → BufTy
  | .hbm, ⟨0, _⟩ => ⟨S2x1024x3200, .bf16⟩
  | .hbm, ⟨1, _⟩ => ⟨S2x1024x800, .bf16⟩
  | .hbm, ⟨2, _⟩ => ⟨S2x1024x800, .bf16⟩
  | .hbm, ⟨3, _⟩ => ⟨S2x1024x3200, .bf16⟩
  | .hbm, ⟨4, _⟩ => ⟨S2x20x8x160, .f32⟩
  | .hbm, ⟨5, _⟩ => ⟨S2x20x160x1024, .fp8e4m3⟩
  | .hbm, ⟨6, _⟩ => ⟨S2x8x20, .f32⟩
  | .hbm, ⟨7, _⟩ => ⟨S2x5x160x1024, .fp8e4m3⟩
  | .hbm, ⟨8, _⟩ => ⟨S5x2x16, .f32⟩
  | .hbm, ⟨9, _⟩ => ⟨S2x5x160x1024, .fp8e4m3⟩
  | .hbm, ⟨10, _⟩ => ⟨S5x2x160, .f32⟩
  | .local _ .vmem, ⟨0, _⟩ => ⟨S1x1024x640, .bf16⟩
  | .local _ .vmem, ⟨1, _⟩ => ⟨S1x1024x640, .bf16⟩
  | .local _ .vmem, ⟨2, _⟩ => ⟨S1x1024x800, .bf16⟩
  | .local _ .vmem, ⟨3, _⟩ => ⟨S1x1024x800, .bf16⟩
  | .local _ .vmem, ⟨4, _⟩ => ⟨S1x1024x800, .bf16⟩
  | .local _ .vmem, ⟨5, _⟩ => ⟨S1x1024x800, .bf16⟩
  | .local _ .vmem, ⟨6, _⟩ => ⟨S1x1024x640, .bf16⟩
  | .local _ .vmem, ⟨7, _⟩ => ⟨S1x1024x640, .bf16⟩
  | .local _ .vmem, ⟨8, _⟩ => ⟨S1x4x8x160, .f32⟩
  | .local _ .vmem, ⟨9, _⟩ => ⟨S1x4x8x160, .f32⟩
  | .local _ .vmem, ⟨10, _⟩ => ⟨S1x4x160x1024, .fp8e4m3⟩
  | .local _ .vmem, ⟨11, _⟩ => ⟨S1x4x160x1024, .fp8e4m3⟩
  | .local _ .vmem, ⟨12, _⟩ => ⟨S1x8x20, .f32⟩
  | .local _ .vmem, ⟨13, _⟩ => ⟨S1x8x20, .f32⟩
  | .local _ .vmem, ⟨14, _⟩ => ⟨S1x5x160x1024, .fp8e4m3⟩
  | .local _ .vmem, ⟨15, _⟩ => ⟨S1x5x160x1024, .fp8e4m3⟩
  | .local _ .vmem, ⟨16, _⟩ => ⟨S5x2x16, .f32⟩
  | .local _ .vmem, ⟨17, _⟩ => ⟨S1x5x160x1024, .fp8e4m3⟩
  | .local _ .vmem, ⟨18, _⟩ => ⟨S1x5x160x1024, .fp8e4m3⟩
  | .local _ .vmem, ⟨19, _⟩ => ⟨S5x2x160, .f32⟩
  | .local _ .vmem, ⟨20, _⟩ => ⟨S5x1024x256, .fp8e4m3⟩
  | .local _ .vmem, ⟨21, _⟩ => ⟨S5x1024x256, .bf16⟩
  | .local _ .vmem, ⟨22, _⟩ => ⟨S5x16x128, .f32⟩
  | .local _ .vmem, ⟨23, _⟩ => ⟨S5x160x128, .f32⟩
  | .local _ .vmem, ⟨24, _⟩ => ⟨S256x512, .fp8e4m3⟩
  | .local _ .vmem, ⟨25, _⟩ => ⟨S32x256, .bf16⟩
  | .local _ .vmem, ⟨26, _⟩ => ⟨S8x128, .f32⟩
  | .local _ .vmem, ⟨27, _⟩ => ⟨S4x8x128, .f32⟩
  | .local _ .vmem, ⟨28, _⟩ => ⟨S4x8x128, .f32⟩
  | .local _ .vmem, ⟨29, _⟩ => ⟨S1024x32, .f32⟩
  | .local _ .vmem, ⟨30, _⟩ => ⟨S1024x512, .f32⟩
  | .local _ .vmem, ⟨31, _⟩ => ⟨S1024x512, .fp8e4m3⟩
  | .local _ .vmem, ⟨32, _⟩ => ⟨S640x128, .bf16⟩
  | _, _ => ⟨S2x1024x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let c0_5250 : Index := 0#32
  let arg0 : BitVec 32 := BitVec.ofNat 32 (i 0).val
  let v11543 : Index := Scalar.indexCast arg0
  let c0_5251 : Index := 0#32
  ![0, v11543.toNat, 0]
def k0_off2 (i : grid0.Coords) : Fin 3 → Nat :=
  let c1_5299 : Index := 1#32
  let arg0 : BitVec 32 := BitVec.ofNat 32 (i 0).val
  let v11668 : Index := Scalar.indexCast arg0
  let c0_5300 : Index := 0#32
  ![1, v11668.toNat, 0]
def k0_off3 (i : grid0.Coords) : Fin 3 → Nat :=
  let c2_5348 : Index := 2#32
  let arg0 : BitVec 32 := BitVec.ofNat 32 (i 0).val
  let v11793 : Index := Scalar.indexCast arg0
  let c0_5349 : Index := 0#32
  ![2, v11793.toNat, 0]
def k0_off4 (i : grid0.Coords) : Fin 3 → Nat :=
  let c3_5397 : Index := 3#32
  let arg0 : BitVec 32 := BitVec.ofNat 32 (i 0).val
  let v11918 : Index := Scalar.indexCast arg0
  let c0_5398 : Index := 0#32
  ![3, v11918.toNat, 0]
def k0_off5 (i : grid0.Coords) : Fin 3 → Nat :=
  let c4_5446 : Index := 4#32
  let arg0 : BitVec 32 := BitVec.ofNat 32 (i 0).val
  let v12043 : Index := Scalar.indexCast arg0
  let c0_5447 : Index := 0#32
  ![4, v12043.toNat, 0]
def k0_off6 (i : grid0.Coords) : Fin 3 → Nat :=
  let c0_5489 : Index := 0#32
  let arg0 : BitVec 32 := BitVec.ofNat 32 (i 0).val
  let v12153 : Index := Scalar.indexCast arg0
  let c0_5490 : Index := 0#32
  ![0, v12153.toNat, 0]
def k0_off7 (i : grid0.Coords) : Fin 3 → Nat :=
  let c1_5529 : Index := 1#32
  let arg0 : BitVec 32 := BitVec.ofNat 32 (i 0).val
  let v12259 : Index := Scalar.indexCast arg0
  let c0_5530 : Index := 0#32
  ![1, v12259.toNat, 0]
def k0_off8 (i : grid0.Coords) : Fin 3 → Nat :=
  let c2_5569 : Index := 2#32
  let arg0 : BitVec 32 := BitVec.ofNat 32 (i 0).val
  let v12365 : Index := Scalar.indexCast arg0
  let c0_5570 : Index := 0#32
  ![2, v12365.toNat, 0]
def k0_off9 (i : grid0.Coords) : Fin 3 → Nat :=
  let c3_5609 : Index := 3#32
  let arg0 : BitVec 32 := BitVec.ofNat 32 (i 0).val
  let v12471 : Index := Scalar.indexCast arg0
  let c0_5610 : Index := 0#32
  ![3, v12471.toNat, 0]
def k0_off10 (i : grid0.Coords) : Fin 3 → Nat :=
  let c4_5649 : Index := 4#32
  let arg0 : BitVec 32 := BitVec.ofNat 32 (i 0).val
  let v12577 : Index := Scalar.indexCast arg0
  let c0_5650 : Index := 0#32
  ![4, v12577.toNat, 0]
def k0_off11 (i : grid0.Coords) : Fin 3 → Nat :=
  let arg1 : BitVec 32 := BitVec.ofNat 32 (i 1).val
  let v526 : Index := Scalar.indexCast arg1
  let c0_200 : Index := 0#32
  let c0_201 : Index := 0#32
  ![v526.toNat, 0, 0]
def k0_off12 (i : grid0.Coords) : Fin 3 → Nat :=
  let arg1 : BitVec 32 := BitVec.ofNat 32 (i 1).val
  let v666 : Index := Scalar.indexCast arg1
  let c0_274 : Index := 0#32
  let c0_275 : Index := 0#32
  ![v666.toNat, 0, 0]
def k0_off13 (i : grid0.Coords) : Fin 3 → Nat :=
  let arg1 : BitVec 32 := BitVec.ofNat 32 (i 1).val
  let v674 : Index := Scalar.indexCast arg1
  let c0_283 : Index := 0#32
  let c0_284 : Index := 0#32
  ![v674.toNat, 0, 0]
def k0_off14 (i : grid0.Coords) : Fin 3 → Nat :=
  let arg1 : BitVec 32 := BitVec.ofNat 32 (i 1).val
  let v696 : Index := Scalar.indexCast arg1
  let c1_292 : Index := 1#32
  let c0_293 : Index := 0#32
  ![v696.toNat, 1, 0]
def k0_off15 (i : grid0.Coords) : Fin 4 → Nat :=
  let c0_442 : Index := 0#32
  let arg1 : BitVec 32 := BitVec.ofNat 32 (i 1).val
  let v1015 : Index := Scalar.indexCast arg1
  let c0_443 : Index := 0#32
  let c0_444 : Index := 0#32
  ![0, v1015.toNat, 0, 0]
def k0_off16 (i : grid0.Coords) : Fin 3 → Nat :=
  let arg1 : BitVec 32 := BitVec.ofNat 32 (i 1).val
  let v1020 : Index := Scalar.indexCast arg1
  let c0_448 : Index := 0#32
  let c0_449 : Index := 0#32
  ![v1020.toNat, 0, 0]
def k0_off17 (i : grid0.Coords) : Fin 3 → Nat :=
  let arg1 : BitVec 32 := BitVec.ofNat 32 (i 1).val
  let v1124 : Index := Scalar.indexCast arg1
  let c0_504 : Index := 0#32
  let c0_505 : Index := 0#32
  ![v1124.toNat, 0, 0]
def k0_off18 (i : grid0.Coords) : Fin 3 → Nat :=
  let arg1 : BitVec 32 := BitVec.ofNat 32 (i 1).val
  let v1166 : Index := Scalar.indexCast arg1
  let c2_527 : Index := 2#32
  let c0_528 : Index := 0#32
  ![v1166.toNat, 2, 0]
def k0_off19 (i : grid0.Coords) : Fin 3 → Nat :=
  let arg1 : BitVec 32 := BitVec.ofNat 32 (i 1).val
  let v1188 : Index := Scalar.indexCast arg1
  let c3_536 : Index := 3#32
  let c0_537 : Index := 0#32
  ![v1188.toNat, 3, 0]
def k0_off20 (i : grid0.Coords) : Fin 4 → Nat :=
  let c0_781 : Index := 0#32
  let arg1 : BitVec 32 := BitVec.ofNat 32 (i 1).val
  let v1729 : Index := Scalar.indexCast arg1
  let c0_782 : Index := 0#32
  let c0_783 : Index := 0#32
  ![0, v1729.toNat, 0, 0]
def k0_off21 (i : grid0.Coords) : Fin 3 → Nat :=
  let arg1 : BitVec 32 := BitVec.ofNat 32 (i 1).val
  let v1842 : Index := Scalar.indexCast arg1
  let c0_850 : Index := 0#32
  let c0_851 : Index := 0#32
  ![v1842.toNat, 0, 0]
def k0_off22 (i : grid0.Coords) : Fin 3 → Nat :=
  let arg1 : BitVec 32 := BitVec.ofNat 32 (i 1).val
  let v1918 : Index := Scalar.indexCast arg1
  let c4 : Index := 4#32
  let c0_887 : Index := 0#32
  ![v1918.toNat, 4, 0]
def k0_off23 (i : grid0.Coords) : Fin 3 → Nat :=
  let arg1 : BitVec 32 := BitVec.ofNat 32 (i 1).val
  let v1940 : Index := Scalar.indexCast arg1
  let c5 : Index := 5#32
  let c0_895 : Index := 0#32
  ![v1940.toNat, 5, 0]
def k0_off24 (i : grid0.Coords) : Fin 4 → Nat :=
  let c0_1238 : Index := 0#32
  let arg1 : BitVec 32 := BitVec.ofNat 32 (i 1).val
  let v2703 : Index := Scalar.indexCast arg1
  let c0_1239 : Index := 0#32
  let c0_1240 : Index := 0#32
  ![0, v2703.toNat, 0, 0]
def k0_off25 (i : grid0.Coords) : Fin 3 → Nat :=
  let arg1 : BitVec 32 := BitVec.ofNat 32 (i 1).val
  let v2812 : Index := Scalar.indexCast arg1
  let c0_1303 : Index := 0#32
  let c0_1304 : Index := 0#32
  ![v2812.toNat, 0, 0]
def k0_off26 (i : grid0.Coords) : Fin 3 → Nat :=
  let arg1 : BitVec 32 := BitVec.ofNat 32 (i 1).val
  let v2922 : Index := Scalar.indexCast arg1
  let c6 : Index := 6#32
  let c0_1354 : Index := 0#32
  ![v2922.toNat, 6, 0]
def k0_off27 (i : grid0.Coords) : Fin 3 → Nat :=
  let arg1 : BitVec 32 := BitVec.ofNat 32 (i 1).val
  let v2944 : Index := Scalar.indexCast arg1
  let c7 : Index := 7#32
  let c0_1362 : Index := 0#32
  ![v2944.toNat, 7, 0]
def k0_off28 (i : grid0.Coords) : Fin 4 → Nat :=
  let c0_1802 : Index := 0#32
  let arg1 : BitVec 32 := BitVec.ofNat 32 (i 1).val
  let v3929 : Index := Scalar.indexCast arg1
  let c0_1803 : Index := 0#32
  let c0_1804 : Index := 0#32
  ![0, v3929.toNat, 0, 0]
def k0_off29 (i : grid0.Coords) : Fin 3 → Nat :=
  let arg1 : BitVec 32 := BitVec.ofNat 32 (i 1).val
  let v4042 : Index := Scalar.indexCast arg1
  let c0_1871 : Index := 0#32
  let c0_1872 : Index := 0#32
  ![v4042.toNat, 0, 0]
def k0_off30 (i : grid0.Coords) : Fin 3 → Nat :=
  let arg1 : BitVec 32 := BitVec.ofNat 32 (i 1).val
  let v4186 : Index := Scalar.indexCast arg1
  let c8_1936 : Index := 8#32
  let c0_1937 : Index := 0#32
  ![v4186.toNat, 8, 0]
def k0_off31 (i : grid0.Coords) : Fin 3 → Nat :=
  let arg1 : BitVec 32 := BitVec.ofNat 32 (i 1).val
  let v4208 : Index := Scalar.indexCast arg1
  let c9_1945 : Index := 9#32
  let c0_1946 : Index := 0#32
  ![v4208.toNat, 9, 0]
def k0_off32 (i : grid0.Coords) : Fin 4 → Nat :=
  let c0_2484 : Index := 0#32
  let arg1 : BitVec 32 := BitVec.ofNat 32 (i 1).val
  let v5415 : Index := Scalar.indexCast arg1
  let c0_2485 : Index := 0#32
  let c0_2486 : Index := 0#32
  ![0, v5415.toNat, 0, 0]
def k0_off33 (i : grid0.Coords) : Fin 3 → Nat :=
  let arg1 : BitVec 32 := BitVec.ofNat 32 (i 1).val
  let v5524 : Index := Scalar.indexCast arg1
  let c0_2549 : Index := 0#32
  let c0_2550 : Index := 0#32
  ![v5524.toNat, 0, 0]
def k0_off34 (i : grid0.Coords) : Fin 3 → Nat :=
  let arg1 : BitVec 32 := BitVec.ofNat 32 (i 1).val
  let v5702 : Index := Scalar.indexCast arg1
  let c10_2628 : Index := 10#32
  let c0_2629 : Index := 0#32
  ![v5702.toNat, 10, 0]
def k0_off35 (i : grid0.Coords) : Fin 3 → Nat :=
  let arg1 : BitVec 32 := BitVec.ofNat 32 (i 1).val
  let v5724 : Index := Scalar.indexCast arg1
  let c11_2637 : Index := 11#32
  let c0_2638 : Index := 0#32
  ![v5724.toNat, 11, 0]
def k0_off36 (i : grid0.Coords) : Fin 4 → Nat :=
  let c0_3274 : Index := 0#32
  let arg1 : BitVec 32 := BitVec.ofNat 32 (i 1).val
  let v7153 : Index := Scalar.indexCast arg1
  let c0_3275 : Index := 0#32
  let c0_3276 : Index := 0#32
  ![0, v7153.toNat, 0, 0]
def k0_off37 (i : grid0.Coords) : Fin 3 → Nat :=
  let arg1 : BitVec 32 := BitVec.ofNat 32 (i 1).val
  let v7266 : Index := Scalar.indexCast arg1
  let c0_3343 : Index := 0#32
  let c0_3344 : Index := 0#32
  ![v7266.toNat, 0, 0]
def k0_off38 (i : grid0.Coords) : Fin 3 → Nat :=
  let arg1 : BitVec 32 := BitVec.ofNat 32 (i 1).val
  let v7478 : Index := Scalar.indexCast arg1
  let c12_3436 : Index := 12#32
  let c0_3437 : Index := 0#32
  ![v7478.toNat, 12, 0]
def k0_off39 (i : grid0.Coords) : Fin 3 → Nat :=
  let arg1 : BitVec 32 := BitVec.ofNat 32 (i 1).val
  let v7500 : Index := Scalar.indexCast arg1
  let c13_3445 : Index := 13#32
  let c0_3446 : Index := 0#32
  ![v7500.toNat, 13, 0]
def k0_off40 (i : grid0.Coords) : Fin 4 → Nat :=
  let c0_4180 : Index := 0#32
  let arg1 : BitVec 32 := BitVec.ofNat 32 (i 1).val
  let v9151 : Index := Scalar.indexCast arg1
  let c0_4181 : Index := 0#32
  let c0_4182 : Index := 0#32
  ![0, v9151.toNat, 0, 0]
def k0_off41 (i : grid0.Coords) : Fin 3 → Nat :=
  let arg1 : BitVec 32 := BitVec.ofNat 32 (i 1).val
  let v9506 : Index := Scalar.indexCast arg1
  let c14_4352 : Index := 14#32
  let c0_4353 : Index := 0#32
  ![v9506.toNat, 14, 0]
def k0_off42 (i : grid0.Coords) : Fin 3 → Nat :=
  let arg1 : BitVec 32 := BitVec.ofNat 32 (i 1).val
  let v9528 : Index := Scalar.indexCast arg1
  let c15 : Index := 15#32
  let c0_4361 : Index := 0#32
  ![v9528.toNat, 15, 0]
def k0_off43 (i : grid0.Coords) : Fin 4 → Nat :=
  let c0_5194 : Index := 0#32
  let arg1 : BitVec 32 := BitVec.ofNat 32 (i 1).val
  let v11401 : Index := Scalar.indexCast arg1
  let c0_5195 : Index := 0#32
  let c0_5196 : Index := 0#32
  ![0, v11401.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x800 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x8x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x160x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x5x160x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S5x2x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x5x160x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S5x2x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "sm_log2e" => some (((10610843 / 134217728) * (Real.log 2)⁻¹ : ℝ) : EReal)
  | _ => none
-- ==== ReferenceIdeal.lean ====
abbrev S2x1024x3200 : Shape := ⟨3, ![2, 1024, 3200]⟩
abbrev S2x1024x800 : Shape := ⟨3, ![2, 1024, 800]⟩
abbrev S2x1024x5x160 : Shape := ⟨4, ![2, 1024, 5, 160]⟩
abbrev S_ : Shape := ⟨0, ![]⟩
abbrev S2x5x160 : Shape := ⟨3, ![2, 5, 160]⟩
abbrev S2x1x5x160 : Shape := ⟨4, ![2, 1, 5, 160]⟩
abbrev S2x8x128x20x160 : Shape := ⟨5, ![2, 8, 128, 20, 160]⟩
abbrev S2x8x20x160 : Shape := ⟨4, ![2, 8, 20, 160]⟩
abbrev S2x8x1x20x160 : Shape := ⟨5, ![2, 8, 1, 20, 160]⟩
abbrev S2x8x20 : Shape := ⟨3, ![2, 8, 20]⟩
abbrev S2x8x1x20x1 : Shape := ⟨5, ![2, 8, 1, 20, 1]⟩
abbrev S254 : Shape := ⟨1, ![254]⟩
abbrev S2x8x1x20x1x1 : Shape := ⟨6, ![2, 8, 1, 20, 1, 1]⟩
abbrev S1x1x1x1x1x254 : Shape := ⟨6, ![1, 1, 1, 1, 1, 254]⟩
abbrev S2x8x1x20x1x254 : Shape := ⟨6, ![2, 8, 1, 20, 1, 254]⟩
abbrev S2x16x64x5x160 : Shape := ⟨5, ![2, 16, 64, 5, 160]⟩
abbrev S2x16x5 : Shape := ⟨3, ![2, 16, 5]⟩
abbrev S2x16x1x5x1 : Shape := ⟨5, ![2, 16, 1, 5, 1]⟩
abbrev S2x16x1x5x1x1 : Shape := ⟨6, ![2, 16, 1, 5, 1, 1]⟩
abbrev S2x16x1x5x1x254 : Shape := ⟨6, ![2, 16, 1, 5, 1, 254]⟩
abbrev S2x1x5x160x1 : Shape := ⟨5, ![2, 1, 5, 160, 1]⟩
abbrev S1x1x1x1x254 : Shape := ⟨5, ![1, 1, 1, 1, 254]⟩
abbrev S2x1x5x160x254 : Shape := ⟨5, ![2, 1, 5, 160, 254]⟩
abbrev S2x1024x5x4x160 : Shape := ⟨5, ![2, 1024, 5, 4, 160]⟩
abbrev S2x5x1024x1024x4 : Shape := ⟨5, ![2, 5, 1024, 1024, 4]⟩
abbrev S2x5x4x1024x1024 : Shape := ⟨5, ![2, 5, 4, 1024, 1024]⟩
abbrev S2x8x5x4x160 : Shape := ⟨5, ![2, 8, 5, 4, 160]⟩
abbrev S2x5x1024x8x4 : Shape := ⟨5, ![2, 5, 1024, 8, 4]⟩
abbrev S2x5x4x8x1024 : Shape := ⟨5, ![2, 5, 4, 8, 1024]⟩
abbrev S2x8x5x4 : Shape := ⟨4, ![2, 8, 5, 4]⟩
abbrev S2x5x4x8 : Shape := ⟨4, ![2, 5, 4, 8]⟩
abbrev S2x5x4x8x128 : Shape := ⟨5, ![2, 5, 4, 8, 128]⟩
abbrev S2x5x4x1024 : Shape := ⟨4, ![2, 5, 4, 1024]⟩
abbrev S2x5x16 : Shape := ⟨3, ![2, 5, 16]⟩
abbrev S2x5x16x64 : Shape := ⟨4, ![2, 5, 16, 64]⟩
abbrev S2x5x1024 : Shape := ⟨3, ![2, 5, 1024]⟩
abbrev S2x5x4x1024x1 : Shape := ⟨5, ![2, 5, 4, 1024, 1]⟩
abbrev S2x5x1x1x1024 : Shape := ⟨5, ![2, 5, 1, 1, 1024]⟩
abbrev S2x5x4x8x128x1024 : Shape := ⟨6, ![2, 5, 4, 8, 128, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S2x5x4x1024x160 : Shape := ⟨5, ![2, 5, 4, 1024, 160]⟩
abbrev S2x5x1x1x160 : Shape := ⟨5, ![2, 5, 1, 1, 160]⟩

abbrev nBuf : Space → Nat
  | .hbm => 232
  | .vmem => 0
  | .smem => 0
  | _ => 0

abbrev hbmTy0_0 (i : Nat) : BufTy := match i % 128 with
  | 0 => ⟨S2x1024x3200, .bf16⟩
  | 1 => ⟨S2x1024x800, .bf16⟩
  | 2 => ⟨S2x1024x800, .bf16⟩
  | 3 => ⟨S2x1024x800, .f32⟩
  | 4 => ⟨S2x1024x5x160, .f32⟩
  | 5 => ⟨S_, .f32⟩
  | 6 => ⟨S2x5x160, .f32⟩
  | 7 => ⟨S2x1x5x160, .f32⟩
  | 8 => ⟨S_, .f32⟩
  | 9 => ⟨S2x1x5x160, .f32⟩
  | 10 => ⟨S2x1x5x160, .f32⟩
  | 11 => ⟨S2x1024x5x160, .f32⟩
  | 12 => ⟨S2x1024x5x160, .f32⟩
  | 13 => ⟨S2x1024x3200, .f32⟩
  | 14 => ⟨S2x8x128x20x160, .f32⟩
  | 15 => ⟨S_, .f32⟩
  | 16 => ⟨S2x8x20x160, .f32⟩
  | 17 => ⟨S2x8x1x20x160, .f32⟩
  | 18 => ⟨S_, .f32⟩
  | 19 => ⟨S2x8x1x20x160, .f32⟩
  | 20 => ⟨S2x8x1x20x160, .f32⟩
  | 21 => ⟨S2x8x128x20x160, .f32⟩
  | 22 => ⟨S2x8x128x20x160, .f32⟩
  | 23 => ⟨S2x8x128x20x160, .f32⟩
  | 24 => ⟨S_, .f32⟩
  | 25 => ⟨S2x8x20, .f32⟩
  | 26 => ⟨S2x8x1x20x1, .f32⟩
  | 27 => ⟨S_, .f32⟩
  | 28 => ⟨S2x8x1x20x1, .f32⟩
  | 29 => ⟨S2x8x1x20x1, .f32⟩
  | 30 => ⟨S254, .i32⟩
  | 31 => ⟨S_, .i32⟩
  | 32 => ⟨S254, .i32⟩
  | 33 => ⟨S254, .i32⟩
  | 34 => ⟨S_, .i32⟩
  | 35 => ⟨S254, .i32⟩
  | 36 => ⟨S254, .i32⟩
  | 37 => ⟨S254, .f32⟩
  | 38 => ⟨S2x8x1x20x1x1, .f32⟩
  | 39 => ⟨S1x1x1x1x1x254, .f32⟩
  | 40 => ⟨S2x8x1x20x1x254, .f32⟩
  | 41 => ⟨S2x8x1x20x1x254, .f32⟩
  | 42 => ⟨S2x8x1x20x1x254, .i1⟩
  | 43 => ⟨S_, .f32⟩
  | 44 => ⟨S_, .f32⟩
  | 45 => ⟨S2x8x1x20x1x254, .f32⟩
  | 46 => ⟨S2x8x1x20x1x254, .f32⟩
  | 47 => ⟨S2x8x1x20x1x254, .f32⟩
  | 48 => ⟨S_, .f32⟩
  | 49 => ⟨S2x8x1x20x1, .f32⟩
  | 50 => ⟨S_, .f32⟩
  | 51 => ⟨S2x8x1x20x1, .f32⟩
  | 52 => ⟨S2x8x1x20x1, .i1⟩
  | 53 => ⟨S_, .f32⟩
  | 54 => ⟨S_, .f32⟩
  | 55 => ⟨S2x8x1x20x1, .f32⟩
  | 56 => ⟨S2x8x1x20x1, .f32⟩
  | 57 => ⟨S2x8x128x20x160, .f32⟩
  | 58 => ⟨S2x8x128x20x160, .f32⟩
  | 59 => ⟨S_, .f32⟩
  | 60 => ⟨S_, .f32⟩
  | 61 => ⟨S_, .f32⟩
  | 62 => ⟨S2x8x128x20x160, .f32⟩
  | 63 => ⟨S2x8x128x20x160, .f32⟩
  | 64 => ⟨S_, .f32⟩
  | 65 => ⟨S2x8x128x20x160, .f32⟩
  | 66 => ⟨S2x8x128x20x160, .f32⟩
  | 67 => ⟨S2x16x64x5x160, .f32⟩
  | 68 => ⟨S2x16x64x5x160, .f32⟩
  | 69 => ⟨S_, .f32⟩
  | 70 => ⟨S2x16x5, .f32⟩
  | 71 => ⟨S2x16x1x5x1, .f32⟩
  | 72 => ⟨S_, .f32⟩
  | 73 => ⟨S2x16x1x5x1, .f32⟩
  | 74 => ⟨S2x16x1x5x1, .f32⟩
  | 75 => ⟨S254, .i32⟩
  | 76 => ⟨S_, .i32⟩
  | 77 => ⟨S254, .i32⟩
  | 78 => ⟨S254, .i32⟩
  | 79 => ⟨S_, .i32⟩
  | 80 => ⟨S254, .i32⟩
  | 81 => ⟨S254, .i32⟩
  | 82 => ⟨S254, .f32⟩
  | 83 => ⟨S2x16x1x5x1x1, .f32⟩
  | 84 => ⟨S1x1x1x1x1x254, .f32⟩
  | 85 => ⟨S2x16x1x5x1x254, .f32⟩
  | 86 => ⟨S2x16x1x5x1x254, .f32⟩
  | 87 => ⟨S2x16x1x5x1x254, .i1⟩
  | 88 => ⟨S_, .f32⟩
  | 89 => ⟨S_, .f32⟩
  | 90 => ⟨S2x16x1x5x1x254, .f32⟩
  | 91 => ⟨S2x16x1x5x1x254, .f32⟩
  | 92 => ⟨S2x16x1x5x1x254, .f32⟩
  | 93 => ⟨S_, .f32⟩
  | 94 => ⟨S2x16x1x5x1, .f32⟩
  | 95 => ⟨S_, .f32⟩
  | 96 => ⟨S2x16x1x5x1, .f32⟩
  | 97 => ⟨S2x16x1x5x1, .i1⟩
  | 98 => ⟨S_, .f32⟩
  | 99 => ⟨S_, .f32⟩
  | 100 => ⟨S2x16x1x5x1, .f32⟩
  | 101 => ⟨S2x16x1x5x1, .f32⟩
  | 102 => ⟨S2x16x64x5x160, .f32⟩
  | 103 => ⟨S2x16x64x5x160, .f32⟩
  | 104 => ⟨S_, .f32⟩
  | 105 => ⟨S_, .f32⟩
  | 106 => ⟨S_, .f32⟩
  | 107 => ⟨S2x16x64x5x160, .f32⟩
  | 108 => ⟨S2x16x64x5x160, .f32⟩
  | 109 => ⟨S_, .f32⟩
  | 110 => ⟨S2x16x64x5x160, .f32⟩
  | 111 => ⟨S2x16x64x5x160, .f32⟩
  | 112 => ⟨S2x1024x800, .f32⟩
  | 113 => ⟨S2x1024x5x160, .f32⟩
  | 114 => ⟨S2x1024x5x160, .f32⟩
  | 115 => ⟨S_, .f32⟩
  | 116 => ⟨S2x5x160, .f32⟩
  | 117 => ⟨S2x1x5x160, .f32⟩
  | 118 => ⟨S_, .f32⟩
  | 119 => ⟨S2x1x5x160, .f32⟩
  | 120 => ⟨S2x1x5x160, .f32⟩
  | 121 => ⟨S254, .i32⟩
  | 122 => ⟨S_, .i32⟩
  | 123 => ⟨S254, .i32⟩
  | 124 => ⟨S254, .i32⟩
  | 125 => ⟨S_, .i32⟩
  | 126 => ⟨S254, .i32⟩
  | 127 => ⟨S254, .i32⟩
  | _ => ⟨S2x1024x3200, .bf16⟩

abbrev hbmTy0_1 (i : Nat) : BufTy := match i % 128 with
  | 0 => ⟨S254, .f32⟩
  | 1 => ⟨S2x1x5x160x1, .f32⟩
  | 2 => ⟨S1x1x1x1x254, .f32⟩
  | 3 => ⟨S2x1x5x160x254, .f32⟩
  | 4 => ⟨S2x1x5x160x254, .f32⟩
  | 5 => ⟨S2x1x5x160x254, .i1⟩
  | 6 => ⟨S_, .f32⟩
  | 7 => ⟨S_, .f32⟩
  | 8 => ⟨S2x1x5x160x254, .f32⟩
  | 9 => ⟨S2x1x5x160x254, .f32⟩
  | 10 => ⟨S2x1x5x160x254, .f32⟩
  | 11 => ⟨S_, .f32⟩
  | 12 => ⟨S2x1x5x160, .f32⟩
  | 13 => ⟨S_, .f32⟩
  | 14 => ⟨S2x1x5x160, .f32⟩
  | 15 => ⟨S2x1x5x160, .i1⟩
  | 16 => ⟨S_, .f32⟩
  | 17 => ⟨S_, .f32⟩
  | 18 => ⟨S2x1x5x160, .f32⟩
  | 19 => ⟨S2x1x5x160, .f32⟩
  | 20 => ⟨S2x1024x5x160, .f32⟩
  | 21 => ⟨S2x1024x5x160, .f32⟩
  | 22 => ⟨S_, .f32⟩
  | 23 => ⟨S_, .f32⟩
  | 24 => ⟨S_, .f32⟩
  | 25 => ⟨S2x1024x5x160, .f32⟩
  | 26 => ⟨S2x1024x5x160, .f32⟩
  | 27 => ⟨S_, .f32⟩
  | 28 => ⟨S2x1024x5x160, .f32⟩
  | 29 => ⟨S2x1024x5x160, .f32⟩
  | 30 => ⟨S2x1024x5x4x160, .f32⟩
  | 31 => ⟨S2x1024x5x160, .f32⟩
  | 32 => ⟨S2x5x1024x1024x4, .f32⟩
  | 33 => ⟨S2x5x4x1024x1024, .f32⟩
  | 34 => ⟨S2x8x1x20x160, .bf16⟩
  | 35 => ⟨S2x8x5x4x160, .bf16⟩
  | 36 => ⟨S2x1024x5x160, .bf16⟩
  | 37 => ⟨S2x5x1024x8x4, .f32⟩
  | 38 => ⟨S2x5x4x8x1024, .f32⟩
  | 39 => ⟨S2x8x5x4, .f32⟩
  | 40 => ⟨S2x16x5, .f32⟩
  | 41 => ⟨S2x5x4x8, .f32⟩
  | 42 => ⟨S2x5x4x8x128, .f32⟩
  | 43 => ⟨S2x5x4x1024, .f32⟩
  | 44 => ⟨S2x5x16, .f32⟩
  | 45 => ⟨S2x5x16x64, .f32⟩
  | 46 => ⟨S2x5x1024, .f32⟩
  | 47 => ⟨S2x5x4x1024x1, .f32⟩
  | 48 => ⟨S2x5x4x1024x1024, .f32⟩
  | 49 => ⟨S2x5x4x1024x1024, .f32⟩
  | 50 => ⟨S2x5x1x1x1024, .f32⟩
  | 51 => ⟨S2x5x4x1024x1024, .f32⟩
  | 52 => ⟨S2x5x4x1024x1024, .f32⟩
  | 53 => ⟨S2x5x4x8x128x1024, .f32⟩
  | 54 => ⟨S2x5x4x1024x1024, .f32⟩
  | 55 => ⟨S2x5x4x1024x1024, .f32⟩
  | 56 => ⟨S_, .f32⟩
  | 57 => ⟨S2x5x4x1024x1024, .f32⟩
  | 58 => ⟨S2x5x4x1024x1024, .f32⟩
  | 59 => ⟨S1024, .i32⟩
  | 60 => ⟨S1x1024, .i32⟩
  | 61 => ⟨S1024, .i32⟩
  | 62 => ⟨S1024x1, .i32⟩
  | 63 => ⟨S1024x1024, .i32⟩
  | 64 => ⟨S1024x1024, .i32⟩
  | 65 => ⟨S1024x1024, .i1⟩
  | 66 => ⟨S_, .f32⟩
  | 67 => ⟨S_, .f32⟩
  | 68 => ⟨S2x5x4x1024x1024, .i1⟩
  | 69 => ⟨S2x5x4x1024x1024, .f32⟩
  | 70 => ⟨S2x5x4x1024x1024, .f32⟩
  | 71 => ⟨S_, .f32⟩
  | 72 => ⟨S2x5x4x1024, .f32⟩
  | 73 => ⟨S2x5x4x1024x1, .f32⟩
  | 74 => ⟨S2x5x4x1024x1024, .f32⟩
  | 75 => ⟨S2x5x4x1024x1024, .f32⟩
  | 76 => ⟨S2x5x4x1024x1024, .f32⟩
  | 77 => ⟨S_, .f32⟩
  | 78 => ⟨S2x5x4x1024, .f32⟩
  | 79 => ⟨S_, .f32⟩
  | 80 => ⟨S2x5x4x1024x1024, .f32⟩
  | 81 => ⟨S2x5x4x1024x1024, .f32⟩
  | 82 => ⟨S_, .f32⟩
  | 83 => ⟨S_, .f32⟩
  | 84 => ⟨S_, .f32⟩
  | 85 => ⟨S2x5x4x1024x1024, .f32⟩
  | 86 => ⟨S2x5x4x1024x1024, .f32⟩
  | 87 => ⟨S_, .f32⟩
  | 88 => ⟨S2x5x4x1024x1024, .f32⟩
  | 89 => ⟨S2x5x4x1024x1024, .f32⟩
  | 90 => ⟨S2x5x4x1024x160, .f32⟩
  | 91 => ⟨S2x5x160, .f32⟩
  | 92 => ⟨S_, .f32⟩
  | 93 => ⟨S2x5x4x1024x160, .f32⟩
  | 94 => ⟨S2x5x4x1024x160, .f32⟩
  | 95 => ⟨S2x5x1x1x160, .f32⟩
  | 96 => ⟨S2x5x4x1024x160, .f32⟩
  | 97 => ⟨S2x5x4x1024x160, .f32⟩
  | 98 => ⟨S2x5x4x1024x1, .f32⟩
  | 99 => ⟨S2x5x4x1024x160, .f32⟩
  | 100 => ⟨S2x5x4x1024x160, .f32⟩
  | 101 => ⟨S2x5x4x1024x160, .bf16⟩
  | 102 => ⟨S2x1024x5x4x160, .bf16⟩
  | 103 => ⟨S2x1024x3200, .bf16⟩
  | _ => ⟨S2x1024x3200, .bf16⟩

abbrev hbmTy (i : Nat) : BufTy := match i / 128 with
  | 0 => hbmTy0_0 i
  | 1 => hbmTy0_1 i
  | _ => ⟨S2x1024x3200, .bf16⟩

abbrev bufTy : (tb : Table) → Fin (tcTables nBuf tb) → BufTy
  | .hbm, ⟨i, _⟩ => hbmTy i
  | _, _ => ⟨S2x1024x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_call1_v0 : Ref sig .tc := ⟨.hbm, 54, rfl⟩
abbrev main_call1_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_cst_11 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_cst_13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_14 : Ref sig .tc := ⟨.hbm, 76, rfl⟩
abbrev main_v47 : Ref sig .tc := ⟨.hbm, 77, rfl⟩
abbrev main_v48 : Ref sig .tc := ⟨.hbm, 78, rfl⟩
abbrev main_c_15 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_16 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v57 : Ref sig .tc := ⟨.hbm, 92, rfl⟩
abbrev main_cst_17 : Ref sig .tc := ⟨.hbm, 93, rfl⟩
abbrev main_v58 : Ref sig .tc := ⟨.hbm, 94, rfl⟩
abbrev main_cst_18 : Ref sig .tc := ⟨.hbm, 95, rfl⟩
abbrev main_v59 : Ref sig .tc := ⟨.hbm, 96, rfl⟩
abbrev main_v60 : Ref sig .tc := ⟨.hbm, 97, rfl⟩
abbrev main_cst_19 : Ref sig .tc := ⟨.hbm, 98, rfl⟩
abbrev main_call4_v0 : Ref sig .tc := ⟨.hbm, 99, rfl⟩
abbrev main_call4_v1 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_20 : Ref sig .tc := ⟨.hbm, 104, rfl⟩
abbrev main_cst_21 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_22 : Ref sig .tc := ⟨.hbm, 115, rfl⟩
abbrev main_v68 : Ref sig .tc := ⟨.hbm, 116, rfl⟩
abbrev main_v69 : Ref sig .tc := ⟨.hbm, 117, rfl⟩
abbrev main_cst_23 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_24 : Ref sig .tc := ⟨.hbm, 122, rfl⟩
abbrev main_v73 : Ref sig .tc := ⟨.hbm, 123, rfl⟩
abbrev main_v74 : Ref sig .tc := ⟨.hbm, 124, rfl⟩
abbrev main_c_25 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_26 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_v83 : Ref sig .tc := ⟨.hbm, 138, rfl⟩
abbrev main_cst_27 : Ref sig .tc := ⟨.hbm, 139, rfl⟩
abbrev main_v84 : Ref sig .tc := ⟨.hbm, 140, rfl⟩
abbrev main_cst_28 : Ref sig .tc := ⟨.hbm, 141, rfl⟩
abbrev main_v85 : Ref sig .tc := ⟨.hbm, 142, rfl⟩
abbrev main_v86 : Ref sig .tc := ⟨.hbm, 143, rfl⟩
abbrev main_cst_29 : Ref sig .tc := ⟨.hbm, 144, rfl⟩
abbrev main_call7_v0 : Ref sig .tc := ⟨.hbm, 145, rfl⟩
abbrev main_call7_v1 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_30 : Ref sig .tc := ⟨.hbm, 150, rfl⟩
abbrev main_cst_31 : Ref sig .tc := ⟨.hbm, 151, rfl⟩
abbrev main_call8_v0 : Ref sig .tc := ⟨.hbm, 152, rfl⟩
abbrev main_call8_v1 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_32 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_33 : Ref sig .tc := ⟨.hbm, 194, rfl⟩
abbrev main_call9_v0 : Ref sig .tc := ⟨.hbm, 195, rfl⟩
abbrev main_call9_v1 : Ref sig .tc := ⟨.hbm, 196, rfl⟩
abbrev main_call9_v2 : Ref sig .tc := ⟨.hbm, 197, rfl⟩
abbrev main_v126 : Ref sig .tc := ⟨.hbm, 198, rfl⟩
abbrev main_cst_34 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_35 : Ref sig .tc := ⟨.hbm, 205, rfl⟩
abbrev main_v132 : Ref sig .tc := ⟨.hbm, 206, rfl⟩
abbrev main_cst_36 : Ref sig .tc := ⟨.hbm, 207, rfl⟩
abbrev main_v133 : Ref sig .tc := ⟨.hbm, 208, rfl⟩
abbrev main_v134 : Ref sig .tc := ⟨.hbm, 209, rfl⟩
abbrev main_cst_37 : Ref sig .tc := ⟨.hbm, 210, rfl⟩
abbrev main_cst_38 : Ref sig .tc := ⟨.hbm, 211, rfl⟩
abbrev main_call10_v0 : Ref sig .tc := ⟨.hbm, 212, rfl⟩
abbrev main_call10_v1 : Ref sig .tc := ⟨.hbm, 213, rfl⟩
abbrev main_call10_v2 : Ref sig .tc := ⟨.hbm, 214, rfl⟩
abbrev main_call10_v3 : Ref sig .tc := ⟨.hbm, 215, rfl⟩
abbrev main_call10_v4 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_39 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩

abbrev nD : Nat := 1
abbrev τ : Topo := Topo.v7x

variable {F : FTy → Type} [FloatOps F]
-- ==== Proof.Bits.Run.lean ====
/-
The whole-body run of the kernel in every case: from the inputs' staging buffers at their contents and every other
buffer at anything, the body ends with the inputs' buffers as they were and the others at something.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 18748000 in
/-- The body's triple, nothing named of what it writes. -/
theorem kernelRun (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole)
    (x0 : Vec F S1x1024x640 .bf16) (x1 : Vec F S1x1024x800 .bf16) (x2 : Vec F S1x1024x800 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) E (cc0_fp8_sage_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_fp8_sage_attention_eq_skeleton]; unfold cc0_fp8_sage_attention_skel
  simp only [k0_part318_eq_skeleton, k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part319_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part320_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part321_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part322_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg2.eq_unread hf2; obtain rfl := harg3.eq_unread hf3; obtain rfl := harg4.eq_unread hf4
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Body

end
-- ==== Proof.Bits.Frame.lean ====
/-
The body at every grid point, the run of the whole program and its frame claim: nothing is said of what the outputs or
the scratch buffers hold.
-/
module

public import proofs.«01_k».proof.Proof.Bits.Run
public import proofs.«01_k».proof.Proof.Gen.Kernel.Frame
public import Idealize.ShloMosaic.Lib.Claim

@[expose] public section

set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end as they were, from a run whose final states are read window by window. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The memrefs of a grid point: each window's staging buffer, and the scratch buffers -/

abbrev ms0_0 (t : Fin cfg0.N) : Memref sig .tc .vmem S1x1024x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x800 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x800 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x640 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x8x160 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x160x1024 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x20 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5x160x1024 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5x2x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5x160x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x2x160 .f32 := win0_10.stage (cfg0.slots t 10)
abbrev hs0_10 (t : Fin cfg0.N) : (ms0_10 t).IsWhole := hstage0_10 ((cfg0.slots t 10).cast nbuf0_10)
abbrev scM0_0 : Memref sig .tc .vmem S5x1024x256 .fp8e4m3 := Memref.whole cc0_scratch0
abbrev scM0_1 : Memref sig .tc .vmem S5x1024x256 .bf16 := Memref.whole cc0_scratch1
abbrev scM0_2 : Memref sig .tc .vmem S5x16x128 .f32 := Memref.whole cc0_scratch2
abbrev scM0_3 : Memref sig .tc .vmem S5x160x128 .f32 := Memref.whole cc0_scratch3
abbrev scM0_4 : Memref sig .tc .vmem S256x512 .fp8e4m3 := Memref.whole cc0_scratch4
abbrev scM0_5 : Memref sig .tc .vmem S32x256 .bf16 := Memref.whole cc0_scratch5
abbrev scM0_6 : Memref sig .tc .vmem S8x128 .f32 := Memref.whole cc0_scratch6
abbrev scM0_7 : Memref sig .tc .vmem S4x8x128 .f32 := Memref.whole cc0_scratch7
abbrev scM0_8 : Memref sig .tc .vmem S4x8x128 .f32 := Memref.whole cc0_scratch8
abbrev scM0_9 : Memref sig .tc .vmem S1024x32 .f32 := Memref.whole cc0_scratch9
abbrev scM0_10 : Memref sig .tc .vmem S1024x512 .f32 := Memref.whole cc0_scratch10
abbrev scM0_11 : Memref sig .tc .vmem S1024x512 .fp8e4m3 := Memref.whole cc0_scratch11
abbrev scM0_12 : Memref sig .tc .vmem S640x128 .bf16 := Memref.whole cc0_scratch12

/-- The invariant at every point: each scratch buffer held at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

/-! ## The pipeline's proof data -/

/-- The output windows: nothing is said of their contents. -/
def forgets0 : Fin 11 → Bool := fun w => w.val == 3 || w.val == 4 || w.val == 5 || w.val == 6 || w.val == 7 || w.val == 8 || w.val == 9 || w.val == 10

/-- The proof data: the arrays as the run finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 28800000 in
/-- The body at any point: the whole-body run applies whatever the branch conditions are. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  iintro ⟨H0, H1, H2, H3, H4, H5, H6, H7, H8, H9, H10, HS0, HS1, HS2, HS3, HS4, HS5, HS6, HS7, HS8, HS9, HS10, HS11, HS12⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: every window's array ends as the proof data say, and every semaphore counter is at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The frame claim: every fair execution terminates, the argument arrays end unchanged and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of_forget m ρ (fun c => (dats m 0 c).toRForget forgets0) (A_eq m)
      ((θ_run defs _ _).mono (fun _ h => h.1) (run_main_quiescent m ρ)))
    ((θ_run defs _ _).mono (fun _ h => h.2) (run_main_quiescent m ρ))

end Cert.Kernel.Body

end
-- ==== Proof.Ideal.Runs.lean ====
/-
What the three whole-body runs of the kernel share: the closed forms of its two branch conditions over the
grid, where its windows are idle or fresh, and the names of the staging and scratch memrefs.
-/
module

public import proofs.«01_k».proof.Proof.Gen.KernelIdeal.Frame
public import proofs.«01_k».proof.Proof.Gen.KernelIdeal.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 5 % 2 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points ≡ 0 (mod 5) — by arithmetic of the point. -/
theorem hcond0_1 : ∀ t : Fin cfg0.N, cond0_1 (grid0.coords t) ↔ t.val % 5 = 0 :=
  (fun t => by
    have ht : t.val < 10 := Nat.lt_of_lt_of_eq t.isLt N_0
    have e0 : (grid0.coords t 0).val = t.val / 5 % 2 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x210 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cond0_1 (grid0.coords t) → cfg0.idle 9 (grid0.coords t) = false := by decide +kernel
/-- At the points of case B the printed configuration (`Cfg.idle`) calls output 9 live: the case stores into it. -/
theorem idleAt0_9_B : ∀ t : Fin cfg0.N, ¬cond0_0 (grid0.coords t) → ¬cond0_1 (grid0.coords t) → cfg0.idle 9 (grid0.coords t) = true := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → ¬cond0_1 (grid0.coords t) → cfg0.fresh 9 t.val = false := by
  intro t; rw [fresh0_9_eq t]; revert t; decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 3, through which its contents are stated (`View.read_writes_of_cover`: the
    choice does not matter). -/
abbrev VO0_3 : View sig .tc .vmem S1x1024x640 .bf16 := (Memref.whole cc0_stg3_0 : Memref sig .tc .vmem S1x1024x640 .bf16).view
/-- One staging buffer of output window 9, through which its contents are stated (`View.read_writes_of_cover`: the
    choice does not matter). -/
abbrev VO0_9 : View sig .tc .vmem S1x5x160x1024 .fp8e4m3 := (Memref.whole cc0_stg9_0 : Memref sig .tc .vmem S1x5x160x1024 .fp8e4m3).view
/-- Each window's current staging memref at point `t`, spelled as the pipeline passes it (`bodyAt0`), and its wholeness. -/
abbrev ms0_0 (t : Fin cfg0.N) : Memref sig .tc .vmem S1x1024x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x800 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x800 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x640 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x8x160 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x160x1024 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x20 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5x160x1024 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5x2x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5x160x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x2x160 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S5x1024x256 .fp8e4m3 := Memref.whole cc0_scratch0
abbrev scM0_1 : Memref sig .tc .vmem S5x1024x256 .bf16 := Memref.whole cc0_scratch1
abbrev scM0_2 : Memref sig .tc .vmem S5x16x128 .f32 := Memref.whole cc0_scratch2
abbrev scM0_3 : Memref sig .tc .vmem S5x160x128 .f32 := Memref.whole cc0_scratch3
abbrev scM0_4 : Memref sig .tc .vmem S256x512 .fp8e4m3 := Memref.whole cc0_scratch4
abbrev scM0_5 : Memref sig .tc .vmem S32x256 .bf16 := Memref.whole cc0_scratch5
abbrev scM0_6 : Memref sig .tc .vmem S8x128 .f32 := Memref.whole cc0_scratch6
abbrev scM0_7 : Memref sig .tc .vmem S4x8x128 .f32 := Memref.whole cc0_scratch7
abbrev scM0_8 : Memref sig .tc .vmem S4x8x128 .f32 := Memref.whole cc0_scratch8
abbrev scM0_9 : Memref sig .tc .vmem S1024x32 .f32 := Memref.whole cc0_scratch9
abbrev scM0_10 : Memref sig .tc .vmem S1024x512 .f32 := Memref.whole cc0_scratch10
abbrev scM0_11 : Memref sig .tc .vmem S1024x512 .fp8e4m3 := Memref.whole cc0_scratch11
abbrev scM0_12 : Memref sig .tc .vmem S640x128 .bf16 := Memref.whole cc0_scratch12
/-- The scratch `arg13` the kernel carries between points, as a view: what it holds is stated through it. -/
abbrev VS0_0 : View sig .tc .vmem S5x1024x256 .fp8e4m3 := scM0_0.view
/-- The scratch `arg14` the kernel carries between points, as a view: what it holds is stated through it. -/
abbrev VS0_1 : View sig .tc .vmem S5x1024x256 .bf16 := scM0_1.view
/-- The scratch `arg15` the kernel carries between points, as a view: what it holds is stated through it. -/
abbrev VS0_2 : View sig .tc .vmem S5x16x128 .f32 := scM0_2.view
/-- The scratch `arg16` the kernel carries between points, as a view: what it holds is stated through it. -/
abbrev VS0_3 : View sig .tc .vmem S5x160x128 .f32 := scM0_3.view
/-- The scratch `arg17` the kernel carries between points, as a view: what it holds is stated through it. -/
abbrev VS0_4 : View sig .tc .vmem S256x512 .fp8e4m3 := scM0_4.view
/-- The scratch `arg18` the kernel carries between points, as a view: what it holds is stated through it. -/
abbrev VS0_5 : View sig .tc .vmem S32x256 .bf16 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

end Cert.KernelIdeal.Body

end
-- ==== Proof.Ideal.RunA.lean ====
/-
The whole-body run of the kernel in case A.
-/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 19652000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 10) at anything, handed back at some contents nothing names. -/
noncomputable def kernelRun0_A (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) :
    Σ' (L3 : List (View.Piece (Elt F) S1x1024x640 .bf16)), Σ' (L9 : List (View.Piece (Elt F) S1x5x160x1024 .fp8e4m3)), Σ' (LS0 : List (View.Piece (Elt F) S5x1024x256 .fp8e4m3)), Σ' (LS1 : List (View.Piece (Elt F) S5x1024x256 .bf16)), Σ' (LS2 : List (View.Piece (Elt F) S5x16x128 .f32)), Σ' (LS3 : List (View.Piece (Elt F) S5x160x128 .f32)), Σ' (LS4 : List (View.Piece (Elt F) S256x512 .fp8e4m3)), Σ' (LS5 : List (View.Piece (Elt F) S32x256 .bf16)), Σ' (LT7 : List (View.Piece (Elt F) S4x8x128 .f32)), Σ' (LT8 : List (View.Piece (Elt F) S4x8x128 .f32)), Σ' (LT9 : List (View.Piece (Elt F) S1024x32 .f32)), Σ' (LT10 : List (View.Piece (Elt F) S1024x512 .f32)), Σ' (LT11 : List (View.Piece (Elt F) S1024x512 .fp8e4m3)), { LT12 : List (View.Piece (Elt F) S640x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f L9) ∗ (∃ d, owns (c : Thread nD τ) arg12 fullShare d) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5) ∗ (∃ d, owns (c : Thread nD τ) arg19 fullShare d) ∗ (∃ f, arg20.view.loc (c : Thread nD τ) ↦[arg20.view.set]{fullShare} arg20.view.writes (Elt F) f LT7) ∗ (∃ f, arg21.view.loc (c : Thread nD τ) ↦[arg21.view.set]{fullShare} arg21.view.writes (Elt F) f LT8) ∗ (∃ f, arg22.view.loc (c : Thread nD τ) ↦[arg22.view.set]{fullShare} arg22.view.writes (Elt F) f LT9) ∗ (∃ f, arg23.view.loc (c : Thread nD τ) ↦[arg23.view.set]{fullShare} arg23.view.writes (Elt F) f LT10) ∗ (∃ f, arg24.view.loc (c : Thread nD τ) ↦[arg24.view.set]{fullShare} arg24.view.writes (Elt F) f LT11) ∗ (∃ f, arg25.view.loc (c : Thread nD τ) ↦[arg25.view.set]{fullShare} arg25.view.writes (Elt F) f LT12)) -∗ K ⟨⟩))
          ⊢ wp frame (wpE (defs₀ (F := F)) Variants.none c none) E (cc0_fp8_sage_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, fun E K => ?run⟩
  case run =>
    simp only [cc0_fp8_sage_attention_eq_skeleton]; unfold cc0_fp8_sage_attention_skel
    simp only [k0_part318_eq_skeleton, k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part319_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part320_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part321_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part322_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    isplitl [H10]
    · iexists _, _; isplitr; swap; · iexact H10
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]
    · iexists _, _; isplitr; swap; · iexact HS6
      ipureintro; rfl
    isplitl [HS7]; · iexists _; iexact HS7
    isplitl [HS8]; · iexists _; iexact HS8
    isplitl [HS9]; · iexists _; iexact HS9
    isplitl [HS10]; · iexists _; iexact HS10
    isplitl [HS11]; · iexists _; iexact HS11
    iexists _; iexact HS12

end Cert.KernelIdeal.Body

end
-- ==== Proof.Ideal.RunB.lean ====
/-
The whole-body run of the kernel in case B.
-/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 18748000 in
/-- What the body's stores leave in each output's staging memref, as pieces (last first) IN CASE B (`scf.if` 0 not taken, `scf.if` 1 not taken: points 1, 2, … 9: 8 of 10), WITH the
    proof that on whole staging memrefs — the inputs' at their contents, the outputs it reads before covering (9) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 10) at anything, handed back at some contents nothing names. -/
noncomputable def kernelRun0_B (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) :
    Σ' (L3 : List (View.Piece (Elt F) S1x1024x640 .bf16)), Σ' (L9 : List (View.Piece (Elt F) S1x5x160x1024 .fp8e4m3)), Σ' (LS0 : List (View.Piece (Elt F) S5x1024x256 .fp8e4m3)), Σ' (LS1 : List (View.Piece (Elt F) S5x1024x256 .bf16)), Σ' (LS2 : List (View.Piece (Elt F) S5x16x128 .f32)), Σ' (LS3 : List (View.Piece (Elt F) S5x160x128 .f32)), Σ' (LS4 : List (View.Piece (Elt F) S256x512 .fp8e4m3)), Σ' (LS5 : List (View.Piece (Elt F) S32x256 .bf16)), Σ' (LT7 : List (View.Piece (Elt F) S4x8x128 .f32)), Σ' (LT8 : List (View.Piece (Elt F) S4x8x128 .f32)), Σ' (LT9 : List (View.Piece (Elt F) S1024x32 .f32)), Σ' (LT10 : List (View.Piece (Elt F) S1024x512 .f32)), Σ' (LT11 : List (View.Piece (Elt F) S1024x512 .fp8e4m3)), { LT12 : List (View.Piece (Elt F) S640x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo9 ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo9 ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5) ∗ (∃ d, owns (c : Thread nD τ) arg19 fullShare d) ∗ (∃ f, arg20.view.loc (c : Thread nD τ) ↦[arg20.view.set]{fullShare} arg20.view.writes (Elt F) f LT7) ∗ (∃ f, arg21.view.loc (c : Thread nD τ) ↦[arg21.view.set]{fullShare} arg21.view.writes (Elt F) f LT8) ∗ (∃ f, arg22.view.loc (c : Thread nD τ) ↦[arg22.view.set]{fullShare} arg22.view.writes (Elt F) f LT9) ∗ (∃ f, arg23.view.loc (c : Thread nD τ) ↦[arg23.view.set]{fullShare} arg23.view.writes (Elt F) f LT10) ∗ (∃ f, arg24.view.loc (c : Thread nD τ) ↦[arg24.view.set]{fullShare} arg24.view.writes (Elt F) f LT11) ∗ (∃ f, arg25.view.loc (c : Thread nD τ) ↦[arg25.view.set]{fullShare} arg25.view.writes (Elt F) f LT12)) -∗ K ⟨⟩))
          ⊢ wp frame (wpE (defs₀ (F := F)) Variants.none c none) E (cc0_fp8_sage_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, [], [], [], [], [], ?_, ?_, ?_, ?_, ?_, ?_, ?_, ?_, fun E K => ?run⟩
  case run =>
    simp only [cc0_fp8_sage_attention_eq_skeleton]; unfold cc0_fp8_sage_attention_skel
    simp only [k0_part318_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part319_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part320_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part321_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part322_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2; obtain rfl := harg11.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _; isplitr; · ipureintro; exact harg11.read_unread _
      iexact H9
    isplitl [H10]
    · iexists _, _; isplitr; swap; · iexact H10
      ipureintro; rfl
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    isplitl [HS3]
    · iexists _; isplitr; · ipureintro; exact harg16.read_unread _
      iexact HS3
    isplitl [HS4]; · iexact HS4
    isplitl [HS5]; · iexact HS5
    isplitl [HS6]
    · iexists _, _; isplitr; swap; · iexact HS6
      ipureintro; rfl
    isplitl [HS7]; · iexists _; iexact HS7
    isplitl [HS8]; · iexists _; iexact HS8
    isplitl [HS9]; · iexists _; iexact HS9
    isplitl [HS10]; · iexists _; iexact HS10
    isplitl [HS11]; · iexists _; iexact HS11
    iexists _; iexact HS12

end Cert.KernelIdeal.Body

end
-- ==== Proof.Ideal.RunC.lean ====
/-
The whole-body run of the kernel in case C.
-/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 19604000 in
/-- What the body's stores leave in each output's staging memref, as pieces (last first) IN CASE C (`scf.if` 0 not taken, `scf.if` 1 taken: points 5), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 10) at anything, handed back at some contents nothing names. -/
noncomputable def kernelRun0_C (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) :
    Σ' (L3 : List (View.Piece (Elt F) S1x1024x640 .bf16)), Σ' (L9 : List (View.Piece (Elt F) S1x5x160x1024 .fp8e4m3)), Σ' (LS0 : List (View.Piece (Elt F) S5x1024x256 .fp8e4m3)), Σ' (LS1 : List (View.Piece (Elt F) S5x1024x256 .bf16)), Σ' (LS2 : List (View.Piece (Elt F) S5x16x128 .f32)), Σ' (LS3 : List (View.Piece (Elt F) S5x160x128 .f32)), Σ' (LS4 : List (View.Piece (Elt F) S256x512 .fp8e4m3)), Σ' (LS5 : List (View.Piece (Elt F) S32x256 .bf16)), Σ' (LT7 : List (View.Piece (Elt F) S4x8x128 .f32)), Σ' (LT8 : List (View.Piece (Elt F) S4x8x128 .f32)), Σ' (LT9 : List (View.Piece (Elt F) S1024x32 .f32)), Σ' (LT10 : List (View.Piece (Elt F) S1024x512 .f32)), Σ' (LT11 : List (View.Piece (Elt F) S1024x512 .fp8e4m3)), { LT12 : List (View.Piece (Elt F) S640x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ owns (c : Thread nD τ) arg17 fullShare xs4 ∗ owns (c : Thread nD τ) arg18 fullShare xs5 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f L9) ∗ (∃ d, owns (c : Thread nD τ) arg12 fullShare d) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5) ∗ (∃ d, owns (c : Thread nD τ) arg19 fullShare d) ∗ (∃ f, arg20.view.loc (c : Thread nD τ) ↦[arg20.view.set]{fullShare} arg20.view.writes (Elt F) f LT7) ∗ (∃ f, arg21.view.loc (c : Thread nD τ) ↦[arg21.view.set]{fullShare} arg21.view.writes (Elt F) f LT8) ∗ (∃ f, arg22.view.loc (c : Thread nD τ) ↦[arg22.view.set]{fullShare} arg22.view.writes (Elt F) f LT9) ∗ (∃ f, arg23.view.loc (c : Thread nD τ) ↦[arg23.view.set]{fullShare} arg23.view.writes (Elt F) f LT10) ∗ (∃ f, arg24.view.loc (c : Thread nD τ) ↦[arg24.view.set]{fullShare} arg24.view.writes (Elt F) f LT11) ∗ (∃ f, arg25.view.loc (c : Thread nD τ) ↦[arg25.view.set]{fullShare} arg25.view.writes (Elt F) f LT12)) -∗ K ⟨⟩))
          ⊢ wp frame (wpE (defs₀ (F := F)) Variants.none c none) E (cc0_fp8_sage_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, fun E K => ?run⟩
  case run =>
    simp only [cc0_fp8_sage_attention_eq_skeleton]; unfold cc0_fp8_sage_attention_skel
    simp only [k0_part318_eq_skeleton, k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part319_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part320_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part321_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part322_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2; obtain rfl := harg13.eq_unread hfs0; obtain rfl := harg14.eq_unread hfs1; obtain rfl := harg17.eq_unread hfs4; obtain rfl := harg18.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    isplitl [H10]
    · iexists _, _; isplitr; swap; · iexact H10
      ipureintro; rfl
    isplitl [HS0]; · iexact HS0
    isplitl [HS1]; · iexact HS1
    isplitl [HS2]; · iexists _; iexact HS2
    isplitl [HS3]; · iexists _; iexact HS3
    isplitl [HS4]; · iexact HS4
    isplitl [HS5]; · iexact HS5
    isplitl [HS6]
    · iexists _, _; isplitr; swap; · iexact HS6
      ipureintro; rfl
    isplitl [HS7]; · iexists _; iexact HS7
    isplitl [HS8]; · iexists _; iexact HS8
    isplitl [HS9]; · iexists _; iexact HS9
    isplitl [HS10]; · iexists _; iexact HS10
    isplitl [HS11]; · iexists _; iexact HS11
    iexists _; iexact HS12

end Cert.KernelIdeal.Body

end
-- ==== Proof.Ideal.Cases.lean ====
/-
What each of the three cases of the kernel's body leaves in the named outputs and in the scratch that is carried from
point to point.
-/
module

public import proofs.«01_k».proof.Proof.Ideal.RunA
public import proofs.«01_k».proof.Proof.Ideal.RunB
public import proofs.«01_k».proof.Proof.Ideal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 3 tile its block (8 stores of `S1x128x640`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S1x1024x640.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).1 S1x128x640.size (by sl_kernel_rfl) y

/-- What case A leaves in output 3's staging buffer: its pieces read back over junk. -/
def out0_A_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S1x1024x640 .bf16 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).1)

/-- Case A's pieces for output 9 tile its block (5 stores of `S1x1x160x1024`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S1x5x160x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.1 S1x1x160x1024.size (by sl_kernel_rfl) y

/-- What case A leaves in output 9's staging buffer: its pieces read back over junk. -/
def out0_A_9 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S1x5x160x1024 .fp8e4m3 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.1)

/-- Case A's pieces for scratch `arg13`, which the kernel carries between points, cover it: one of them a store of the WHOLE buffer (Lib/Ring.lean `sl_whole_mem`). -/
theorem scover0_A_0 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S5x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.1 (by sl_whole_mem) y

/-- What case A leaves in scratch `arg13`: its pieces read back over junk. -/
def sout0_A_0 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S5x1024x256 .fp8e4m3 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.1)

/-- Case A's pieces for scratch `arg14`, which the kernel carries between points, cover it: one of them a store of the WHOLE buffer (Lib/Ring.lean `sl_whole_mem`). -/
theorem scover0_A_1 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S5x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.1 (by sl_whole_mem) y

/-- What case A leaves in scratch `arg14`: its pieces read back over junk. -/
def sout0_A_1 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S5x1024x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.1)

/-- Case A's pieces for scratch `arg15`, which the kernel carries between points, cover it: 5 pieces of `S1x16x128` tiling it (Lib/Ring.lean `Piece.tiledL`). -/
theorem scover0_A_2 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S5x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.1 S1x16x128.size (by sl_kernel_rfl) y

/-- What case A leaves in scratch `arg15`: its pieces read back over junk. -/
def sout0_A_2 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S5x16x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.1)

/-- Case A's pieces for scratch `arg16`, which the kernel carries between points, cover it: 5 pieces of `S1x160x128` tiling it (Lib/Ring.lean `Piece.tiledL`). -/
theorem scover0_A_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S5x160x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.1 S1x160x128.size (by sl_kernel_rfl) y

/-- What case A leaves in scratch `arg16`: its pieces read back over junk. -/
def sout0_A_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S5x160x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.1)

/-- Case A's pieces for scratch `arg17`, which the kernel carries between points, cover it: one of them a store of the WHOLE buffer (Lib/Ring.lean `sl_whole_mem`). -/
theorem scover0_A_4 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.2.1 (by sl_whole_mem) y

/-- What case A leaves in scratch `arg17`: its pieces read back over junk. -/
def sout0_A_4 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S256x512 .fp8e4m3 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.2.1)

/-- Case A's pieces for scratch `arg18`, which the kernel carries between points, cover it: one of them a store of the WHOLE buffer (Lib/Ring.lean `sl_whole_mem`). -/
theorem scover0_A_5 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) (y : S32x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.2.2.1 (by sl_whole_mem) y

/-- What case A leaves in scratch `arg18`: its pieces read back over junk. -/
def sout0_A_5 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Vec F S32x256 .bf16 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.2.2.1)

/-- Case B's pieces for output 3 tile its block (8 stores of `S1x128x640`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) (y : S1x1024x640.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).1 S1x128x640.size (by sl_kernel_rfl) y

/-- What case B leaves in output 3's staging buffer: its pieces read back over junk. -/
def out0_B_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S1x1024x640 .bf16 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).1)

/-- Case B stores nothing into output 9, a live window: its staging buffer holds what the point before left. -/
def out0_B_9 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S1x5x160x1024 .fp8e4m3 := xo9

/-- Case B stores nothing into scratch `arg13`: it holds what the point before left. -/
def sout0_B_0 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S5x1024x256 .fp8e4m3 := xs0

/-- Case B stores nothing into scratch `arg14`: it holds what the point before left. -/
def sout0_B_1 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S5x1024x256 .bf16 := xs1

/-- Case B stores nothing into scratch `arg15`: it holds what the point before left. -/
def sout0_B_2 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S5x16x128 .f32 := xs2

/-- Case B stores nothing into scratch `arg16`: it holds what the point before left. -/
def sout0_B_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S5x160x128 .f32 := xs3

/-- What case B leaves in scratch `arg17`: its pieces (stores, a counted loop's segment) read back over what the point before left there, which it read first. -/
def sout0_B_4 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S256x512 .fp8e4m3 :=
  arg17.view.read (Elt F) (arg17.view.writes (Elt F) (harg17.unread xs4) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).2.2.2.2.2.2.1)

/-- What case B leaves in scratch `arg18`: its pieces (stores, a counted loop's segment) read back over what the point before left there, which it read first. -/
def sout0_B_5 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Vec F S32x256 .bf16 :=
  arg18.view.read (Elt F) (arg18.view.writes (Elt F) (harg18.unread xs5) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).2.2.2.2.2.2.2.1)

/-- Case C's pieces for output 3 tile its block (8 stores of `S1x128x640`, checked by the kernel's evaluation: Lib/Ring.lean `Piece.tiledL`, linear in the pieces, through a loop's `@[irreducible]` trip theorem too), so they cover it. -/
theorem cover0_C_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) (y : S1x1024x640.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).1 S1x128x640.size (by sl_kernel_rfl) y

/-- What case C leaves in output 3's staging buffer: its pieces read back over junk. -/
def out0_C_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S1x1024x640 .bf16 :=
  VO0_3.read (Elt F) (VO0_3.writes (Elt F) VO0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).1)

/-- Case C's pieces for output 9 tile its block (5 stores of `S1x1x160x1024`, checked by the kernel's evaluation: Lib/Ring.lean `Piece.tiledL`, linear in the pieces, through a loop's `@[irreducible]` trip theorem too), so they cover it. -/
theorem cover0_C_9 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) (y : S1x5x160x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.1 S1x1x160x1024.size (by sl_kernel_rfl) y

/-- What case C leaves in output 9's staging buffer: its pieces read back over junk. -/
def out0_C_9 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S1x5x160x1024 .fp8e4m3 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.1)

/-- What case C leaves in scratch `arg13`: its pieces (stores, a counted loop's segment) read back over what the point before left there, which it read first. -/
def sout0_C_0 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S5x1024x256 .fp8e4m3 :=
  arg13.view.read (Elt F) (arg13.view.writes (Elt F) (harg13.unread xs0) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.1)

/-- What case C leaves in scratch `arg14`: its pieces (stores, a counted loop's segment) read back over what the point before left there, which it read first. -/
def sout0_C_1 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S5x1024x256 .bf16 :=
  arg14.view.read (Elt F) (arg14.view.writes (Elt F) (harg14.unread xs1) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.1)

/-- Case C's pieces for scratch `arg15`, which the kernel carries between points, cover it: 5 pieces of `S1x16x128` tiling it (Lib/Ring.lean `Piece.tiledL`). -/
theorem scover0_C_2 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) (y : S5x16x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.1 S1x16x128.size (by sl_kernel_rfl) y

/-- What case C leaves in scratch `arg15`: its pieces read back over junk. -/
def sout0_C_2 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S5x16x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.1)

/-- Case C's pieces for scratch `arg16`, which the kernel carries between points, cover it: 5 pieces of `S1x160x128` tiling it (Lib/Ring.lean `Piece.tiledL`). -/
theorem scover0_C_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) (y : S5x160x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.1 S1x160x128.size (by sl_kernel_rfl) y

/-- What case C leaves in scratch `arg16`: its pieces read back over junk. -/
def sout0_C_3 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S5x160x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.1)

/-- What case C leaves in scratch `arg17`: its pieces (stores, a counted loop's segment) read back over what the point before left there, which it read first. -/
def sout0_C_4 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S256x512 .fp8e4m3 :=
  arg17.view.read (Elt F) (arg17.view.writes (Elt F) (harg17.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.2.1)

/-- What case C leaves in scratch `arg18`: its pieces (stores, a counted loop's segment) read back over what the point before left there, which it read first. -/
def sout0_C_5 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Vec F S32x256 .bf16 :=
  arg18.view.read (Elt F) (arg18.view.writes (Elt F) (harg18.unread xs5) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.2.2.1)

end Cert.KernelIdeal.Body

end
-- ==== Proof.Ideal.Frame.lean ====
/-
The run of the kernel: what its named outputs and its carried scratch hold after each point, and the frame.
-/
module

public import proofs.«01_k».proof.Proof.Ideal.Cases
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x1024x640 .bf16 × Vec F S1x5x160x1024 .fp8e4m3 × Vec F S5x1024x256 .fp8e4m3 × Vec F S5x1024x256 .bf16 × Vec F S5x16x128 .f32 × Vec F S5x160x128 .f32 × Vec F S256x512 .fp8e4m3 × Vec F S32x256 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩))
  | n + 1, hn =>
    if h0 : (n + 1) % 10 = 0 then
      if h1 : (n + 1) % 5 = 0 then
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩))
      else
        False.elim (by have hN : n + 1 < 10 := lt_of_lt_of_eq hn (show cfg0.N = 10 from N_0); omega)
    else
      if h1 : (n + 1) % 5 = 0 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.1 (outsAt0 c n (Nat.lt_of_succ_lt hn)).2.2.2.2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 10 = 0) (h1 : t.val % 5 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) ((hcond0_1 t).mpr h1) (iblk m c 0 t) (iblk m c 1 t) (iblk m c 2 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 10 = 0) (h1 : ¬t.val % 5 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 10 = 0) (h1 : t.val % 5 = 0) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2.1) ∗ owns (c : Thread nD τ) scM0_5 fullShare ((outsAt0 m c n hn).2.2.2.2.2.2.2) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2.1) ∗ owns (c : Thread nD τ) scM0_5 fullShare ((outsAt0 m c n hn).2.2.2.2.2.2.2) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2.1) ∗ owns (c : Thread nD τ) scM0_4 fullShare ((outsAt0 m c (n - 1) (by omega)).2.2.2.2.2.2.1) ∗ owns (c : Thread nD τ) scM0_5 fullShare ((outsAt0 m c (n - 1) (by omega)).2.2.2.2.2.2.2) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  cases n with
  | zero => exact absurd rfl hz
  | succ n => rfl

/-! ## The pipeline's proof data -/

/-- The output windows this certificate FORGETS (4, 5, 6, 7, 8, 10): nothing reads what the kernel leaves in them, so nothing
    of it is named (Lib/Pipeline/Dat.lean `Dat.toRForget`). -/
def forgets0 : Fin 11 → Bool := fun w => w.val == 4 || w.val == 5 || w.val == 6 || w.val == 7 || w.val == 8 || w.val == 10
theorem forgets0_3 : forgets0 (3 : Fin 11) = false := by decide
theorem forgets0_9 : forgets0 (9 : Fin 11) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, _⟩ => (outsAt0 m c t.val t.isLt).2.1
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 10 := lt_of_lt_of_eq t.isLt (show cfg0.N = 10 from N_0)
  rw [after0_9, after0_9]
  by_cases h0 : t.val % 10 = 0
  · by_cases h1 : t.val % 5 = 0
    · rw [liveAt0_9_A t ((hcond0_0 t).mpr h0) ((hcond0_1 t).mpr h1)] at hi
      exact absurd hi Bool.false_ne_true
    · exfalso; omega
  · by_cases h1 : t.val % 5 = 0
    · rw [liveAt0_9_C t (fun h => h0 ((hcond0_0 t).mp h)) ((hcond0_1 t).mpr h1)] at hi
      exact absurd hi Bool.false_ne_true
    · rw [outsAt0_B m c t h0 h1]; rfl
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 10 = 0) (h1 : ¬t.val % 5 = 0) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h)) (fun h => h1 ((hcond0_1 t).mp h))]; exact Bool.false_ne_true)]
  dsimp only [dats]

/-! ## The body obligation, at a generic point -/

/-- At a point of case B window 9's buffer is left as it was found. -/
theorem leaves0_9_B (c : Dev nD) (t : Fin cfg0.N) (h0 : ¬t.val % 10 = 0) (h1 : ¬t.val % 5 = 0) :
    owns (c : Thread nD τ) (ms0_9 t) fullShare (outsAt0 m c (t.val - 1) (Nat.lt_of_le_of_lt (Nat.sub_le _ _) t.isLt)).2.1 ⊢
      (dats m 0 c).leavesExact 9 t := by
  unfold Dat.leavesExact
  rw [idleAt0_9_B t (fun h => h0 ((hcond0_0 t).mp h)) (fun h => h1 ((hcond0_1 t).mp h))]
  cases hf : (cfg0.win 9).flush t
  · dsimp only
    iintro H
    iexists (outsAt0 m c (t.val - 1) (Nat.lt_of_le_of_lt (Nat.sub_le _ _) t.isLt)).2.1
    rw [before0_9_B m c t h0 h1]
    iexact H
  · dsimp only
    rw [after0_9, outsAt0_B m c t h0 h1]
    unfold out0_B_9
    iintro H
    iexact H

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (dats m 0 c).leavesExact 9 t
    ∗ (∃ d, owns (c : Thread nD τ) (ms0_10 t) fullShare d))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 10 = 0
  · by_cases h1 : t.val % 5 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1)], after0_9]
      by_cases hz : t.val = 0
      · rw [PhiS_castSucc m c t, PhiS_zero m c _ _ hz, PhiA0_eq]
        rw [outsAt0_A m c t h0 h1]
        unfold out0_A_3 out0_A_9 sout0_A_0 sout0_A_1 sout0_A_2 sout0_A_3 sout0_A_4 sout0_A_5; (try dsimp only)
        iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t)).2.2.2.2.2.2.2.2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        iintro ⟨H0, H1, H2, ⟨%e3, H3⟩, H4, H5, H6, H7, H8, ⟨%e9, H9⟩, H10, ⟨%es0, HS0⟩, ⟨%es1, HS1⟩, ⟨%es2, HS2⟩, ⟨%es3, HS3⟩, ⟨%es4, HS4⟩, ⟨%es5, HS5⟩, HS6, ⟨%fT7, HS7⟩, ⟨%fT8, HS8⟩, ⟨%fT9, HS9⟩, ⟨%fT10, HS10⟩, ⟨%fT11, HS11⟩, ⟨%fT12, HS12⟩⟩
        isplitl [HS0 HS1 HS2 HS3 HS4 HS5 HS6 HS7 HS8 HS9 HS10 HS11 HS12 Hg]
        · isplitl [HS0 HS1 HS2 HS3 HS4 HS5 HS6 HS7 HS8 HS9 HS10 HS11 HS12]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _)
            isplitl [HS6]
            · iexact HS6
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            isplitl [HS10]
            · iexists _; unfold owns; iexists _; isplitr
              swap; · iexact HS10
              ipureintro; rfl
            isplitl [HS11]
            · iexists _; unfold owns; iexists _; isplitr
              swap; · iexact HS11
              ipureintro; rfl
            iexists _; unfold owns; iexists _; isplitr
            swap; · iexact HS12
            ipureintro; rfl
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _ _ _ _ _ _ _ _ _ _ _ _ _ _ _ _ _ _ _ _ _ _ _ _ _ _ _ _ _)
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _ _ _)
        iexact H10
      · exfalso; have hN : t.val < 10 := lt_of_lt_of_eq t.isLt (show cfg0.N = 10 from N_0); omega
    · exfalso; omega
  · by_cases h1 : t.val % 5 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      by_cases hz : t.val = 0
      · exfalso; have hN : t.val < 10 := lt_of_lt_of_eq t.isLt (show cfg0.N = 10 from N_0); omega
      · rw [PhiS_castSucc m c t, PhiS_pos m c _ _ hz]
        rw [outsAt0_C m c t h0 h1]
        unfold out0_C_3 out0_C_9 sout0_C_0 sout0_C_1 sout0_C_2 sout0_C_3 sout0_C_4 sout0_C_5; (try dsimp only)
        iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) _ _ _ _).2.2.2.2.2.2.2.2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexists _; iexact HS2
        isplitl [HS3]; · iexists _; iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        iintro ⟨H0, H1, H2, ⟨%e3, H3⟩, H4, H5, H6, H7, H8, ⟨%e9, H9⟩, H10, HS0, HS1, ⟨%es2, HS2⟩, ⟨%es3, HS3⟩, HS4, HS5, HS6, ⟨%fT7, HS7⟩, ⟨%fT8, HS8⟩, ⟨%fT9, HS9⟩, ⟨%fT10, HS10⟩, ⟨%fT11, HS11⟩, ⟨%fT12, HS12⟩⟩
        isplitl [HS0 HS1 HS2 HS3 HS4 HS5 HS6 HS7 HS8 HS9 HS10 HS11 HS12 Hg]
        · isplitl [HS0 HS1 HS2 HS3 HS4 HS5 HS6 HS7 HS8 HS9 HS10 HS11 HS12]
          · isplitl [HS0]
            · unfold owns; iexists _; isplitr
              swap; · iexact HS0
              ipureintro; rfl
            isplitl [HS1]
            · unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; rfl
            isplitl [HS5]
            · unfold owns; iexists _; isplitr
              swap; · iexact HS5
              ipureintro; rfl
            isplitl [HS6]
            · iexact HS6
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            isplitl [HS10]
            · iexists _; unfold owns; iexists _; isplitr
              swap; · iexact HS10
              ipureintro; rfl
            isplitl [HS11]
            · iexists _; unfold owns; iexists _; isplitr
              swap; · iexact HS11
              ipureintro; rfl
            iexists _; unfold owns; iexists _; isplitr
            swap; · iexact HS12
            ipureintro; rfl
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _ _ _ _ _ _ _ _ _ _)
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 10 := lt_of_lt_of_eq t.isLt (show cfg0.N = 10 from N_0); omega
      · rw [PhiS_castSucc m c t, PhiS_pos m c _ _ hz]
        rw [outsAt0_B m c t h0 h1]
        simp only [before0_9_B m c t h0 h1]
        unfold out0_B_3 sout0_B_0 sout0_B_1 sout0_B_2 sout0_B_3 sout0_B_4 sout0_B_5; (try dsimp only)
        iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) _ _ _ _ _ _ _).2.2.2.2.2.2.2.2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        iintro ⟨H0, H1, H2, ⟨%e3, H3⟩, H4, H5, H6, H7, H8, H9, H10, HS0, HS1, HS2, HS3, HS4, HS5, HS6, ⟨%fT7, HS7⟩, ⟨%fT8, HS8⟩, ⟨%fT9, HS9⟩, ⟨%fT10, HS10⟩, ⟨%fT11, HS11⟩, ⟨%fT12, HS12⟩⟩
        isplitl [HS0 HS1 HS2 HS3 HS4 HS5 HS6 HS7 HS8 HS9 HS10 HS11 HS12 Hg]
        · isplitl [HS0 HS1 HS2 HS3 HS4 HS5 HS6 HS7 HS8 HS9 HS10 HS11 HS12]
          · isplitl [HS0]
            · iexact HS0
            isplitl [HS1]
            · iexact HS1
            isplitl [HS2]
            · iexact HS2
            isplitl [HS3]
            · iexact HS3
            isplitl [HS4]
            · unfold owns; iexists _; isplitr
              swap; · iexact HS4
              ipureintro; rfl
            isplitl [HS5]
            · unfold owns; iexists _; isplitr
              swap; · iexact HS5
              ipureintro; rfl
            isplitl [HS6]
            · iexact HS6
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            isplitl [HS10]
            · iexists _; unfold owns; iexists _; isplitr
              swap; · iexact HS10
              ipureintro; rfl
            isplitl [HS11]
            · iexists _; unfold owns; iexists _; isplitr
              swap; · iexact HS11
              ipureintro; rfl
            iexists _; unfold owns; iexists _; isplitr
            swap; · iexact HS12
            ipureintro; rfl
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H4]; · iexact H4
        isplitl [H5]; · iexact H5
        isplitl [H6]; · iexact H6
        isplitl [H7]; · iexact H7
        isplitl [H8]; · iexact H8
        isplitl [H9]; · iapply (leaves0_9_B m c t h0 h1); iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11, HS12⟩, Hg⟩
  isplitl [HS0 HS1 HS2 HS3 HS4 HS5 HS6 HS7 HS8 HS9 HS10 HS11 HS12]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    iexact HS12
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7, 8, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forget m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Body.facts, fun m ρ _ => Cert.KernelIdeal.Body.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.Model.lean ====
/-
What the attention part of the kernel's body stores, written as functions of the query block, the head and the key
block: the unrolled body is these functions at the block numbers in turn.
-/
module

public import proofs.«01_k».proof.Proof.Gen.KernelIdeal.Skeleton

@[expose] public section

noncomputable section

namespace Cert.KernelIdeal.Model

open Cert.KernelIdeal Cert.KernelIdeal.Gen
open Idealize.ShloMosaic Idealize.ShloMosaic.TcCoe

variable {F : FTy → Type} [FloatOps F] [Named F]

/-- A store of a payload into a rectangle. -/
abbrev Pc (F : FTy → Type) [FloatOps F] (s : Shape) (e : EltTy) : Type := View.Piece (Elt F) s e

/-- The group of KV heads a grid point works on, as the kernel computes it. -/
def gi (i : grid0.Coords) : ℕ :=
  let a : BitVec 32 := BitVec.ofNat 32 (i 1).val
  let v : Index := Scalar.indexCast a
  v.toNat

theorem gi_eq : ∀ i : grid0.Coords, gi i = (i 1).val := by decide +kernel

theorem gi_lt (i : grid0.Coords) : gi i < 5 := by rw [gi_eq]; exact (i 1).isLt

theorem leB {a b : ℕ} (h : Nat.ble a b = true) : a ≤ b := Nat.le_of_ble_eq_true h

theorem in3 {d off size : Fin 3 → ℕ} (h0 : off 0 + size 0 ≤ d 0) (h1 : off 1 + size 1 ≤ d 1) (h2 : off 2 + size 2 ≤ d 2) :
    ∀ a, off a + size a ≤ (⟨3, d⟩ : Shape).size a := fun a =>
  match a with | 0 => h0 | 1 => h1 | 2 => h2

theorem in4 {d off size : Fin 4 → ℕ} (h0 : off 0 + size 0 ≤ d 0) (h1 : off 1 + size 1 ≤ d 1) (h2 : off 2 + size 2 ≤ d 2)
    (h3 : off 3 + size 3 ≤ d 3) : ∀ a, off a + size a ≤ (⟨4, d⟩ : Shape).size a := fun a =>
  match a with | 0 => h0 | 1 => h1 | 2 => h2 | 3 => h3

/-- A load of a rectangle of contents. -/
def ldr {s : Shape} {α : Type} (C : s.Idx → α) (r : LoadRect s) : r.shape.Idx → α := fun x => C (r.idx x)

/-! ## The power-of-two scale -/

/-- One step of the search for the exponent field: keep the bit `b` where the float with the field so far and the bit is at most `v`. -/
def bit {s : Shape} (v : FVec F s .f32) (b : BitVec 32) (t : IVec s 32) : IVec s 32 :=
  select (cmpf .oge v (bitcastToFloat .f32 (shli (addi t (broadcast s b)) (broadcast s 23#32)))) (addi t (broadcast s b)) t

/-- The exponent field of `v`. -/
def field {s : Shape} (v : FVec F s .f32) : IVec s 32 :=
  bit v 1#32 (bit v 2#32 (bit v 4#32 (bit v 8#32 (bit v 16#32 (bit v 32#32 (bit v 64#32 (bit v 128#32 (broadcast s 0#32))))))))

/-- The exponent of the scale. -/
def expo {s : Shape} (v : FVec F s .f32) : IVec s 32 :=
  select (cmpi .eq (field v) (broadcast s 0#32)) (broadcast s 0#32) (subi (field v) (broadcast s 126#32))

/-- The scale. -/
def scaleOf {s : Shape} (v : FVec F s .f32) : FVec F s .f32 :=
  bitcastToFloat .f32 (shli (addi (expo v) (broadcast s 127#32)) (broadcast s 23#32))

/-- The inverse of the scale. -/
def invOf {s : Shape} (v : FVec F s .f32) : FVec F s .f32 :=
  bitcastToFloat .f32 (shli (subi (broadcast s 127#32) (expo v)) (broadcast s 23#32))

/-! ## What the attention part reads -/

/-- What the attention part of the body reads, and the views of the scratch it writes and reads back. -/
structure Mem (F : FTy → Type) [FloatOps F] where
  i : grid0.Coords
  C2 : Vec F S1x1024x640 .bf16
  C11 : Vec F S1x5x160x1024 .fp8e4m3
  C13 : Vec F S5x1024x256 .fp8e4m3
  C14 : Vec F S5x1024x256 .bf16
  C15 : Vec F S5x16x128 .f32
  C16 : Vec F S5x160x128 .f32
  Z17 : List (Pc F S256x512 .fp8e4m3)
  Z18 : List (Pc F S32x256 .bf16)
  R17 : List (Pc F S256x512 .fp8e4m3) → Vec F S256x512 .fp8e4m3
  R18 : List (Pc F S32x256 .bf16) → Vec F S32x256 .bf16
  v20 : View sig .tc .vmem S4x8x128 .f32
  v21 : View sig .tc .vmem S4x8x128 .f32
  v22 : View sig .tc .vmem S1024x32 .f32
  v23 : View sig .tc .vmem S1024x512 .f32
  v24 : View sig .tc .vmem S1024x512 .fp8e4m3
  v25 : View sig .tc .vmem S640x128 .bf16

variable (M : Mem F)

/-! ## The means and the largest distances from them -/

/-- The averaging matrix. -/
def avg : FVec F S16x1024 .bf16 := k0_pay130

/-- The means of the eight query blocks. -/
def means : FVec F S8x640 .f32 :=
  k0_pay131 avg (ldr (s := S1x1024x640) M.C2 (Rect.unit (s := S1x1024x640) ![0, 0, 0] S1x1024x640.size (in3 (leB rfl) (leB rfl) (leB rfl))).toLoadRect)

/-- A query block. -/
def xblk (qb : ℕ) (hq : qb < 8) : FVec F S128x640 .bf16 :=
  shapeCast S128x640 (ldr (s := S1x1024x640) M.C2 (Rect.unit (s := S1x1024x640) ![0, 128 * qb, 0] S1x128x640.size
    (in3 (leB rfl) (by change 128 * qb + 128 ≤ 1024; omega) (leB rfl))).toLoadRect) (by decide : S1x128x640.ShapeCasts S128x640)

/-- The largest entry of a query block, column by column. -/
def hi (qb : ℕ) (hq : qb < 8) : FVec F S1x640 .f32 :=
  extf .f32 (shapeCast S1x640 (multiReduction .maximumf [0] S640 (xblk M qb hq) 0xFF80#16)) bitsLt_bf16_f32

/-- The smallest entry of a query block, column by column. -/
def lo (qb : ℕ) (hq : qb < 8) : FVec F S1x640 .f32 :=
  extf .f32 (shapeCast S1x640 (multiReduction .minimumf [0] S640 (xblk M qb hq) 0x7F80#16)) bitsLt_bf16_f32

theorem cat8 : Shape.Concatenates [S1x640, S1x640, S1x640, S1x640, S1x640, S1x640, S1x640, S1x640] S8x640 0 := by decide

/-- The largest distance of a query block's entries from the mean, column by column. -/
def amax : FVec F S8x640 .f32 :=
  maximumf
    (subf (concatenate S8x640 0 [⟨S1x640, hi M 0 (by decide)⟩, ⟨S1x640, hi M 1 (by decide)⟩, ⟨S1x640, hi M 2 (by decide)⟩,
      ⟨S1x640, hi M 3 (by decide)⟩, ⟨S1x640, hi M 4 (by decide)⟩, ⟨S1x640, hi M 5 (by decide)⟩, ⟨S1x640, hi M 6 (by decide)⟩,
      ⟨S1x640, hi M 7 (by decide)⟩] cat8) (means M))
    (subf (means M) (concatenate S8x640 0 [⟨S1x640, lo M 0 (by decide)⟩, ⟨S1x640, lo M 1 (by decide)⟩, ⟨S1x640, lo M 2 (by decide)⟩,
      ⟨S1x640, lo M 3 (by decide)⟩, ⟨S1x640, lo M 4 (by decide)⟩, ⟨S1x640, lo M 5 (by decide)⟩, ⟨S1x640, lo M 6 (by decide)⟩,
      ⟨S1x640, lo M 7 (by decide)⟩] cat8))

/-- What a head's scale is found from. -/
def headMax (h : ℕ) (hh : h < 4) : FVec F S8x128 .f32 :=
  mulf (broadcastTo S8x128 (shapeCast S8x1 (shapeCast S8x1 (multiReduction .maximumf [1] S8
      (extractStridedSlice S8x160 ![0, 160 * h] (amax M) ⟨rfl, by
        intro a; match a with | 0 => exact leB rfl | 1 => change 160 * h + 160 ≤ 640; omega⟩) 0xFF800000#32))))
    (broadcast S8x128 (Scalar.ofBits .f32 0x3B124925#32))

theorem inb_h {h : ℕ} (hh : h < 4) : ∀ a, (![h, 0, 0] : Fin 3 → ℕ) a + S1x8x128.size a ≤ S4x8x128.size a :=
  in3 (by change h + 1 ≤ 4; omega) (leB rfl) (leB rfl)

/-- The store of a head's inverse scales. -/
def invPc (h : ℕ) (hh : h < 4) : Pc F S4x8x128 .f32 :=
  ⟨Rect.unit ![h, 0, 0] S1x8x128.size (inb_h hh), shapeCast S1x8x128 (invOf (headMax M h hh))⟩

/-- The constant by which scores become powers of two. -/
def kap : F .f32 := Named.named κ "sm_log2e" 0x3DE995B3#32

/-- The store of a head's scales times that constant. -/
def qscPc (h : ℕ) (hh : h < 4) : Pc F S4x8x128 .f32 :=
  ⟨Rect.unit ![h, 0, 0] S1x8x128.size (inb_h hh),
    shapeCast S1x8x128 (mulf (scaleOf (headMax M h hh)) (broadcast S8x128 kap))⟩

def L20 : List (Pc F S4x8x128 .f32) :=
  [invPc M 3 (by decide), invPc M 2 (by decide), invPc M 1 (by decide), invPc M 0 (by decide)]

def L21 : List (Pc F S4x8x128 .f32) :=
  [qscPc M 3 (by decide), qscPc M 2 (by decide), qscPc M 1 (by decide), qscPc M 0 (by decide)]

/-- The store of a head's means. -/
def mmPc (h : ℕ) (hh : h < 4) : Pc F S32x256 .bf16 :=
  ⟨Rect.unit ![8 * h, 0] S8x160.size (Rect.inb₂ (by change 8 * h + 8 ≤ 32; omega) (leB rfl)),
    shapeCast S8x160 (truncf .bf16 (extractStridedSlice S8x160 ![0, 160 * h] (means M) ⟨rfl, by
        intro a; match a with | 0 => exact leB rfl | 1 => change 160 * h + 160 ≤ 640; omega⟩) bitsLt_bf16_f32)⟩

def L18 : List (Pc F S32x256 .bf16) :=
  mmPc M 3 (by decide) :: mmPc M 2 (by decide) :: mmPc M 1 (by decide) :: mmPc M 0 (by decide) :: M.Z18

/-- The correction by the means. -/
def corr : FVec F S1024x32 .f32 :=
  shapeCast S1024x32 (mulf (matmul dot_S1024x256_S32x256_S1024x32_1_1_0_0_n_n none
    (shapeCast S1024x256 (ldr (s := S5x1024x256) M.C14 (Rect.unit (s := S5x1024x256) ![gi M.i, 0, 0] S1x1024x256.size
      (in3 (by have := gi_lt M.i; change gi M.i + 1 ≤ 5; omega) (leB rfl) (leB rfl))).toLoadRect) (by decide : S1x1024x256.ShapeCasts S1024x256))
    (M.R18 (L18 M)) (constant S1024x32 .f32 0x00000000#32)) (broadcast S1024x32 kap))

def L22 : List (Pc F S1024x32 .f32) :=
  [⟨Rect.unit ![0, 0] S1024x32.size (Rect.inb₂ (leB rfl) (leB rfl)), corr M⟩]

/-! ## The query codes -/

/-- The matrix that takes the block means away. -/
def centre : FVec F S256x256 .bf16 :=
  have v537 : IVec S256x256 32 := iota .tc S256x256 32 [1] iota_S256x256_d1_w32
  have v571 : IVec S256x256 32 := broadcast S256x256 0#32
  have v580 : IVec S256x256 32 := broadcast S256x256 1#32
  have v581 : IVec S256x256 1 := cmpi .ne (subi k0_pay203 (extui 32 (cmpi .slt v537 v571) natLt_1_32)) v580
  have v585 : IVec S256x256 1 := cmpi .ne (remsi v537 (broadcast S256x256 128#32)) v571
  have v589 : IVec S256x256 32 := select (andi v581 v585) (subi k0_pay202 v580) k0_pay202
  truncf .bf16 (subf k0_pay200 (select (cmpi .eq k0_pay201 v589)
    (broadcast S256x256 (Scalar.ofBits .f32 0x3C000000#32)) (broadcast S256x256 (Scalar.ofBits .f32 0x00000000#32))))
    bitsLt_bf16_f32

/-- A pair of query blocks transposed, with the means taken away. -/
def yOf (pr : ℕ) (hp : pr < 4) : FVec F S640x256 .f32 :=
  matmul dot_S640x256_S256x256_S640x256_1_0_0_1_n_n none
    (transpose S640x256 [1, 0] (shapeCast S256x640 (ldr (s := S1x1024x640) M.C2 (Rect.unit (s := S1x1024x640) ![0, 256 * pr, 0] S1x256x640.size
      (in3 (leB rfl) (by change 256 * pr + 256 ≤ 1024; omega) (leB rfl))).toLoadRect) (by decide : S1x256x640.ShapeCasts S256x640)))
    centre (constant S640x256 .f32 0x00000000#32)

/-- The query codes of a head of a query block. -/
def code (q h : ℕ) (hq : q < 8) (hh : h < 4) : FVec F S160x128 .fp8e4m3 :=
  truncf .fp8e4m3 (minimumf (broadcast S160x128 (Scalar.ofBits .f32 0x43E00000#32))
    (maximumf (broadcast S160x128 (Scalar.ofBits .f32 0xC3E00000#32))
      (mulf (extractStridedSlice S160x128 ![160 * h, 128 * (q % 2)] (yOf M (q / 2) (by omega)) ⟨rfl, by
          intro a; match a with | 0 => change 160 * h + 160 ≤ 640; omega | 1 => change 128 * (q % 2) + 128 ≤ 256; omega⟩)
        (broadcastTo S160x128 (shapeCast S1x128 (M.v20.readCov (L20 M) (Rect.unit (s := S4x8x128) ![h, q, 0] S1x1x128.size
          (in3 (by change h + 1 ≤ 4; omega) (by change q + 1 ≤ 8; omega) (leB rfl))).toLoadRect)
          (by decide : S1x1x128.ShapeCasts S1x128)))))) bitsLt_fp8e4m3_f32

/-- The store of the query codes of a head. -/
def qtPc (q h : ℕ) (hq : q < 8) (hh : h < 4) : Pc F S256x512 .fp8e4m3 :=
  ⟨Rect.unit ![0, 128 * h] S160x128.size (Rect.inb₂ (leB rfl) (by change 128 * h + 128 ≤ 512; omega)),
    shapeCast S160x128 (code M q h hq hh)⟩

/-- The stores of the query codes before the query block `q`. -/
def L17 : (q : ℕ) → q ≤ 8 → List (Pc F S256x512 .fp8e4m3)
  | 0, _ => M.Z17
  | q + 1, hq => qtPc M q 3 hq (by decide) :: qtPc M q 2 hq (by decide) :: qtPc M q 1 hq (by decide) ::
      qtPc M q 0 hq (by decide) :: L17 q (by omega)

/-! ## One query block -/

section Block

/-- A query block: its number, how many key blocks it sees, how many keys, and the products of those keys with its codes. -/
structure Blk (F : FTy → Type) [FloatOps F] where
  qb : ℕ
  K : ℕ
  n : ℕ
  hq : qb < 8
  hn : n = 64 * K
  hk : n ≤ 1024
  raw : Vec F ⟨2, ![n, 512]⟩ .f32

variable (B : Blk F)

theorem inb_kb {K n kb : ℕ} (hn : n = 64 * K) (hk : n ≤ 1024) (hb : kb < K) : 64 * kb + 64 ≤ 1024 := by omega
theorem inb_kn {K n kb : ℕ} (hn : n = 64 * K) (hb : kb < K) : 64 * kb + 64 ≤ n := by omega
theorem lt16 {K n kb : ℕ} (hn : n = 64 * K) (hk : n ≤ 1024) (hb : kb < K) : kb < 16 := by omega

/-- The row numbers of a block of keys. -/
def keyI : IVec S64x128 32 := iota .tc S64x128 32 [0] iota_S64x128_d0_w32
/-- The column numbers of a block of queries. -/
def qI : IVec S64x128 32 := iota .tc S64x128 32 [1] iota_S64x128_d1_w32

/-- The product of the scales of a block of keys and of a block of queries. -/
def cOf (h : ℕ) (hh : h < 4) (kb : ℕ) (hb : kb < 16) : FVec F S1x128 .f32 :=
  mulf (shapeCast S1x128 (ldr (s := S5x16x128) M.C15 (Rect.unit (s := S5x16x128) ![gi M.i, kb, 0] S1x1x128.size
      (in3 (by have := gi_lt M.i; change gi M.i + 1 ≤ 5; omega) (by change kb + 1 ≤ 16; omega) (leB rfl))).toLoadRect) (by decide : S1x1x128.ShapeCasts S1x128))
    (shapeCast S1x128 (M.v21.readCov (L21 M) (Rect.unit (s := S4x8x128) ![h, B.qb, 0] S1x1x128.size
      (in3 (by change h + 1 ≤ 4; omega) (by have := B.hq; change B.qb + 1 ≤ 8; omega) (leB rfl))).toLoadRect) (by decide : S1x1x128.ShapeCasts S1x128))

/-- The scores of a block of keys before the mask. -/
def sFree (h : ℕ) (hh : h < 4) (kb : ℕ) (hb : kb < B.K) : FVec F S64x128 .f32 :=
  addf
    (mulf (extractStridedSlice S64x128 ![64 * kb, 128 * h] B.raw ⟨rfl, by
        intro a; match a with | 0 => exact inb_kn B.hn hb | 1 => change 128 * h + 128 ≤ 512; omega⟩)
      (broadcastTo S64x128 (cOf M B h hh kb (lt16 B.hn B.hk hb))))
    (broadcastTo S64x128 (shapeCast S64x1 (M.v22.readCov (L22 M) (Rect.unit (s := S1024x32) ![64 * kb, 8 * h + B.qb] S64x1.size
      (Rect.inb₂ (inb_kb B.hn B.hk hb) (by have := B.hq; change 8 * h + B.qb + 1 ≤ 32; omega))).toLoadRect) (by decide : S64x1.ShapeCasts S64x1)))

/-- The scores of a block of keys. -/
def sBlk (h : ℕ) (hh : h < 4) (kb : ℕ) (hb : kb < B.K) : FVec F S64x128 .f32 :=
  bif Nat.ble (2 * B.qb) kb then
    select (cmpi .sle (addi keyI (broadcast S64x128 (BitVec.ofNat 32 (64 * kb - 128 * B.qb)))) qI)
      (sFree M B h hh kb hb) (broadcast S64x128 (Scalar.ofBits .f32 0xFF800000#32))
  else sFree M B h hh kb hb

theorem inb_s {kb h : ℕ} (hb : 64 * kb + 64 ≤ 1024) (hh : h < 4) :
    ∀ a, (![64 * kb, 128 * h] : Fin 2 → ℕ) a + S64x128.size a ≤ S1024x512.size a :=
  Rect.inb₂ hb (by change 128 * h + 128 ≤ 512; omega)

/-- The stores of a head's scores, over the earlier ones. -/
def sL (h : ℕ) (hh : h < 4) (L : List (Pc F S1024x512 .f32)) : (k : ℕ) → k ≤ B.K → List (Pc F S1024x512 .f32)
  | 0, _ => L
  | k + 1, hb => ⟨Rect.unit ![64 * k, 128 * h] S64x128.size (inb_s (inb_kb B.hn B.hk hb) hh),
      shapeCast S64x128 (sBlk M B h hh k hb)⟩ :: sL h hh L k (by omega)

/-- The running maximum of a head's scores. -/
def m8 (h : ℕ) (hh : h < 4) : (k : ℕ) → k ≤ B.K → FVec F S8x128 .f32
  | 0, _ => broadcast S8x128 (Scalar.ofBits .f32 0xFF800000#32)
  | k + 1, hb => maximumf (m8 h hh k (by omega))
      (multiReduction .maximumf [0] S8x128 (shapeCast S8x8x128 (sBlk M B h hh k hb)) 0xFF800000#32)

/-- The shift of a head's scores. -/
def shift (h : ℕ) (hh : h < 4) : FVec F S1x128 .f32 :=
  subf (shapeCast S1x128 (multiReduction .maximumf [0] S128 (m8 M B h hh B.K (Nat.le_refl B.K)) 0xFF800000#32))
    (broadcast S1x128 (Scalar.ofBits .f32 0x41000000#32))

/-- The shifted powers of two, read from the scores stored over `L`. -/
def pExp (h : ℕ) (hh : h < 4) (L : List (Pc F S1024x512 .f32)) (kb : ℕ) (hb : kb < B.K) : FVec F S64x128 .f32 :=
  exp2 (subf (M.v23.readCov (sL M B h hh L B.K (Nat.le_refl B.K))
      (Rect.unit (s := S1024x512) ![64 * kb, 128 * h] S64x128.size (inb_s (inb_kb B.hn B.hk hb) hh)).toLoadRect)
    (broadcastTo S64x128 (shift M B h hh)))

/-- The running sum of the shifted powers. -/
def l8 (h : ℕ) (hh : h < 4) (L : List (Pc F S1024x512 .f32)) : (k : ℕ) → k ≤ B.K → FVec F S8x128 .f32
  | 0, _ => broadcast S8x128 (Scalar.ofBits .f32 0x00000000#32)
  | k + 1, hb => addf (l8 h hh L k (by omega))
      (multiReduction .add [0] S8x128 (shapeCast S8x8x128 (pExp M B h hh L k hb)) 0x00000000#32)

/-- The codes of the shifted powers. -/
def pCode (h : ℕ) (hh : h < 4) (L : List (Pc F S1024x512 .f32)) (kb : ℕ) (hb : kb < B.K) : FVec F S64x128 .fp8e4m3 :=
  truncf .fp8e4m3 (minimumf (broadcast S64x128 (Scalar.ofBits .f32 0x43E00000#32))
    (maximumf (broadcast S64x128 (Scalar.ofBits .f32 0xC3E00000#32)) (pExp M B h hh L kb hb))) bitsLt_fp8e4m3_f32

/-- The stores of the codes of a head, over the earlier ones. -/
def pL (h : ℕ) (hh : h < 4) (L : List (Pc F S1024x512 .f32)) (L' : List (Pc F S1024x512 .fp8e4m3)) :
    (k : ℕ) → k ≤ B.K → List (Pc F S1024x512 .fp8e4m3)
  | 0, _ => L'
  | k + 1, hb => ⟨Rect.unit ![64 * k, 128 * h] S64x128.size (inb_s (inb_kb B.hn B.hk hb) hh),
      shapeCast S64x128 (pCode M B h hh L k hb)⟩ :: pL h hh L L' k (by omega)

/-- One over the sum of a head's shifted powers. -/
def invL (h : ℕ) (hh : h < 4) (L : List (Pc F S1024x512 .f32)) : FVec F S1x128 .f32 :=
  divf (broadcast S1x128 (Scalar.ofBits .f32 0x3F800000#32))
    (shapeCast S1x128 (multiReduction .add [0] S128 (l8 M B h hh L B.K (Nat.le_refl B.K)) 0x00000000#32))

/-- The scores' stores before the head `h` of a block. -/
def sH (L : List (Pc F S1024x512 .f32)) : (h : ℕ) → h ≤ 4 → List (Pc F S1024x512 .f32)
  | 0, _ => L
  | h + 1, hh => sL M B h hh (sH L h (by omega)) B.K (Nat.le_refl B.K)

/-- The codes' stores before the head `h` of a block. -/
def pH (L : List (Pc F S1024x512 .f32)) (L' : List (Pc F S1024x512 .fp8e4m3)) : (h : ℕ) → h ≤ 4 → List (Pc F S1024x512 .fp8e4m3)
  | 0, _ => L'
  | h + 1, hh => pL M B h hh (sH M B L h (by omega)) (pH L L' h (by omega)) B.K (Nat.le_refl B.K)

end Block

/-- The weighted values of a head, scaled. -/
def oBlk (o : Vec F S160x512 .f32) (il : FVec F S1x128 .f32) (h : ℕ) (hh : h < 4) : FVec F S160x128 .bf16 :=
  truncf .bf16 (mulf (mulf (extractStridedSlice S160x128 ![0, 128 * h] o ⟨rfl, by
          intro a; match a with | 0 => exact leB rfl | 1 => change 128 * h + 128 ≤ 512; omega⟩)
      (shapeCast S160x128 (ldr (s := S5x160x128) M.C16 (Rect.unit (s := S5x160x128) ![gi M.i, 0, 0] S1x160x128.size
        (in3 (by have := gi_lt M.i; change gi M.i + 1 ≤ 5; omega) (leB rfl) (leB rfl))).toLoadRect) (by decide : S1x160x128.ShapeCasts S160x128)))
    (broadcastTo S160x128 il)) bitsLt_bf16_f32

/-- The store of them. -/
def oPc (o : Vec F S160x512 .f32) (il : FVec F S1x128 .f32) (h : ℕ) (hh : h < 4) : Pc F S640x128 .bf16 :=
  ⟨Rect.unit ![160 * h, 0] S160x128.size (Rect.inb₂ (by change 160 * h + 160 ≤ 640; omega) (leB rfl)),
    shapeCast S160x128 (oBlk M o il h hh)⟩

theorem castK (n : ℕ) : (⟨3, ![1, n, 256]⟩ : Shape).ShapeCasts ⟨2, ![n, 256]⟩ := by
  simp [Shape.ShapeCasts, Shape.numel, Fin.prod_univ_succ]

theorem castV (n : ℕ) : (⟨4, ![1, 1, 160, n]⟩ : Shape).ShapeCasts ⟨2, ![160, n]⟩ := by
  simp [Shape.ShapeCasts, Shape.numel, Fin.prod_univ_succ]

/-- The keys of a query block times its query codes. -/
def rawOf (n : ℕ) (hk : n ≤ 1024) (L : List (Pc F S256x512 .fp8e4m3)) : Vec F ⟨2, ![n, 512]⟩ .f32 :=
  matmul (φ₁ := .fp8e4m3) (φ₂ := .fp8e4m3) (DotDims.plain n 256 512) none
    (shapeCast ⟨2, ![n, 256]⟩ (ldr (s := S5x1024x256) M.C13 (Rect.unit (s := S5x1024x256) ![gi M.i, 0, 0] ![1, n, 256]
      (in3 (by have := gi_lt M.i; change gi M.i + 1 ≤ 5; omega) (by change 0 + n ≤ 1024; omega) (leB rfl))).toLoadRect)
      (castK n))
    (M.R17 L) (constant ⟨2, ![n, 512]⟩ .f32 0x00000000#32)

/-- The values of the keys of a query block times the codes of the shifted powers. -/
def oOf (n : ℕ) (hk : n ≤ 1024) (L : List (Pc F S1024x512 .fp8e4m3)) : Vec F S160x512 .f32 :=
  matmul (φ₁ := .fp8e4m3) (φ₂ := .fp8e4m3) (DotDims.plain 160 n 512) none
    (shapeCast ⟨2, ![160, n]⟩ (ldr (s := S1x5x160x1024) M.C11 (Rect.unit (s := S1x5x160x1024) ![0, gi M.i, 0, 0] ![1, 1, 160, n]
      (in4 (leB rfl) (by have := gi_lt M.i; change gi M.i + 1 ≤ 5; omega) (leB rfl) (by change 0 + n ≤ 1024; omega))).toLoadRect)
      (castV n))
    (M.v24.readCov L (Rect.unit (s := S1024x512) ![0, 0] ![n, 512] (Rect.inb₂ (by change 0 + n ≤ 1024; omega) (leB rfl))).toLoadRect)
    (constant S160x512 .f32 0x00000000#32)

/-! ## The query blocks in turn -/

/-- The query block `q`. -/
def blk (q : ℕ) (hq : q < 8) : Blk F where
  qb := q
  K := 2 * (q + 1)
  n := 128 * (q + 1)
  hq := hq
  hn := by omega
  hk := by omega
  raw := rawOf M (128 * (q + 1)) (by omega) (L17 M (q + 1) hq)

/-- The stores of the scores before the query block `q`. -/
def L23 : (q : ℕ) → q ≤ 8 → List (Pc F S1024x512 .f32)
  | 0, _ => []
  | q + 1, hq => sH M (blk M q hq) (L23 q (by omega)) 4 (Nat.le_refl 4)

/-- The stores of the codes of the shifted powers before the query block `q`. -/
def L24 : (q : ℕ) → q ≤ 8 → List (Pc F S1024x512 .fp8e4m3)
  | 0, _ => []
  | q + 1, hq => pH M (blk M q hq) (L23 M q (by omega)) (L24 q (by omega)) 4 (Nat.le_refl 4)

/-- The store of the weighted values of a head of the query block `q`. -/
def oPcq (q : ℕ) (hq : q < 8) (h : ℕ) (hh : h < 4) : Pc F S640x128 .bf16 :=
  oPc M (oOf M (128 * (q + 1)) (by omega) (L24 M (q + 1) hq))
    (invL M (blk M q hq) h hh (sH M (blk M q hq) (L23 M q (by omega)) h (by omega))) h hh

/-- The stores of the weighted values before the query block `q`. -/
def L25 : (q : ℕ) → q ≤ 8 → List (Pc F S640x128 .bf16)
  | 0, _ => []
  | q + 1, hq => oPcq M q hq 3 (by decide) :: oPcq M q hq 2 (by decide) :: oPcq M q hq 1 (by decide) ::
      oPcq M q hq 0 (by decide) :: L25 q (by omega)

/-- The store of a query block's result. -/
def outPc (q : ℕ) (hq : q < 8) : Pc F S1x1024x640 .bf16 :=
  ⟨Rect.unit ![0, 128 * q, 0] S1x128x640.size (in3 (leB rfl) (by change 128 * q + 128 ≤ 1024; omega) (leB rfl)),
    shapeCast S1x128x640 (transpose S128x640 [1, 0]
      (M.v25.readCov (L25 M (q + 1) hq) (Rect.unit (s := S640x128) ![0, 0] S640x128.size (Rect.inb₂ (leB rfl) (leB rfl))).toLoadRect)
      (by decide : S640x128.Transposes [1, 0] S128x640))⟩

/-- The stores of the results. -/
def outL : (q : ℕ) → q ≤ 8 → List (Pc F S1x1024x640 .bf16)
  | 0, _ => []
  | q + 1, hq => outPc M q hq :: outL q (by omega)

end Cert.KernelIdeal.Model

end
-- ==== Proof.Ideal.BridgeA.lean ====
/-
The stores of the kernel's result in case A are the model's.
-/
module

public import proofs.«01_k».proof.Proof.Ideal.RunA
public import proofs.«01_k».proof.Proof.Model

@[expose] public section

set_option maxRecDepth 16384

noncomputable section

namespace Cert.KernelIdeal.Body

open Cert.KernelIdeal.Gen Cert.KernelIdeal.Model
open Idealize.ShloMosaic Idealize.ShloMosaic.TcCoe Idealize.ShloMosaic.Tactic

variable {F : FTy → Type} [FloatOps F] [Named F]

/-- What the attention part reads in case A. -/
def memA (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) : Mem F where
  i := i
  C2 := arg2.view.read (Elt F) (harg2.unread x0)
  C11 := arg11.view.read (Elt F) (arg11.view.writes (Elt F) arg11.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.1)
  C13 := arg13.view.read (Elt F) (arg13.view.writes (Elt F) arg13.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.1)
  C14 := arg14.view.read (Elt F) (arg14.view.writes (Elt F) arg14.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.1)
  C15 := arg15.view.read (Elt F) (arg15.view.writes (Elt F) arg15.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.1)
  C16 := arg16.view.read (Elt F) (arg16.view.writes (Elt F) arg16.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.1)
  Z17 := [⟨Rect.unit ![0, 0] S256x512.size (Rect.inb₂ (leB rfl) (leB rfl)), broadcast S256x512 (Scalar.ofBits .fp8e4m3 0x00#8)⟩]
  Z18 := [⟨Rect.unit ![0, 0] S32x256.size (Rect.inb₂ (leB rfl) (leB rfl)), broadcast S32x256 (Scalar.ofBits .bf16 0x0000#16)⟩]
  R17 := fun L => arg17.view.readCov L (Rect.unit (s := S256x512) ![0, 0] S256x512.size (Rect.inb₂ (leB rfl) (leB rfl))).toLoadRect
  R18 := fun L => arg18.view.readCov L (Rect.unit (s := S32x256) ![0, 0] S32x256.size (Rect.inb₂ (leB rfl) (leB rfl))).toLoadRect
  v20 := arg20.view
  v21 := arg21.view
  v22 := arg22.view
  v23 := arg23.view
  v24 := arg24.view
  v25 := arg25.view

set_option maxHeartbeats 4000000 in
theorem run_A_out (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).1 = outL (memA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2) 8 (Nat.le_refl 8) := by
  sl_kernel_rfl

end Cert.KernelIdeal.Body

end
-- ==== Proof.Ideal.BridgeB.lean ====
/-
The stores of the kernel's result in case B are the model's.
-/
module

public import proofs.«01_k».proof.Proof.Ideal.RunB
public import proofs.«01_k».proof.Proof.Model

@[expose] public section

set_option maxRecDepth 16384

noncomputable section

namespace Cert.KernelIdeal.Body

open Cert.KernelIdeal.Gen Cert.KernelIdeal.Model
open Idealize.ShloMosaic Idealize.ShloMosaic.TcCoe Idealize.ShloMosaic.Tactic

variable {F : FTy → Type} [FloatOps F] [Named F]

/-- What the attention part reads in case B. -/
def memB (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) : Mem F where
  i := i
  C2 := arg2.view.read (Elt F) (harg2.unread x0)
  C11 := arg11.view.read (Elt F) (harg11.unread xo9)
  C13 := arg13.view.read (Elt F) (harg13.unread xs0)
  C14 := arg14.view.read (Elt F) (harg14.unread xs1)
  C15 := arg15.view.read (Elt F) (harg15.unread xs2)
  C16 := arg16.view.read (Elt F) (harg16.unread xs3)
  Z17 := []
  Z18 := []
  R17 := fun L => View.readAt (Elt F) arg17.view (Rect.unit (s := S256x512) ![0, 0] S256x512.size (Rect.inb₂ (leB rfl) (leB rfl))).toLoadRect (arg17.view.writes (Elt F) (harg17.unread xs4) L)
  R18 := fun L => View.readAt (Elt F) arg18.view (Rect.unit (s := S32x256) ![0, 0] S32x256.size (Rect.inb₂ (leB rfl) (leB rfl))).toLoadRect (arg18.view.writes (Elt F) (harg18.unread xs5) L)
  v20 := arg20.view
  v21 := arg21.view
  v22 := arg22.view
  v23 := arg23.view
  v24 := arg24.view
  v25 := arg25.view

set_option maxHeartbeats 4000000 in
theorem run_B_out (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec F S1x1024x640 .bf16) (x1 : Vec F S1x1024x800 .bf16) (x2 : Vec F S1x1024x800 .bf16) (xo9 : Vec F S1x5x160x1024 .fp8e4m3) (xs0 : Vec F S5x1024x256 .fp8e4m3) (xs1 : Vec F S5x1024x256 .bf16) (xs2 : Vec F S5x16x128 .f32) (xs3 : Vec F S5x160x128 .f32) (xs4 : Vec F S256x512 .fp8e4m3) (xs5 : Vec F S32x256 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).1 = outL (memB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5) 8 (Nat.le_refl 8) := by
  sl_kernel_rfl

end Cert.KernelIdeal.Body

end
-- ==== Proof.Ideal.BridgeC.lean ====
/-
The stores of the kernel's result in case C are the model's.
-/
module

public import proofs.«01_k».proof.Proof.Ideal.RunC
public import proofs.«01_k».proof.Proof.Model

@[expose] public section

set_option maxRecDepth 16384

noncomputable section

namespace Cert.KernelIdeal.Body

open Cert.KernelIdeal.Gen Cert.KernelIdeal.Model
open Idealize.ShloMosaic Idealize.ShloMosaic.TcCoe Idealize.ShloMosaic.Tactic

variable {F : FTy → Type} [FloatOps F] [Named F]

/-- What the attention part reads in case C. -/
def memC (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) : Mem F where
  i := i
  C2 := arg2.view.read (Elt F) (harg2.unread x0)
  C11 := arg11.view.read (Elt F) (arg11.view.writes (Elt F) arg11.view.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.1)
  C13 := arg13.view.read (Elt F) (arg13.view.writes (Elt F) (harg13.unread xs0) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.1)
  C14 := arg14.view.read (Elt F) (arg14.view.writes (Elt F) (harg14.unread xs1) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.1)
  C15 := arg15.view.read (Elt F) (arg15.view.writes (Elt F) arg15.view.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.1)
  C16 := arg16.view.read (Elt F) (arg16.view.writes (Elt F) arg16.view.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.1)
  Z17 := []
  Z18 := []
  R17 := fun L => View.readAt (Elt F) arg17.view (Rect.unit (s := S256x512) ![0, 0] S256x512.size (Rect.inb₂ (leB rfl) (leB rfl))).toLoadRect (arg17.view.writes (Elt F) (harg17.unread xs4) L)
  R18 := fun L => View.readAt (Elt F) arg18.view (Rect.unit (s := S32x256) ![0, 0] S32x256.size (Rect.inb₂ (leB rfl) (leB rfl))).toLoadRect (arg18.view.writes (Elt F) (harg18.unread xs5) L)
  v20 := arg20.view
  v21 := arg21.view
  v22 := arg22.view
  v23 := arg23.view
  v24 := arg24.view
  v25 := arg25.view

set_option maxHeartbeats 4000000 in
theorem run_C_out (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).1 = outL (memC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5) 8 (Nat.le_refl 8) := by
  sl_kernel_rfl

end Cert.KernelIdeal.Body

end
-- ==== Proof.Prep.lean ====
/-
What the quantisation of the keys and the values stores, written as functions of the group of heads.
-/
module

public import proofs.«01_k».proof.Proof.Model

@[expose] public section

noncomputable section

namespace Cert.KernelIdeal.Model

open Cert.KernelIdeal Cert.KernelIdeal.Gen
open Idealize.ShloMosaic Idealize.ShloMosaic.TcCoe

variable {F : FTy → Type} [FloatOps F] [Named F]

theorem colsIn {g : ℕ} (hg : g < 5) : ∀ a, (![0, 0, 160 * g] : Fin 3 → ℕ) a + S1x1024x160.size a ≤ S1x1024x800.size a :=
  in3 (leB rfl) (leB rfl) (by change 160 * g + 160 ≤ 800; omega)

/-- The columns of a group. -/
def cols (C : Vec F S1x1024x800 .bf16) (g : ℕ) (hg : g < 5) : FVec F S1024x160 .bf16 :=
  shapeCast S1024x160 (ldr (s := S1x1024x800) C (Rect.unit (s := S1x1024x800) ![0, 0, 160 * g] S1x1024x160.size (colsIn hg)).toLoadRect)
    (by decide : S1x1024x160.ShapeCasts S1024x160)

/-- The keys of a group less their mean. -/
def kS (f : FVec F S1024x160 .f32) : FVec F S1024x160 .f32 :=
  subf f (broadcastTo S1024x160 (mulf (shapeCast S1x160 (multiReduction .add [0] S160 f 0x00000000#32))
    (broadcast S1x160 (Scalar.ofBits .f32 0x3A800000#32))))

/-- What the scales of a group's blocks of keys are found from. -/
def kAmax (f : FVec F S1024x160 .f32) : FVec F S16x128 .f32 :=
  mulf (broadcastTo S16x128 (shapeCast S16x1 (shapeCast S16x1 (multiReduction .maximumf [1] S16
      (multiReduction .maximumf [1] S16x160 (shapeCast S16x64x160 (absf f)) 0xFF800000#32) 0xFF800000#32))))
    (broadcast S16x128 (Scalar.ofBits .f32 0x3B124925#32))

/-- The codes of a group's keys. -/
def kCode (f : FVec F S1024x160 .f32) (inv : FVec F S16x128 .f32) : FVec F S1024x160 .fp8e4m3 :=
  truncf .fp8e4m3 (minimumf (broadcast S1024x160 (Scalar.ofBits .f32 0x43E00000#32))
    (maximumf (broadcast S1024x160 (Scalar.ofBits .f32 0xC3E00000#32))
      (mulf f (shapeCast S1024x160 (broadcastTo S16x64x160 (shapeCast S16x1x1 (shapeCast S16x1x1 (extractStridedSlice S16x1 ![0, 0] inv)))))))) bitsLt_fp8e4m3_f32

/-- The keys of a group less their mean, from the block. -/
def kSg (C : Vec F S1x1024x800 .bf16) (g : ℕ) (hg : g < 5) : FVec F S1024x160 .f32 := kS (extf .f32 (cols C g hg) bitsLt_bf16_f32)

theorem inb_g {g : ℕ} (hg : g < 5) : ∀ a, (![g, 0, 0] : Fin 3 → ℕ) a + S1x1024x160.size a ≤ S5x1024x256.size a :=
  in3 (by change g + 1 ≤ 5; omega) (leB rfl) (leB rfl)

def pc13 (C : Vec F S1x1024x800 .bf16) (g : ℕ) (hg : g < 5) : Pc F S5x1024x256 .fp8e4m3 :=
  ⟨Rect.unit ![g, 0, 0] S1x1024x160.size (inb_g hg), shapeCast S1x1024x160 (kCode (kSg C g hg) (invOf (kAmax (kSg C g hg))))⟩

def pc14 (C : Vec F S1x1024x800 .bf16) (g : ℕ) (hg : g < 5) : Pc F S5x1024x256 .bf16 :=
  ⟨Rect.unit ![g, 0, 0] S1x1024x160.size (inb_g hg), shapeCast S1x1024x160 (truncf .bf16 (kSg C g hg) bitsLt_bf16_f32)⟩

def pc15 (C : Vec F S1x1024x800 .bf16) (g : ℕ) (hg : g < 5) : Pc F S5x16x128 .f32 :=
  ⟨Rect.unit ![g, 0, 0] S1x16x128.size (in3 (by change g + 1 ≤ 5; omega) (leB rfl) (leB rfl)), shapeCast S1x16x128 (scaleOf (kAmax (kSg C g hg)))⟩

/-- What the scales of a group's columns of values are found from. -/
def vAmax (v : FVec F S1024x160 .bf16) : FVec F S1x160 .f32 :=
  mulf (extf .f32 (shapeCast S1x160 (multiReduction .maximumf [0] S160 (absf v) 0xFF80#16)) bitsLt_bf16_f32)
    (broadcast S1x160 (Scalar.ofBits .f32 0x3B124925#32))

/-- The codes of a group's values. -/
def vCode (v : FVec F S1024x160 .bf16) (inv : FVec F S1x160 .f32) : FVec F S160x1024 .fp8e4m3 :=
  truncf .fp8e4m3 (minimumf (broadcast S160x1024 (Scalar.truncf .bf16 bitsLt_bf16_f32 (Scalar.ofBits .f32 0x43E00000#32)))
    (maximumf (broadcast S160x1024 (Scalar.truncf .bf16 bitsLt_bf16_f32 (Scalar.ofBits .f32 0xC3E00000#32)))
      (transpose S160x1024 [1, 0] (mulf v (broadcastTo S1024x160 (truncf .bf16 inv bitsLt_bf16_f32)))))) bitsLt_fp8e4m3_bf16

def pc16 (C : Vec F S1x1024x800 .bf16) (g : ℕ) (hg : g < 5) : Pc F S5x160x128 .f32 :=
  ⟨Rect.unit ![g, 0, 0] S1x160x128.size (in3 (by change g + 1 ≤ 5; omega) (leB rfl) (leB rfl)),
    shapeCast S1x160x128 (transpose S160x128 [1, 0] (broadcastTo S128x160 (shapeCast S1x160 (scaleOf (vAmax (cols C g hg))))))⟩

def pc11 (C : Vec F S1x1024x800 .bf16) (g : ℕ) (hg : g < 5) : Pc F S1x5x160x1024 .fp8e4m3 :=
  ⟨Rect.unit ![0, g, 0, 0] S1x1x160x1024.size (in4 (leB rfl) (by change g + 1 ≤ 5; omega) (leB rfl) (leB rfl)),
    shapeCast S1x1x160x1024 (vCode (cols C g hg) (invOf (vAmax (cols C g hg))))⟩

/-- The stores of the groups before the group `n`, over the earlier ones. -/
def grp {s : Shape} {e : EltTy} (pc : (g : ℕ) → g < 5 → Pc F s e) (Z : List (Pc F s e)) : (n : ℕ) → n ≤ 5 → List (Pc F s e)
  | 0, _ => Z
  | n + 1, h => pc n h :: grp pc Z n (by omega)

end Cert.KernelIdeal.Model

end
-- ==== Proof.Ideal.BridgePA.lean ====
/-
The stores of the quantisation of the keys and the values in case A are the model's.
-/
module

public import proofs.«01_k».proof.Proof.Ideal.RunA
public import proofs.«01_k».proof.Proof.Prep

@[expose] public section

set_option maxRecDepth 16384

noncomputable section

namespace Cert.KernelIdeal.Body

open Cert.KernelIdeal.Gen Cert.KernelIdeal.Model
open Idealize.ShloMosaic Idealize.ShloMosaic.TcCoe Idealize.ShloMosaic.Tactic

variable {F : FTy → Type} [FloatOps F] [Named F]

set_option maxHeartbeats 4000000 in
theorem run_A_11 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.1 = grp (pc11 (arg4.view.read (Elt F) (harg4.unread x2))) [] 5 (Nat.le_refl 5) := by
  sl_kernel_rfl

set_option maxHeartbeats 4000000 in
theorem run_A_13 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.1 = grp (pc13 (arg3.view.read (Elt F) (harg3.unread x1))) [⟨Rect.unit ![0, 0, 0] S5x1024x256.size (in3 (leB rfl) (leB rfl) (leB rfl)), broadcast S5x1024x256 (Scalar.ofBits .fp8e4m3 0x00#8)⟩] 5 (Nat.le_refl 5) := by
  sl_kernel_rfl

set_option maxHeartbeats 4000000 in
theorem run_A_14 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.1 = grp (pc14 (arg3.view.read (Elt F) (harg3.unread x1))) [⟨Rect.unit ![0, 0, 0] S5x1024x256.size (in3 (leB rfl) (leB rfl) (leB rfl)), broadcast S5x1024x256 (Scalar.ofBits .bf16 0x0000#16)⟩] 5 (Nat.le_refl 5) := by
  sl_kernel_rfl

set_option maxHeartbeats 4000000 in
theorem run_A_15 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.1 = grp (pc15 (arg3.view.read (Elt F) (harg3.unread x1))) [] 5 (Nat.le_refl 5) := by
  sl_kernel_rfl

set_option maxHeartbeats 4000000 in
theorem run_A_16 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec F S1x1024x640 .bf16) (x1 : Vec F S1x1024x800 .bf16) (x2 : Vec F S1x1024x800 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.1 = grp (pc16 (arg4.view.read (Elt F) (harg4.unread x2))) [] 5 (Nat.le_refl 5) := by
  sl_kernel_rfl

end Cert.KernelIdeal.Body

end
-- ==== Proof.Ideal.BridgePC.lean ====
/-
The stores of the quantisation of the keys and the values in case C are the model's.
-/
module

public import proofs.«01_k».proof.Proof.Ideal.RunC
public import proofs.«01_k».proof.Proof.Prep

@[expose] public section

set_option maxRecDepth 16384

noncomputable section

namespace Cert.KernelIdeal.Body

open Cert.KernelIdeal.Gen Cert.KernelIdeal.Model
open Idealize.ShloMosaic Idealize.ShloMosaic.TcCoe Idealize.ShloMosaic.Tactic

variable {F : FTy → Type} [FloatOps F] [Named F]

set_option maxHeartbeats 4000000 in
theorem run_C_11 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.1 = grp (pc11 (arg4.view.read (Elt F) (harg4.unread x2))) [] 5 (Nat.le_refl 5) := by
  sl_kernel_rfl

set_option maxHeartbeats 4000000 in
theorem run_C_13 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.1 = grp (pc13 (arg3.view.read (Elt F) (harg3.unread x1))) [] 5 (Nat.le_refl 5) := by
  sl_kernel_rfl

set_option maxHeartbeats 4000000 in
theorem run_C_14 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.1 = grp (pc14 (arg3.view.read (Elt F) (harg3.unread x1))) [] 5 (Nat.le_refl 5) := by
  sl_kernel_rfl

set_option maxHeartbeats 4000000 in
theorem run_C_15 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.1 = grp (pc15 (arg3.view.read (Elt F) (harg3.unread x1))) [] 5 (Nat.le_refl 5) := by
  sl_kernel_rfl

set_option maxHeartbeats 4000000 in
theorem run_C_16 (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec F S1x1024x640 .bf16) (x1 : Vec F S1x1024x800 .bf16) (x2 : Vec F S1x1024x800 .bf16) (xs0 : Vec F S5x1024x256 .fp8e4m3) (xs1 : Vec F S5x1024x256 .bf16) (xs4 : Vec F S256x512 .fp8e4m3) (xs5 : Vec F S32x256 .bf16) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.1 = grp (pc16 (arg4.view.read (Elt F) (harg4.unread x2))) [] 5 (Nat.le_refl 5) := by
  sl_kernel_rfl

end Cert.KernelIdeal.Body

end
-- ==== Proof.MeansPay.lean ====
/-
The query means as the kernel computes them: one product with a matrix that holds 1/128 where the row of the sequence
belongs to the block of 128 rows, and zero elsewhere. Read at an index, over the extended reals.
-/
module

public import proofs.«01_k».proof.Proof.Gen.KernelIdeal.Skeleton
public import Idealize.ShloMosaic.Lib.Pipeline.ValueKit
public import Idealize.ShloMosaic.Lib.Pointwise
public import Idealize.ShloMosaic.Lib.Ring

@[expose] public section

set_option maxRecDepth 16384

noncomputable section

namespace Cert.KernelIdeal.Value

open Cert.KernelIdeal Cert.KernelIdeal.Gen
open Idealize.ShloMosaic

/-- The quotient the kernel takes of a column number by 128, rounded towards minus infinity by a correction of the
    quotient rounded towards zero. -/
def floorDiv128 (s : BitVec 32) : BitVec 32 :=
  Scalar.select
    (IntOp.andi
      (IntOp.cmpi .ne (IntOp.subi ((IntOp.cmpi .sgt s 0#32).setWidth 32) ((IntOp.cmpi .slt s 0#32).setWidth 32))
        (Scalar.subi (Scalar.extui (Scalar.cmpi .sgt 128#32 0#32)) (Scalar.extui (Scalar.cmpi .slt 128#32 0#32))))
      (IntOp.cmpi .ne (IntOp.remsi .vector s 128#32) 0#32))
    (IntOp.subi (IntOp.divsi .vector s 128#32) 1#32) (IntOp.divsi .vector s 128#32)

theorem floorDiv128_eq : ∀ s : Fin 1024, ∀ a : Fin 16,
    IntOp.cmpi .eq (floorDiv128 (BitVec.ofNat 32 s.val)) (BitVec.ofNat 32 a.val)
      = if s.val / 128 = a.val then 1#1 else 0#1 := by
  decide +kernel

theorem ofBits_128th : Ideal.ofBits .f32 0x3C000000#32 = (((1 : ℝ) / 128 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

/-- The averaging matrix at an index. -/
theorem avg_apply (a : Fin 16) (s : Fin 1024) :
    k0_pay130 (F := Ideal) (ix2 a s) = if s.val / 128 = a.val then (((1 : ℝ) / 128 : ℝ) : EReal) else 0 := by
  have h : k0_pay130 (F := Ideal) (ix2 a s)
      = Scalar.select (IntOp.cmpi .eq (floorDiv128 (BitVec.ofNat 32 s.val)) (BitVec.ofNat 32 a.val))
          (Ideal.ofBits .f32 0x3C000000#32) 0 := by
    pointwise [k0_pay130]
    rfl
  rw [h, floorDiv128_eq, ofBits_128th]
  split <;> simp [Scalar.select]

/-- Multiplying by a real that is not negative goes into a sum of extended reals. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, ← ih,
      EReal.left_distrib_of_nonneg_of_ne_top (EReal.coe_nonneg.mpr hc) (EReal.coe_ne_top c)]

/-- A sum over the sequence, block by block. -/
theorem sum_blocks (g : Fin 1024 → EReal) :
    ∑ s : Fin 1024, g s = ∑ i : Fin 8, ∑ k : Fin 128, g ⟨128 * i.val + k.val, by omega⟩ := by
  rw [← Fintype.sum_prod_type' (f := fun (i : Fin 8) (k : Fin 128) => g ⟨128 * i.val + k.val, by omega⟩)]
  refine Fintype.sum_equiv (finProdFinEquiv (m := 8) (n := 128)).symm _ _ fun s => congrArg g (Fin.ext ?_)
  show s.val = 128 * (s.val / 128) + s.val % 128
  omega

/-- The product with the averaging matrix is the mean over the block. -/
theorem sum_avg (a : Fin 8) (f : Fin 1024 → EReal) :
    ∑ s : Fin 1024, (if s.val / 128 = a.val then (((1 : ℝ) / 128 : ℝ) : EReal) else 0) * f s
      = Ideal.div (∑ k : Fin 128, f ⟨128 * a.val + k.val, by omega⟩) (Ideal.ofBits .f32 0x43000000#32) := by
  rw [ofBits_128, Ideal.div_coe (by norm_num), mul_comm, coe_mul_sum _ (by norm_num), sum_blocks,
    Finset.sum_eq_single a]
  · refine Finset.sum_congr rfl fun k _ => ?_
    rw [if_pos (by show (128 * a.val + k.val) / 128 = a.val; omega)]
  · intro b _ hb
    refine Finset.sum_eq_zero fun k _ => ?_
    rw [if_neg (by show ¬ (128 * b.val + k.val) / 128 = a.val; intro h; exact hb (Fin.ext (by omega))), zero_mul]
  · simp

/-- A block's means at an index: block `a` of the sequence, column `d` of the group. -/
theorem means_apply (X : Vec Ideal S1x1024x640 .bf16) (a : Fin 8) (d : Fin 640) :
    k0_pay131 (F := Ideal) k0_pay130 X (ix2 a d)
      = Ideal.div (∑ k : Fin 128, X (ix3 0 ⟨128 * a.val + k.val, by omega⟩ d)) (Ideal.ofBits .f32 0x43000000#32) := by
  rw [← sum_avg a (fun s => X (ix3 0 s d))]
  pointwise [k0_pay131]
  exact Finset.sum_congr rfl fun s _ => congrArg (· * X (ix3 0 s d)) (avg_apply ⟨a.val, by omega⟩ s)

/-- What the body stores in the means' block, over the contents of the query block. -/
def meansPieces (X : Vec Ideal S1x1024x640 .bf16) : List (View.Piece (Elt Ideal) S1x4x8x160 .f32) :=
  have v : FVec Ideal S8x640 .f32 := k0_pay131 k0_pay130 (View.ld X (Rect.unit (s := S1x1024x640) ![0, 0, 0] S1x1024x640.size inb_S1x1024x640_S1x1024x640_0_0_0))
  [⟨Rect.unit (s := S1x4x8x160) ![0, 3, 0, 0] S1x1x8x160.size inb_S1x4x8x160_S1x1x8x160_0_3_0_0, k0_pay187 v⟩,
   ⟨Rect.unit (s := S1x4x8x160) ![0, 2, 0, 0] S1x1x8x160.size inb_S1x4x8x160_S1x1x8x160_0_2_0_0, k0_pay175 (k0_pay174 v)⟩,
   ⟨Rect.unit (s := S1x4x8x160) ![0, 1, 0, 0] S1x1x8x160.size inb_S1x4x8x160_S1x1x8x160_0_1_0_0, k0_pay161 v⟩,
   ⟨Rect.unit (s := S1x4x8x160) ![0, 0, 0, 0] S1x1x8x160.size inb_S1x4x8x160_S1x1x8x160_0_0_0_0, k0_pay147 v⟩]

/-- Those pieces at an index. -/
theorem canon_means (X : Vec Ideal S1x1024x640 .bf16) (y : S1x4x8x160.Idx) :
    View.canon (meansPieces X) y
      = Ideal.div (∑ k : Fin 128, X (ix3 0 ⟨128 * (y 2).val + k.val, by have : (y 2).val < 8 := (y 2).isLt; omega⟩
            ⟨160 * (y 1).val + (y 3).val, by have : (y 1).val < 4 := (y 1).isLt; have : (y 3).val < 160 := (y 3).isLt; omega⟩))
          (Ideal.ofBits .f32 0x43000000#32) := by
  have hX : View.ld X (Rect.unit (s := S1x1024x640) ![0, 0, 0] S1x1024x640.size inb_S1x1024x640_S1x1024x640_0_0_0) = X :=
    by
    refine View.ld_unit_zero (S := S1x1024x640) (off := ![0, 0, 0]) ?_ _ X
    funext a; match a with | ⟨0, _⟩ => rfl | ⟨1, _⟩ => rfl | ⟨2, _⟩ => rfl
  have hc : ∃ p ∈ meansPieces X, y ∈ p.1.set := View.cover_of_tiledL (meansPieces X) S1x1x8x160.size (by sl_kernel_rfl) y
  unfold meansPieces at hc ⊢
  rw [hX] at hc ⊢
  canon_tiles x h using hc
  all_goals pointwise [k0_pay187, k0_pay186, k0_pay175, k0_pay174, k0_pay161, k0_pay160, k0_pay147, k0_pay146]
  all_goals refine (means_apply X _ _).trans (congrArg (Ideal.div · _) (Finset.sum_congr rfl fun k _ => ?_))
  all_goals blk_ext

end Cert.KernelIdeal.Value
end
-- ==== Proof.Out.Scale.lean ====
/-
The power-of-two scale over the reals: the search for the exponent field finds the floor of the logarithm, so the
kernel's scale is the power of two the reference writes with a logarithm and an exponential.
-/
module

public import Idealize.ShloMosaic.Lib.Pipeline.ValueKit
public import Idealize.ShloMosaic.Lib.Pointwise

@[expose] public section

set_option maxRecDepth 16384

noncomputable section

namespace Cert.KernelIdeal.Scale

open Idealize.ShloMosaic

/-- What the float with exponent field `n` and no fraction denotes. -/
def pw (n : ℕ) : EReal := if n = 0 then 0 else if 255 ≤ n then ⊤ else (((2 : ℝ) ^ ((n : ℤ) - 127) : ℝ) : EReal)

theorem bits_dec : ∀ n : Fin 256, ((BitVec.ofNat 32 n.val <<< 23).extractLsb' 31 1 = 0#1) ∧
    ((BitVec.ofNat 32 n.val <<< 23).extractLsb' 23 8).toNat = n.val ∧ ((BitVec.ofNat 32 n.val <<< 23).extractLsb' 0 23).toNat = 0 := by
  decide +kernel

theorem ieee_pw {n : ℕ} (hn : n < 256) (b : BitVec 32) (h1 : b.extractLsb' 31 1 = 0#1) (h2 : (b.extractLsb' 23 8).toNat = n)
    (h3 : (b.extractLsb' 0 23).toNat = 0) : Ideal.ieee 8 23 b = pw n := by
  unfold Ideal.ieee pw
  rw [show 8 + 23 = 31 from rfl, h1, h2, h3]
  by_cases h0 : n = 0
  · subst h0; simp
  · by_cases h255 : n = 255
    · subst h255; simp
    · have h' : ¬ 255 ≤ n := by omega
      rw [if_neg (by omega), if_neg h0, if_neg h0, if_neg h']
      congr 1
      rw [if_neg (by decide), show ((2 ^ 23 + 0 : ℕ) : ℝ) = (2 : ℝ) ^ (23 : ℤ) by norm_num, one_mul, ← zpow_add₀ (by norm_num)]
      congr 1
      norm_num

theorem ofBits_shl {n : ℕ} (hn : n < 256) : Ideal.ofBits .f32 (BitVec.ofNat 32 n <<< 23) = pw n :=
  ieee_pw hn _ (bits_dec ⟨n, hn⟩).1 (bits_dec ⟨n, hn⟩).2.1 (bits_dec ⟨n, hn⟩).2.2

theorem pw_mono {a b : ℕ} (h : a ≤ b) : pw a ≤ pw b := by
  unfold pw
  by_cases hb : b = 0
  · have : a = 0 := by omega
    simp [this, hb]
  by_cases hb' : 255 ≤ b
  · simp [hb, hb']
  by_cases ha : a = 0
  · simp only [ha, hb, hb', if_true, if_false]
    exact_mod_cast (zpow_pos (by norm_num : (0 : ℝ) < 2) _).le
  · have ha' : ¬ 255 ≤ a := by omega
    simp only [ha, hb, hb', ha', if_false]
    exact EReal.coe_le_coe_iff.mpr (zpow_le_zpow_right₀ (by norm_num : (1 : ℝ) ≤ 2) (by omega))

/-- One step of the search on a number. -/
def sbit (v : EReal) (b t : BitVec 32) : BitVec 32 :=
  if Ideal.ofBits .f32 ((t + b) <<< 23) ≤ v then t + b else t

def sfield (v : EReal) : BitVec 32 :=
  sbit v 1#32 (sbit v 2#32 (sbit v 4#32 (sbit v 8#32 (sbit v 16#32 (sbit v 32#32 (sbit v 64#32 (sbit v 128#32 0#32)))))))

def sexpo (v : EReal) : BitVec 32 := if sfield v = 0#32 then 0#32 else sfield v - 126#32
def sscale (v : EReal) : EReal := Ideal.ofBits .f32 ((sexpo v + 127#32) <<< 23)
def sinv (v : EReal) : EReal := Ideal.ofBits .f32 ((127#32 - sexpo v) <<< 23)

theorem sbit_nat (v : EReal) {t b : ℕ} (h : t + b < 256) :
    sbit v (BitVec.ofNat 32 b) (BitVec.ofNat 32 t) = BitVec.ofNat 32 (if pw (t + b) ≤ v then t + b else t) := by
  unfold sbit
  rw [← BitVec.ofNat_add, ofBits_shl h]
  split <;> rfl

theorem step (v : EReal) {t b : ℕ} (x : BitVec 32) (h : t + 2 * b ≤ 256) (hb : 0 < b) (hx : x = BitVec.ofNat 32 t) (h1 : pw t ≤ v) (h2 : ¬ pw (t + 2 * b) ≤ v) :
    ∃ t' : ℕ, t' + b ≤ 256 ∧ sbit v (BitVec.ofNat 32 b) x = BitVec.ofNat 32 t' ∧ pw t' ≤ v ∧ ¬ pw (t' + b) ≤ v := by
  subst hx
  rw [sbit_nat v (by omega)]
  by_cases hc : pw (t + b) ≤ v
  · exact ⟨t + b, by omega, by rw [if_pos hc], hc, by rwa [show t + b + b = t + 2 * b by omega]⟩
  · exact ⟨t, by omega, by rw [if_neg hc], h1, hc⟩

theorem sfield_spec {v : ℝ} (h0 : 0 ≤ v) : ∃ n : ℕ, n < 255 ∧ sfield v = BitVec.ofNat 32 n ∧ pw n ≤ v ∧ ¬ pw (n + 1) ≤ v := by
  have i0 : pw 0 ≤ (v : EReal) := by simpa [pw] using EReal.coe_nonneg.mpr h0
  have top : ∀ n, 255 ≤ n → ¬ pw n ≤ (v : EReal) := fun n hn h => by
    rw [pw, if_neg (by omega), if_pos hn] at h; exact absurd (top_le_iff.mp h) (EReal.coe_ne_top v)
  obtain ⟨t1, l1, e1, p1, n1⟩ := step v (t := 0) (b := 128) 0#32 (by omega) (by omega) rfl i0 (top _ (by omega))
  obtain ⟨t2, l2, e2, p2, n2⟩ := step v (b := 64) _ (by omega) (by omega) e1 p1 n1
  obtain ⟨t3, l3, e3, p3, n3⟩ := step v (b := 32) _ (by omega) (by omega) e2 p2 n2
  obtain ⟨t4, l4, e4, p4, n4⟩ := step v (b := 16) _ (by omega) (by omega) e3 p3 n3
  obtain ⟨t5, l5, e5, p5, n5⟩ := step v (b := 8) _ (by omega) (by omega) e4 p4 n4
  obtain ⟨t6, l6, e6, p6, n6⟩ := step v (b := 4) _ (by omega) (by omega) e5 p5 n5
  obtain ⟨t7, l7, e7, p7, n7⟩ := step v (b := 2) _ (by omega) (by omega) e6 p6 n6
  obtain ⟨t8, l8, e8, p8, n8⟩ := step v (b := 1) _ (by omega) (by omega) e7 p7 n7
  refine ⟨t8, ?_, e8, p8, n8⟩
  by_contra hc
  exact top t8 (by omega) p8

/-- The exponent of the scale. -/
def ex (v : ℝ) : ℤ := if v < (2 : ℝ) ^ (-126 : ℤ) then 0 else ⌊Real.log v * (Real.log 2)⁻¹⌋ + 1

theorem floor_logb {v : ℝ} {e : ℤ} (h1 : (2 : ℝ) ^ e ≤ v) (h2 : v < (2 : ℝ) ^ (e + 1)) : ⌊Real.log v * (Real.log 2)⁻¹⌋ = e := by
  have hv : 0 < v := lt_of_lt_of_le (zpow_pos (by norm_num) _) h1
  have hl : (0 : ℝ) < Real.log 2 := Real.log_pos (by norm_num)
  have l1 := Real.log_le_log (zpow_pos (by norm_num) _) h1
  have l2 := Real.log_lt_log hv h2
  rw [Real.log_zpow] at l1 l2
  rw [Int.floor_eq_iff, ← div_eq_mul_inv]
  constructor
  · rw [le_div_iff₀ hl]; exact l1
  · rw [div_lt_iff₀ hl]; push_cast at l2; exact l2

theorem sexpo_spec {v : ℝ} (h0 : 0 ≤ v) (h1 : v < (2 : ℝ) ^ (126 : ℤ)) :
    sscale v = (((2 : ℝ) ^ ex v : ℝ) : EReal) ∧ sinv v = (((2 : ℝ) ^ (-ex v) : ℝ) : EReal) := by
  obtain ⟨n, hn, hf, hp, hq⟩ := sfield_spec h0
  have hn' : n ≤ 252 := by
    by_contra hc
    have : pw 253 ≤ (v : EReal) := (pw_mono (by omega)).trans hp
    rw [pw, if_neg (by omega), if_neg (by omega)] at this
    have := EReal.coe_le_coe_iff.mp this
    norm_num at this h1
    linarith
  by_cases hz : n = 0
  · subst hz
    have hs : sexpo v = 0#32 := by rw [sexpo, hf]; rfl
    have he : ex v = 0 := by
      rw [ex, if_pos]
      have := not_le.mp hq
      rw [pw, if_neg (by omega), if_neg (by omega)] at this
      have := EReal.coe_lt_coe_iff.mp this
      norm_num at this ⊢
      exact this
    have h127 : Ideal.ofBits .f32 (127#32 <<< 23) = ((1 : ℝ) : EReal) := by
      rw [ofBits_shl (n := 127) (by omega)]; norm_num [pw]
    rw [sscale, sinv, hs, he]
    exact ⟨by rw [BitVec.zero_add, h127]; simp, by rw [BitVec.sub_zero, h127]; simp⟩
  · have hs : sexpo v = BitVec.ofNat 32 n - 126#32 := by
      rw [sexpo, hf, if_neg]
      intro h
      have := congrArg BitVec.toNat h
      simp at this
      omega
    have hlow : (2 : ℝ) ^ ((n : ℤ) - 127) ≤ v := by
      rw [pw, if_neg hz, if_neg (by omega)] at hp
      exact EReal.coe_le_coe_iff.mp hp
    have hup : v < (2 : ℝ) ^ ((n : ℤ) - 127 + 1) := by
      have := not_le.mp hq
      rw [pw, if_neg (by omega), if_neg (by omega)] at this
      have := EReal.coe_lt_coe_iff.mp this
      rwa [show ((n + 1 : ℕ) : ℤ) - 127 = (n : ℤ) - 127 + 1 by push_cast; ring] at this
    have he : ex v = (n : ℤ) - 126 := by
      rw [ex, if_neg, floor_logb hlow hup]
      · ring
      · refine not_lt.mpr (le_trans ?_ hlow)
        exact zpow_le_zpow_right₀ (by norm_num) (by omega)
    rw [sscale, sinv, hs, he]
    have a1 : BitVec.ofNat 32 n - 126#32 + 127#32 = BitVec.ofNat 32 (n + 1) := by
      apply BitVec.eq_of_toNat_eq; simp; omega
    have a2 : 127#32 - (BitVec.ofNat 32 n - 126#32) = BitVec.ofNat 32 (253 - n) := by
      apply BitVec.eq_of_toNat_eq; simp; omega
    constructor
    · rw [a1, ofBits_shl (by omega), pw, if_neg (by omega), if_neg (by omega)]
      congr 2; push_cast; ring
    · rw [a2, ofBits_shl (by omega), pw, if_neg (by omega), if_neg (by omega)]
      congr 2; rw [Nat.cast_sub (by omega)]; push_cast; ring

theorem ofBits_min : Ideal.ofBits .f32 0x00800000#32 = (((2 : ℝ) ^ (-126 : ℤ) : ℝ) : EReal) :=
  (ofBits_shl (n := 1) (by omega)).trans (by norm_num [pw])

theorem ofBits_one : Ideal.ofBits .f32 0x3F800000#32 = ((1 : ℝ) : EReal) :=
  (ofBits_shl (n := 127) (by omega)).trans (by norm_num [pw])

theorem olt_coe (a b : EReal) {α : Type} (x y : α) : Scalar.select (Ideal.cmp .olt a b) x y = if a < b then x else y := by
  change Scalar.select (BitVec.ofBool (decide (a < b))) x y = _
  by_cases h : a < b
  · rw [if_pos h, decide_eq_true h]; rfl
  · rw [if_neg h, decide_eq_false h]; rfl

/-- The scale as the reference writes it: one below the smallest normal number, else the smallest power of two above. -/
def rscale (t : EReal) : EReal :=
  if t < Ideal.ofBits .f32 0x00800000#32 then Ideal.ofBits .f32 0x3F800000#32
  else (Finset.univ : Finset (Fin 254)).fold min ⊤ (fun n => if t < pw (n.val + 1) then pw (n.val + 1) else ⊤)

theorem rscale_coe {v : ℝ} (h1 : v < (2 : ℝ) ^ (126 : ℤ)) : rscale v = (((2 : ℝ) ^ ex v : ℝ) : EReal) := by
  unfold rscale
  rw [ofBits_min, ofBits_one]
  by_cases h : v < (2 : ℝ) ^ (-126 : ℤ)
  · rw [if_pos (EReal.coe_lt_coe_iff.mpr h), ex, if_pos h]; simp
  · rw [if_neg (fun hc => h (EReal.coe_lt_coe_iff.mp hc))]
    obtain ⟨n, hn, -, hp, hq⟩ := sfield_spec (v := v) (le_trans (zpow_pos (by norm_num) _).le (not_lt.mp h))
    have hn' : n ≤ 252 := by
      by_contra hc
      have : pw 253 ≤ (v : EReal) := (pw_mono (by omega)).trans hp
      rw [pw, if_neg (by omega), if_neg (by omega)] at this
      have := EReal.coe_le_coe_iff.mp this
      norm_num at this h1
      linarith
    have hz : n ≠ 0 := by
      intro hz
      subst hz
      have := not_le.mp hq
      rw [pw, if_neg (by omega), if_neg (by omega)] at this
      exact h (by have := EReal.coe_lt_coe_iff.mp this; norm_num at this ⊢; exact this)
    have hlow : (2 : ℝ) ^ ((n : ℤ) - 127) ≤ v := by
      rw [pw, if_neg hz, if_neg (by omega)] at hp
      exact EReal.coe_le_coe_iff.mp hp
    have hup : v < (2 : ℝ) ^ ((n : ℤ) - 127 + 1) := by
      have := not_le.mp hq
      rw [pw, if_neg (by omega), if_neg (by omega)] at this
      have := EReal.coe_lt_coe_iff.mp this
      rwa [show ((n + 1 : ℕ) : ℤ) - 127 = (n : ℤ) - 127 + 1 by push_cast; ring] at this
    have he : (((2 : ℝ) ^ ex v : ℝ) : EReal) = pw (n + 1) := by
      rw [ex, if_neg h, floor_logb hlow hup, pw, if_neg (by omega), if_neg (by omega)]
      congr 2; push_cast; ring
    rw [he]
    apply le_antisymm
    · rw [Finset.fold_min_le]
      exact Or.inr ⟨⟨n, by omega⟩, Finset.mem_univ _, by rw [if_pos (not_le.mp hq)]⟩
    · rw [Finset.le_fold_min]
      refine ⟨le_top, fun i _ => ?_⟩
      split
      · rename_i hi
        apply pw_mono
        by_contra hc
        exact absurd hi (not_lt.mpr ((pw_mono (by omega)).trans hp))
      · exact le_top

end Cert.KernelIdeal.Scale

end
-- ==== Proof.Out.Row.lean ====
/-
One row of the attention over the reals: the kernel's powers of two shifted by the largest score less eight, cut to
the range of the codes, are 256 times the exponentials the reference takes of the scores less their largest.
-/
module

public import Idealize.ShloMosaic.Lib.Pipeline.ValueKit
public import Idealize.ShloMosaic.Lib.Pointwise

@[expose] public section

set_option maxRecDepth 16384

noncomputable section

namespace Cert.KernelIdeal.Row

open Idealize.ShloMosaic

/-- A row's scores with the mask: the keys after the query count for nothing. -/
def masked {n : ℕ} (a : Fin n → ℝ) (r : ℕ) (j : Fin n) : EReal := if j.val ≤ r then (a j : EReal) else ⊥

/-- The largest score of a row. -/
theorem fold_masked {n : ℕ} (a : Fin n → ℝ) (r : ℕ) (hr : 0 < n) :
    ∃ M : ℝ, (Finset.univ : Finset (Fin n)).fold max ⊥ (masked a r) = (M : EReal) ∧ (∀ j : Fin n, j.val ≤ r → a j ≤ M) ∧
      ∃ j : Fin n, j.val ≤ r ∧ a j = M := by
  have hne : (Finset.univ.filter fun j : Fin n => j.val ≤ r).Nonempty := ⟨⟨0, hr⟩, by simp⟩
  obtain ⟨j₀, h₀, hm⟩ := Finset.exists_max_image _ a hne
  simp only [Finset.mem_filter, Finset.mem_univ, true_and] at h₀ hm
  refine ⟨a j₀, ?_, hm, j₀, h₀, rfl⟩
  apply le_antisymm
  · rw [Finset.fold_max_le]
    refine ⟨bot_le, fun j _ => ?_⟩
    unfold masked
    split
    · exact EReal.coe_le_coe_iff.mpr (hm j ‹_›)
    · exact bot_le
  · rw [Finset.le_fold_max]
    exact Or.inr ⟨j₀, Finset.mem_univ _, by rw [masked, if_pos h₀]⟩

theorem exp2_coe (r : ℝ) : Ideal.exp2 (r : EReal) = (((2 : ℝ) ^ r : ℝ) : EReal) := rfl
theorem exp_coe (r : ℝ) : Ideal.exp (r : EReal) = ((Real.exp r : ℝ) : EReal) := rfl

theorem exp2_masked {n : ℕ} (a : Fin n → ℝ) (r : ℕ) (s : ℝ) (j : Fin n) :
    Ideal.exp2 (masked a r j - (s : EReal)) = ((if j.val ≤ r then (2 : ℝ) ^ (a j - s) else 0 : ℝ) : EReal) := by
  unfold masked
  split
  · rw [← EReal.coe_sub, exp2_coe]
  · rw [EReal.bot_sub]; rfl

theorem exp_masked {n : ℕ} (a : Fin n → ℝ) (r : ℕ) (s : ℝ) (j : Fin n) :
    Ideal.exp (masked a r j - (s : EReal)) = ((if j.val ≤ r then Real.exp (a j - s) else 0 : ℝ) : EReal) := by
  unfold masked
  split
  · rw [← EReal.coe_sub, exp_coe]
  · rw [EReal.bot_sub]; rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The kernel's row: the sum of the cut powers weighted by `c`, times the scale `w`, over the sum of the powers. -/
def krow {n : ℕ} (a : Fin n → EReal) (c : Fin n → EReal) (w : EReal) : EReal :=
  let sh : EReal := (Finset.univ : Finset (Fin n)).fold max ⊥ a - ((8 : ℝ) : EReal)
  (∑ j, c j * min ((448 : ℝ) : EReal) (max ((-448 : ℝ) : EReal) (Ideal.exp2 (a j - sh)))) * w
    * Ideal.div 1 (∑ j, Ideal.exp2 (a j - sh))

/-- The reference's row. -/
def rrow {n : ℕ} (b : Fin n → EReal) (c : Fin n → EReal) (w : EReal) : EReal :=
  let M : EReal := (Finset.univ : Finset (Fin n)).fold max ⊥ b
  Ideal.div ((∑ j, c j * min ((448 : ℝ) : EReal) (max 0 (Ideal.exp (b j - M) * ((256 : ℝ) : EReal)))) * ((1 / 256 : ℝ) : EReal) * w)
    (∑ j, Ideal.exp (b j - M))

/-- The reference's row as a quotient of reals. -/
theorem rrow_eq {n : ℕ} (b : Fin n → ℝ) (c : Fin n → ℝ) (w : ℝ) (r : ℕ) (hn : 0 < n) :
    ∃ M : ℝ, (∀ j : Fin n, j.val ≤ r → b j ≤ M) ∧ (0 < ∑ j, if j.val ≤ r then Real.exp (b j - M) else 0) ∧
    (Finset.univ : Finset (Fin n)).fold max ⊥ (masked b r) = (M : EReal) ∧
    rrow (masked b r) (fun j => (c j : EReal)) (w : EReal)
      = (((∑ j, c j * (if j.val ≤ r then Real.exp (b j - M) else 0)) * w / (∑ j, if j.val ≤ r then Real.exp (b j - M) else 0) : ℝ) : EReal) := by
  obtain ⟨M, hM, hle, j₀, hj₀, ha₀⟩ := fold_masked b r hn
  have hpos : 0 < ∑ j, (if j.val ≤ r then Real.exp (b j - M) else 0) := by
    refine Finset.sum_pos' (fun j _ => ?_) ⟨j₀, Finset.mem_univ _, ?_⟩
    · split
      · exact (Real.exp_pos _).le
      · exact le_refl _
    · rw [if_pos hj₀]; exact Real.exp_pos _
  refine ⟨M, hle, hpos, hM, ?_⟩
  unfold rrow
  simp only [hM, exp_masked]
  have hcl : ∀ j : Fin n, min ((448 : ℝ) : EReal) (max 0 (((if j.val ≤ r then Real.exp (b j - M) else 0 : ℝ) : EReal) * ((256 : ℝ) : EReal)))
      = (((if j.val ≤ r then Real.exp (b j - M) else 0) * 256 : ℝ) : EReal) := by
    intro j
    have h1 : (0 : ℝ) ≤ (if j.val ≤ r then Real.exp (b j - M) else 0) := by
      split
      · exact (Real.exp_pos _).le
      · exact le_refl _
    have h2 : (if j.val ≤ r then Real.exp (b j - M) else 0) ≤ (1 : ℝ) := by
      split
      · rw [Real.exp_le_one_iff]; linarith [hle j ‹_›]
      · norm_num
    rw [← EReal.coe_mul, max_eq_right (EReal.coe_nonneg.mpr (by positivity)),
      min_eq_right (EReal.coe_le_coe_iff.mpr (by linarith))]
  simp only [hcl]
  simp only [← EReal.coe_mul, coe_sum]
  rw [Ideal.div_coe hpos.ne', ← EReal.coe_mul]
  congr 1
  rw [show (∑ j, c j * ((if j.val ≤ r then Real.exp (b j - M) else 0) * 256)) = (∑ j, c j * (if j.val ≤ r then Real.exp (b j - M) else 0)) * 256 by
    rw [Finset.sum_mul]; exact Finset.sum_congr rfl fun j _ => by ring]
  field_simp

/-- A sum over more keys, those after the query counting for nothing. -/
theorem sum_cut {n N : ℕ} (h : n ≤ N) (r : ℕ) (hr : r < n) (f : Fin N → ℝ) :
    ∑ j : Fin N, (if j.val ≤ r then f j else 0) = ∑ j : Fin n, if j.val ≤ r then f ⟨j.val, by omega⟩ else 0 := by
  have e : ∀ g : ℕ → ℝ, ∀ m, (∑ j : Fin m, if j.val ≤ r then g j.val else 0) = ∑ j ∈ (Finset.range m).filter (· ≤ r), g j := by
    intro g m
    rw [Finset.sum_filter, Finset.sum_range]
  let g : ℕ → ℝ := fun j => if hj : j < N then f ⟨j, hj⟩ else 0
  have h1 : ∑ j : Fin N, (if j.val ≤ r then f j else 0) = ∑ j : Fin N, if j.val ≤ r then g j.val else 0 := by
    refine Finset.sum_congr rfl fun j _ => ?_
    simp only [g, j.isLt, dif_pos]
  have h2 : (∑ j : Fin n, if j.val ≤ r then f ⟨j.val, by omega⟩ else 0) = ∑ j : Fin n, if j.val ≤ r then g j.val else 0 := by
    refine Finset.sum_congr rfl fun j _ => ?_
    have : j.val < N := by omega
    simp only [g, this, dif_pos]
  rw [h1, h2, e, e]
  congr 1
  ext j
  simp only [Finset.mem_filter, Finset.mem_range]
  omega

/-- The two rows agree. -/
theorem krow_eq {n N : ℕ} (h : n ≤ N) (b : Fin N → ℝ) (c : Fin N → ℝ) (w : ℝ) (r : ℕ) (hr : r < n) (a : Fin n → ℝ)
    (hab : ∀ j : Fin n, a j = b ⟨j.val, by omega⟩ * (Real.log 2)⁻¹) :
    krow (masked a r) (fun j => (c ⟨j.val, by omega⟩ : EReal)) (w : EReal) = rrow (masked b r) (fun j => (c j : EReal)) (w : EReal) := by
  obtain ⟨M, hle, hpos, hM, hR⟩ := rrow_eq b c w r (by omega : 0 < N)
  rw [hR]
  obtain ⟨A, hA, hAle, j₀, hj₀, hA₀⟩ := fold_masked a r (by omega : 0 < n)
  have hl2 : (0 : ℝ) < Real.log 2 := Real.log_pos (by norm_num)
  have hAM : A = M * (Real.log 2)⁻¹ := by
    apply le_antisymm
    · rw [← hA₀, hab]
      exact mul_le_mul_of_nonneg_right (hle _ hj₀) (inv_pos.mpr hl2).le
    · obtain ⟨M', hM', _, j₁, hj₁, hb₁⟩ := fold_masked b r (by omega : 0 < N)
      have : M' = M := EReal.coe_eq_coe_iff.mp (hM'.symm.trans hM)
      subst this
      have := hAle ⟨j₁.val, by omega⟩ hj₁
      rw [hab] at this
      simpa [hb₁] using this
  have hexp : ∀ j : Fin n, (if j.val ≤ r then (2 : ℝ) ^ (a j - (A - 8)) else 0) = (if j.val ≤ r then Real.exp (b ⟨j.val, by omega⟩ - M) else 0) * 256 := by
    intro j
    split
    · rw [hab, hAM, show b ⟨j.val, by omega⟩ * (Real.log 2)⁻¹ - (M * (Real.log 2)⁻¹ - 8) = (b ⟨j.val, by omega⟩ - M) * (Real.log 2)⁻¹ + 8 by ring,
        Real.rpow_add (by norm_num), Real.rpow_def_of_pos (by norm_num)]
      congr 1
      · congr 1; field_simp
      · norm_num
    · simp
  unfold krow
  simp only [hA, ← EReal.coe_sub, exp2_masked, hexp]
  have hcl : ∀ j : Fin n, min ((448 : ℝ) : EReal) (max ((-448 : ℝ) : EReal) (((if j.val ≤ r then Real.exp (b ⟨j.val, by omega⟩ - M) else 0) * 256 : ℝ) : EReal))
      = (((if j.val ≤ r then Real.exp (b ⟨j.val, by omega⟩ - M) else 0) * 256 : ℝ) : EReal) := by
    intro j
    have h1 : (0 : ℝ) ≤ (if j.val ≤ r then Real.exp (b ⟨j.val, by omega⟩ - M) else 0) := by
      split
      · exact (Real.exp_pos _).le
      · exact le_refl _
    have h2 : (if j.val ≤ r then Real.exp (b ⟨j.val, by omega⟩ - M) else 0) ≤ (1 : ℝ) := by
      split
      · rw [Real.exp_le_one_iff]; linarith [hle ⟨j.val, by omega⟩ ‹_›]
      · norm_num
    rw [max_eq_right (EReal.coe_le_coe_iff.mpr (by linarith)), min_eq_right (EReal.coe_le_coe_iff.mpr (by linarith))]
  simp only [hcl]
  simp only [← EReal.coe_mul, coe_sum]
  have s1 := sum_cut h r hr (fun j => Real.exp (b j - M))
  have s2 := sum_cut h r hr (fun j => c j * Real.exp (b j - M))
  have m2 : ∀ (m : ℕ) (f g : Fin m → ℝ), (∑ j, f j * (if j.val ≤ r then g j else 0)) = ∑ j, if j.val ≤ r then f j * g j else 0 := by
    intro m f g
    refine Finset.sum_congr rfl fun j _ => ?_
    split <;> simp
  have t1 : (∑ j : Fin n, (if j.val ≤ r then Real.exp (b ⟨j.val, by omega⟩ - M) else 0) * 256) = (∑ j : Fin N, if j.val ≤ r then Real.exp (b j - M) else 0) * 256 := by
    rw [s1, Finset.sum_mul]
  have t2 : (∑ j : Fin n, c ⟨j.val, by omega⟩ * ((if j.val ≤ r then Real.exp (b ⟨j.val, by omega⟩ - M) else 0) * 256)) = (∑ j : Fin N, c j * (if j.val ≤ r then Real.exp (b j - M) else 0)) * 256 := by
    rw [m2 N c, s2, ← m2 n (fun j => c ⟨j.val, by omega⟩), Finset.sum_mul]
    exact Finset.sum_congr rfl fun j _ => by ring
  rw [t1, t2]
  have hp := hpos.ne'
  rw [Ideal.div_coe (by positivity), one_mul, ← EReal.coe_mul]
  congr 1
  field_simp

end Cert.KernelIdeal.Row

end
-- ==== Proof.Out.Spec.lean ====
/-
The attention over the reals, of one batch and one group of heads: what both programs compute. `X` is the queries' block
(row, column of the group), `K` and `V` the keys and the values of the group (row, column of the head).
-/
module

public import proofs.«01_k».proof.Proof.Out.Scale
public import proofs.«01_k».proof.Proof.Out.Row

@[expose] public section

set_option maxRecDepth 16384

noncomputable section

namespace Cert.KernelIdeal.Spec

open Idealize.ShloMosaic Cert.KernelIdeal.Scale

/-- The largest of finitely many reals. -/
def rmax {ι : Type} [Fintype ι] [Nonempty ι] (f : ι → ℝ) : ℝ := Finset.univ.sup' Finset.univ_nonempty f

theorem rmax_le {ι : Type} [Fintype ι] [Nonempty ι] {f : ι → ℝ} {a : ℝ} : rmax f ≤ a ↔ ∀ i, f i ≤ a := by
  simp [rmax, Finset.sup'_le_iff]

theorem le_rmax {ι : Type} [Fintype ι] [Nonempty ι] (f : ι → ℝ) (i : ι) : f i ≤ rmax f := rmax_le.mp le_rfl i

theorem fold_max_coe {ι : Type} [Fintype ι] [Nonempty ι] (f : ι → ℝ) :
    (Finset.univ : Finset ι).fold max ⊥ (fun i => (f i : EReal)) = ((rmax f : ℝ) : EReal) := by
  apply le_antisymm
  · rw [Finset.fold_max_le]
    exact ⟨bot_le, fun i _ => EReal.coe_le_coe_iff.mpr (le_rmax f i)⟩
  · obtain ⟨i, _, hi⟩ := Finset.exists_mem_eq_sup' (Finset.univ_nonempty (α := ι)) f
    rw [Finset.le_fold_max]
    exact Or.inr ⟨i, Finset.mem_univ _, by rw [rmax, hi]⟩

theorem fold_min_coe {ι : Type} [Fintype ι] [Nonempty ι] (f : ι → ℝ) :
    (Finset.univ : Finset ι).fold min ⊤ (fun i => (f i : EReal)) = ((-rmax (fun i => -f i) : ℝ) : EReal) := by
  apply le_antisymm
  · obtain ⟨i, _, hi⟩ := Finset.exists_mem_eq_sup' (Finset.univ_nonempty (α := ι)) (fun i => -f i)
    rw [Finset.fold_min_le]
    exact Or.inr ⟨i, Finset.mem_univ _, by rw [rmax, hi, neg_neg]⟩
  · rw [Finset.le_fold_min]
    exact ⟨le_top, fun i _ => EReal.coe_le_coe_iff.mpr (by linarith [le_rmax (fun i => -f i) i])⟩

/-- The float nearest to 1/448. -/
def c0 : ℝ := 9586981 / 4294967296

theorem ofBits_c0 : Ideal.ofBits .f32 0x3B124925#32 = ((c0 : ℝ) : EReal) := by
  simp [Ideal.ofBits, Ideal.ieee, -EReal.coe_mul, c0]; norm_num

theorem ofBits_448 : Ideal.ofBits .f32 0x43E00000#32 = ((448 : ℝ) : EReal) := by
  simp [Ideal.ofBits, Ideal.ieee, -EReal.coe_mul]; norm_num

theorem ofBits_n448 : Ideal.ofBits .f32 0xC3E00000#32 = ((-448 : ℝ) : EReal) := by
  simp [Ideal.ofBits, Ideal.ieee, -EReal.coe_mul]; norm_num

/-- The scale of the scores: the float nearest to one over the root of 160. -/
def sm : ℝ := 10610843 / 134217728

theorem ofBits_sm : Ideal.ofBits .f32 0x3DA1E89B#32 = ((sm : ℝ) : EReal) := by
  simp [Ideal.ofBits, Ideal.ieee, -EReal.coe_mul, sm]; norm_num

/-- The cut to the range of the codes. -/
def clip (r : ℝ) : ℝ := min 448 (max (-448) r)

theorem clip_coe (r : ℝ) : min ((448 : ℝ) : EReal) (max ((-448 : ℝ) : EReal) (r : EReal)) = ((clip r : ℝ) : EReal) := by
  rw [clip, EReal.coe_strictMono.monotone.map_min, EReal.coe_strictMono.monotone.map_max]

section
variable (X K V : ℕ → ℕ → ℝ)

def qm (n c : ℕ) : ℝ := (∑ k : Fin 128, X (128 * n + k.val) c) * (1 / 128)
def xd (s c : ℕ) : ℝ := X s c - qm X (s / 128) c
def qmax (n h : ℕ) : ℝ := rmax fun p : Fin 128 × Fin 160 => |xd X (128 * n + p.1.val) (160 * h + p.2.val)|
def qe (n h : ℕ) : ℤ := ex (qmax X n h * c0)
def qcode (s h d : ℕ) : ℝ := clip (xd X s (160 * h + d) * (2 : ℝ) ^ (-qe X (s / 128) h))

def km (d : ℕ) : ℝ := (∑ k : Fin 1024, K k.val d) * (1 / 1024)
def ks (s d : ℕ) : ℝ := K s d - km K d
def kmax (n : ℕ) : ℝ := rmax fun p : Fin 64 × Fin 160 => |ks K (64 * n + p.1.val) p.2.val|
def ke (n : ℕ) : ℤ := ex (kmax K n * c0)
def kcode (s d : ℕ) : ℝ := clip (ks K s d * (2 : ℝ) ^ (-ke K (s / 64)))

def vmax (d : ℕ) : ℝ := rmax fun k : Fin 1024 => |V k.val d|
def ve (d : ℕ) : ℤ := ex (vmax V d * c0)
def vcode (s d : ℕ) : ℝ := clip (V s d * (2 : ℝ) ^ (-ve V d))

/-- The score of the key `j` for the query `s` of head `h`. -/
def score (h s j : ℕ) : ℝ :=
  ((∑ d : Fin 160, qcode X s h d.val * kcode K j d.val) * (2 : ℝ) ^ qe X (s / 128) h * (2 : ℝ) ^ ke K (j / 64)
    + ∑ d : Fin 160, qm X (s / 128) (160 * h + d.val) * ks K j d.val) * sm

/-- The result at the query `s`, the head `h` and the column `d`. -/
def out (h s d : ℕ) : EReal :=
  Row.rrow (n := 1024) (Row.masked (fun j => score X K h s j.val) s) (fun j => ((vcode V j.val d : ℝ) : EReal)) (((2 : ℝ) ^ ve V d : ℝ) : EReal)

/-- The entries are bounded, as those of finite half-precision arrays are. -/
def Bd (n : ℕ) (c : ℕ) : Prop := ∀ s < n, ∀ d < c, |X s d| ≤ (2 : ℝ) ^ (128 : ℤ)

theorem pos_of_rmax {ι : Type} [Fintype ι] [Nonempty ι] (f : ι → ℝ) : 0 ≤ rmax fun i => |f i| :=
  (abs_nonneg _).trans (le_rmax (fun i => |f i|) (Classical.arbitrary ι))

theorem small {a : ℝ} (h : a ≤ (2 : ℝ) ^ (129 : ℤ)) : a * c0 < (2 : ℝ) ^ (126 : ℤ) := by
  unfold c0
  norm_num at h ⊢
  linarith

variable {X K V}

theorem abs_mean {m : ℕ} (f : Fin m → ℝ) {B : ℝ} (h : ∀ i, |f i| ≤ B) (hm : 0 < m) : |(∑ i, f i) * (1 / (m : ℝ))| ≤ B := by
  have hm' : (0 : ℝ) < m := Nat.cast_pos.mpr hm
  rw [abs_mul, abs_of_pos (by positivity : (0 : ℝ) < 1 / (m : ℝ)), mul_one_div, div_le_iff₀ hm']
  calc |∑ i, f i| ≤ ∑ i, |f i| := Finset.abs_sum_le_sum_abs _ _
    _ ≤ ∑ _i : Fin m, B := Finset.sum_le_sum fun i _ => h i
    _ = B * m := by simp [mul_comm]

theorem abs_sub_le' {a b : ℝ} (ha : |a| ≤ (2 : ℝ) ^ (128 : ℤ)) (hb : |b| ≤ (2 : ℝ) ^ (128 : ℤ)) : |a - b| ≤ (2 : ℝ) ^ (129 : ℤ) := by
  have := abs_sub a b
  norm_num at *
  linarith

theorem q_ok (hX : Bd X 1024 640) {n h : ℕ} (hn : n < 8) (hh : h < 4) :
    0 ≤ qmax X n h * c0 ∧ qmax X n h * c0 < (2 : ℝ) ^ (126 : ℤ) := by
  refine ⟨mul_nonneg (pos_of_rmax _) (by norm_num [c0]), small (rmax_le.mpr fun p => ?_)⟩
  have h1 := p.1.isLt
  have h2 := p.2.isLt
  refine abs_sub_le' (hX _ (by omega) _ (by omega)) ?_
  have := abs_mean (m := 128) (fun k => X (128 * ((128 * n + p.1.val) / 128) + k.val) (160 * h + p.2.val)) (fun k => hX _ (by have := k.isLt; omega) _ (by omega)) (by norm_num)
  exact_mod_cast this

theorem k_ok (hK : Bd K 1024 160) {n : ℕ} (hn : n < 16) :
    0 ≤ kmax K n * c0 ∧ kmax K n * c0 < (2 : ℝ) ^ (126 : ℤ) := by
  refine ⟨mul_nonneg (pos_of_rmax _) (by norm_num [c0]), small (rmax_le.mpr fun p => ?_)⟩
  have h1 := p.1.isLt
  have h2 := p.2.isLt
  refine abs_sub_le' (hK _ (by omega) _ (by omega)) ?_
  have := abs_mean (m := 1024) (fun k => K k.val p.2.val) (fun k => hK _ k.isLt _ (by omega)) (by norm_num)
  exact_mod_cast this

theorem v_ok (hV : Bd V 1024 160) {d : ℕ} (hd : d < 160) :
    0 ≤ vmax V d * c0 ∧ vmax V d * c0 < (2 : ℝ) ^ (126 : ℤ) := by
  refine ⟨mul_nonneg (pos_of_rmax _) (by norm_num [c0]), small (rmax_le.mpr fun p => ?_)⟩
  have := hV _ p.isLt _ hd
  refine this.trans ?_
  norm_num
end

end Cert.KernelIdeal.Spec

end
-- ==== Proof.Out.Canon.lean ====
/-
Stores of rectangles read back at an index, for rectangles of two, three and four dimensions.
-/
module

public import Idealize.ShloMosaic.Lib.Pipeline.ValueKit
public import Idealize.ShloMosaic.Lib.Pointwise

@[expose] public section

set_option maxRecDepth 16384

noncomputable section

namespace Cert.KernelIdeal.Canon

open Idealize.ShloMosaic

variable {Val : EltTy → Type} [∀ e, Nonempty (Val e)] {e : EltTy}

theorem canon_hit {s : Shape} (r : Rect s) (w : r.shape.Idx → Val e) (L : List (View.Piece Val s e)) (y : s.Idx) (x : r.shape.Idx)
    (h : ∀ a, (y a).val = r.off a + r.stride a * (x a).val) : View.canon (⟨r, w⟩ :: L) y = w x := by
  have : y = r.emb x := by
    funext a
    exact Fin.ext (h a)
  rw [this, View.canon_cons_emb]

theorem hit2 {n0 n1 o0 o1 s0 s1 : ℕ} {inb} (w : (Rect.unit (s := ⟨2, ![n0, n1]⟩) ![o0, o1] ![s0, s1] inb).shape.Idx → Val e)
    (L : List (View.Piece Val ⟨2, ![n0, n1]⟩ e)) (a : Fin n0) (b : Fin n1) (a' : Fin s0) (b' : Fin s1)
    (ha : a.val = o0 + a'.val) (hb : b.val = o1 + b'.val) :
    View.canon (⟨Rect.unit (s := ⟨2, ![n0, n1]⟩) ![o0, o1] ![s0, s1] inb, w⟩ :: L) (ix2 a b) = w (ix2 a' b') := by
  refine canon_hit (s := ⟨2, ![n0, n1]⟩) (Rect.unit (s := ⟨2, ![n0, n1]⟩) ![o0, o1] ![s0, s1] inb) w L _ (ix2 a' b') fun i => ?_
  match i with
  | 0 => show a.val = o0 + 1 * a'.val; omega
  | 1 => show b.val = o1 + 1 * b'.val; omega

theorem miss2 {n0 n1 o0 o1 s0 s1 : ℕ} {inb} (w : (Rect.unit (s := ⟨2, ![n0, n1]⟩) ![o0, o1] ![s0, s1] inb).shape.Idx → Val e)
    (L : List (View.Piece Val ⟨2, ![n0, n1]⟩ e)) (a : Fin n0) (b : Fin n1)
    (h : a.val < o0 ∨ o0 + s0 ≤ a.val ∨ b.val < o1 ∨ o1 + s1 ≤ b.val) :
    View.canon (⟨Rect.unit (s := ⟨2, ![n0, n1]⟩) ![o0, o1] ![s0, s1] inb, w⟩ :: L) (ix2 a b) = View.canon L (ix2 a b) := by
  refine View.canon_cons_of_not_mem _ L fun hm => ?_
  have hm := (Rect.mem_set_unit (inb := inb)).mp hm
  have h0 : o0 ≤ a.val ∧ a.val < o0 + s0 := hm 0
  have h1 : o1 ≤ b.val ∧ b.val < o1 + s1 := hm 1
  omega

theorem hit3 {n0 n1 n2 o0 o1 o2 s0 s1 s2 : ℕ} {inb}
    (w : (Rect.unit (s := ⟨3, ![n0, n1, n2]⟩) ![o0, o1, o2] ![s0, s1, s2] inb).shape.Idx → Val e)
    (L : List (View.Piece Val ⟨3, ![n0, n1, n2]⟩ e)) (a : Fin n0) (b : Fin n1) (c : Fin n2) (a' : Fin s0) (b' : Fin s1) (c' : Fin s2)
    (ha : a.val = o0 + a'.val) (hb : b.val = o1 + b'.val) (hc : c.val = o2 + c'.val) :
    View.canon (⟨Rect.unit (s := ⟨3, ![n0, n1, n2]⟩) ![o0, o1, o2] ![s0, s1, s2] inb, w⟩ :: L) (ix3 a b c) = w (ix3 a' b' c') := by
  refine canon_hit (s := ⟨3, ![n0, n1, n2]⟩) (Rect.unit (s := ⟨3, ![n0, n1, n2]⟩) ![o0, o1, o2] ![s0, s1, s2] inb) w L _ (ix3 a' b' c') fun i => ?_
  match i with
  | 0 => show a.val = o0 + 1 * a'.val; omega
  | 1 => show b.val = o1 + 1 * b'.val; omega
  | 2 => show c.val = o2 + 1 * c'.val; omega

theorem miss3 {n0 n1 n2 o0 o1 o2 s0 s1 s2 : ℕ} {inb}
    (w : (Rect.unit (s := ⟨3, ![n0, n1, n2]⟩) ![o0, o1, o2] ![s0, s1, s2] inb).shape.Idx → Val e)
    (L : List (View.Piece Val ⟨3, ![n0, n1, n2]⟩ e)) (a : Fin n0) (b : Fin n1) (c : Fin n2)
    (h : a.val < o0 ∨ o0 + s0 ≤ a.val ∨ b.val < o1 ∨ o1 + s1 ≤ b.val ∨ c.val < o2 ∨ o2 + s2 ≤ c.val) :
    View.canon (⟨Rect.unit (s := ⟨3, ![n0, n1, n2]⟩) ![o0, o1, o2] ![s0, s1, s2] inb, w⟩ :: L) (ix3 a b c) = View.canon L (ix3 a b c) := by
  refine View.canon_cons_of_not_mem _ L fun hm => ?_
  have hm := (Rect.mem_set_unit (inb := inb)).mp hm
  have h0 : o0 ≤ a.val ∧ a.val < o0 + s0 := hm 0
  have h1 : o1 ≤ b.val ∧ b.val < o1 + s1 := hm 1
  have h2 : o2 ≤ c.val ∧ c.val < o2 + s2 := hm 2
  omega

theorem idx2 {n0 n1 o0 o1 s0 s1 : ℕ} {inb} (a' : Fin s0) (b' : Fin s1) (a : Fin n0) (b : Fin n1)
    (ha : a.val = o0 + a'.val) (hb : b.val = o1 + b'.val) :
    (Rect.unit (s := ⟨2, ![n0, n1]⟩) ![o0, o1] ![s0, s1] inb).toLoadRect.idx (ix2 a' b') = ix2 a b := by
  funext i
  match i with
  | 0 => exact Fin.ext (show o0 + 1 * a'.val = a.val by omega)
  | 1 => exact Fin.ext (show o1 + 1 * b'.val = b.val by omega)

theorem idx3 {n0 n1 n2 o0 o1 o2 s0 s1 s2 : ℕ} {inb} (a' : Fin s0) (b' : Fin s1) (c' : Fin s2) (a : Fin n0) (b : Fin n1) (c : Fin n2)
    (ha : a.val = o0 + a'.val) (hb : b.val = o1 + b'.val) (hc : c.val = o2 + c'.val) :
    (Rect.unit (s := ⟨3, ![n0, n1, n2]⟩) ![o0, o1, o2] ![s0, s1, s2] inb).toLoadRect.idx (ix3 a' b' c') = ix3 a b c := by
  funext i
  match i with
  | 0 => exact Fin.ext (show o0 + 1 * a'.val = a.val by omega)
  | 1 => exact Fin.ext (show o1 + 1 * b'.val = b.val by omega)
  | 2 => exact Fin.ext (show o2 + 1 * c'.val = c.val by omega)

theorem idx4 {n0 n1 n2 n3 o0 o1 o2 o3 s0 s1 s2 s3 : ℕ} {inb} (a' : Fin s0) (b' : Fin s1) (c' : Fin s2) (d' : Fin s3)
    (a : Fin n0) (b : Fin n1) (c : Fin n2) (d : Fin n3)
    (ha : a.val = o0 + a'.val) (hb : b.val = o1 + b'.val) (hc : c.val = o2 + c'.val) (hd : d.val = o3 + d'.val) :
    (Rect.unit (s := ⟨4, ![n0, n1, n2, n3]⟩) ![o0, o1, o2, o3] ![s0, s1, s2, s3] inb).toLoadRect.idx (ix4 a' b' c' d') = ix4 a b c d := by
  funext i
  match i with
  | 0 => exact Fin.ext (show o0 + 1 * a'.val = a.val by omega)
  | 1 => exact Fin.ext (show o1 + 1 * b'.val = b.val by omega)
  | 2 => exact Fin.ext (show o2 + 1 * c'.val = c.val by omega)
  | 3 => exact Fin.ext (show o3 + 1 * d'.val = d.val by omega)

/-! Reading back at an index what the stores hold. -/

theorem cov2 {sig : RefSig} {κ : Kind} {sp : Space} {n0 n1 o0 o1 s0 s1 : ℕ} {inb} (v : View sig κ sp ⟨2, ![n0, n1]⟩ e)
    (L : List (View.Piece Val ⟨2, ![n0, n1]⟩ e)) (a' : Fin s0) (b' : Fin s1) (a : Fin n0) (b : Fin n1)
    (ha : a.val = o0 + a'.val) (hb : b.val = o1 + b'.val) :
    v.readCov L (Rect.unit (s := ⟨2, ![n0, n1]⟩) ![o0, o1] ![s0, s1] inb).toLoadRect (ix2 a' b') = View.canon L (ix2 a b) := by
  rw [View.readCov_eq_canon']
  exact congrArg (View.canon L) (idx2 a' b' a b ha hb)

theorem cov3 {sig : RefSig} {κ : Kind} {sp : Space} {n0 n1 n2 o0 o1 o2 s0 s1 s2 : ℕ} {inb} (v : View sig κ sp ⟨3, ![n0, n1, n2]⟩ e)
    (L : List (View.Piece Val ⟨3, ![n0, n1, n2]⟩ e)) (a' : Fin s0) (b' : Fin s1) (c' : Fin s2) (a : Fin n0) (b : Fin n1) (c : Fin n2)
    (ha : a.val = o0 + a'.val) (hb : b.val = o1 + b'.val) (hc : c.val = o2 + c'.val) :
    v.readCov L (Rect.unit (s := ⟨3, ![n0, n1, n2]⟩) ![o0, o1, o2] ![s0, s1, s2] inb).toLoadRect (ix3 a' b' c') = View.canon L (ix3 a b c) := by
  rw [View.readCov_eq_canon']
  exact congrArg (View.canon L) (idx3 a' b' c' a b c ha hb hc)

end Cert.KernelIdeal.Canon

end
-- ==== Proof.Out.EvalA.lean ====
/-
The attention part of the kernel's body at an index: the means, the scales and the codes of the queries.
-/
module

public import proofs.«01_k».proof.Proof.Model
public import proofs.«01_k».proof.Proof.MeansPay
public import proofs.«01_k».proof.Proof.Out.Spec
public import proofs.«01_k».proof.Proof.Out.Canon

@[expose] public section

set_option maxRecDepth 16384

noncomputable section

namespace Cert.KernelIdeal.Eval

open Cert.KernelIdeal Cert.KernelIdeal.Gen Cert.KernelIdeal.Value
open Idealize.ShloMosaic
open Cert.KernelIdeal.Spec Cert.KernelIdeal.Scale Cert.KernelIdeal.Row Cert.KernelIdeal.Canon

theorem bit_apply {s : Shape} (v : FVec Ideal s .f32) (b : BitVec 32) (t : IVec s 32) (i : s.Idx) :
    Model.bit v b t i = sbit (v i) b (t i) := by
  have : Model.bit v b t i = Scalar.select (Ideal.cmp .oge (v i) (Ideal.ofBits .f32 ((t i + b) <<< (23#32).toNat))) (t i + b) (t i) := rfl
  rw [this, sbit]
  change Scalar.select (BitVec.ofBool (decide (Ideal.ofBits .f32 ((t i + b) <<< 23) ≤ v i))) _ _ = _
  by_cases h : Ideal.ofBits .f32 ((t i + b) <<< 23) ≤ v i
  · rw [if_pos h, decide_eq_true h]; rfl
  · rw [if_neg h, decide_eq_false h]; rfl

theorem field_apply {s : Shape} (v : FVec Ideal s .f32) (i : s.Idx) : Model.field v i = sfield (v i) := by
  simp only [Model.field, bit_apply, sfield]; rfl

theorem expo_apply {s : Shape} (v : FVec Ideal s .f32) (i : s.Idx) : Model.expo v i = sexpo (v i) := by
  have : Model.expo v i = Scalar.select (IntOp.cmpi .eq (Model.field v i) 0#32) 0#32 (Model.field v i - 126#32) := rfl
  rw [this, field_apply, sexpo]
  change Scalar.select (BitVec.ofBool (sfield (v i) == 0#32)) _ _ = _
  by_cases h : sfield (v i) = 0#32
  · rw [if_pos h, beq_iff_eq.mpr h]; rfl
  · rw [if_neg h, beq_false_of_ne h]; rfl

theorem scaleOf_apply {s : Shape} (v : FVec Ideal s .f32) (i : s.Idx) : Model.scaleOf v i = sscale (v i) := by
  have : Model.scaleOf v i = Ideal.ofBits .f32 ((Model.expo v i + 127#32) <<< (23#32).toNat) := rfl
  rw [this, expo_apply]; rfl

theorem invOf_apply {s : Shape} (v : FVec Ideal s .f32) (i : s.Idx) : Model.invOf v i = sinv (v i) := by
  have : Model.invOf v i = Ideal.ofBits .f32 ((127#32 - Model.expo v i) <<< (23#32).toNat) := rfl
  rw [this, expo_apply]; rfl

variable (M : Model.Mem Ideal) (X : ℕ → ℕ → ℝ)
variable (hX : ∀ (s : Fin 1024) (c : Fin 640), M.C2 (ix3 0 s c) = ((X s.val c.val : ℝ) : EReal))

include hX in
theorem means_at (n : Fin 8) (c : Fin 640) : Model.means M (ix2 n c) = ((qm X n.val c.val : ℝ) : EReal) := by
  have e : Model.ldr (s := S1x1024x640) M.C2 (Rect.unit (s := S1x1024x640) ![0, 0, 0] S1x1024x640.size (Model.in3 (Model.leB rfl) (Model.leB rfl) (Model.leB rfl))).toLoadRect = M.C2 := by
    funext x
    refine congrArg M.C2 (funext fun a => Fin.ext ?_)
    match a with
    | 0 => show 0 + 1 * (x 0).val = (x 0).val; omega
    | 1 => show 0 + 1 * (x 1).val = (x 1).val; omega
    | 2 => show 0 + 1 * (x 2).val = (x 2).val; omega
  refine (congrArg (fun z => k0_pay131 (F := Ideal) k0_pay130 z (ix2 n c)) e).trans ((means_apply M.C2 n c).trans ?_)
  rw [ofBits_128, Ideal.div_coe (by norm_num)]
  simp only [hX, coe_sum, ← EReal.coe_mul]
  rfl

include hX in
theorem xblk_at (q : ℕ) (hq : q < 8) (r : Fin 128) (c : Fin 640) :
    Model.xblk M q hq (ix2 r c) = ((X (128 * q + r.val) c.val : ℝ) : EReal) := by
  have e : ∀ z : Vec Ideal S1x128x640 .bf16, (shapeCast S128x640 z (by decide : S1x128x640.ShapeCasts S128x640) : FVec Ideal S128x640 .bf16) (ix2 r c) = z (ix3 0 r c) := fun z => by
    pointwise
  refine (e _).trans ((congrArg M.C2 (idx3 0 r c 0 ⟨128 * q + r.val, by omega⟩ c rfl rfl (by omega))).trans (hX _ _))

theorem top16 : Ideal.ofBits .bf16 0x7F80#16 = (⊤ : EReal) := by simp [Ideal.ofBits, Ideal.ieee]
theorem bot16 : Ideal.ofBits .bf16 0xFF80#16 = (⊥ : EReal) := by simp [Ideal.ofBits, Ideal.ieee]
theorem bot32 : Ideal.ofBits .f32 0xFF800000#32 = (⊥ : EReal) := by simp [Ideal.ofBits, Ideal.ieee]

theorem red_hi (x : FVec Ideal S128x640 .bf16) (c : Fin 640) :
    (extf .f32 (shapeCast S1x640 (multiReduction .maximumf [0] S640 x 0xFF80#16)) bitsLt_bf16_f32 : FVec Ideal S1x640 .f32) (ix2 0 c)
      = (Finset.univ : Finset (Fin 128)).fold max ⊥ (fun r => x (ix2 r c)) := by
  pointwise
  rw [show Ideal.ofBits FTy.bf16 65408#16 = ⊥ from bot16]

theorem red_lo (x : FVec Ideal S128x640 .bf16) (c : Fin 640) :
    (extf .f32 (shapeCast S1x640 (multiReduction .minimumf [0] S640 x 0x7F80#16)) bitsLt_bf16_f32 : FVec Ideal S1x640 .f32) (ix2 0 c)
      = (Finset.univ : Finset (Fin 128)).fold min ⊤ (fun r => x (ix2 r c)) := by
  pointwise
  rw [show Ideal.ofBits FTy.bf16 32640#16 = ⊤ from top16]

theorem cat_at (f : Fin 8 → FVec Ideal S1x640 .f32) (n : Fin 8) (c : Fin 640) :
    (concatenate S8x640 0 [⟨S1x640, f 0⟩, ⟨S1x640, f 1⟩, ⟨S1x640, f 2⟩, ⟨S1x640, f 3⟩, ⟨S1x640, f 4⟩, ⟨S1x640, f 5⟩, ⟨S1x640, f 6⟩, ⟨S1x640, f 7⟩] Model.cat8 : FVec Ideal S8x640 .f32) (ix2 n c) = f n (ix2 0 c) := by
  fin_cases n <;> pointwise <;> rfl

theorem head_at (A : FVec Ideal S8x640 .f32) (h : ℕ) (hh : h < 4) (hs) (n : Fin 8) (l : Fin 128) :
    (mulf (broadcastTo S8x128 (shapeCast S8x1 (shapeCast S8x1 (multiReduction .maximumf [1] S8
      (extractStridedSlice S8x160 ![0, 160 * h] A hs) 0xFF800000#32))))
    (broadcast S8x128 (Scalar.ofBits .f32 0x3B124925#32)) : FVec Ideal S8x128 .f32) (ix2 n l)
    = (Finset.univ : Finset (Fin 160)).fold max ⊥ (fun d => A (ix2 n ⟨160 * h + d.val, by omega⟩)) * ((c0 : ℝ) : EReal) := by
  rw [← ofBits_c0]
  pointwise
  rw [show Ideal.ofBits FTy.f32 4286578688#32 = ⊥ from bot32]

include hX in
theorem hi_at (q : ℕ) (hq : q < 8) (c : Fin 640) :
    Model.hi M q hq (ix2 0 c) = ((rmax fun r : Fin 128 => X (128 * q + r.val) c.val : ℝ) : EReal) := by
  refine (red_hi (Model.xblk M q hq) c).trans ?_
  simp only [xblk_at M X hX]
  exact fold_max_coe _

include hX in
theorem lo_at (q : ℕ) (hq : q < 8) (c : Fin 640) :
    Model.lo M q hq (ix2 0 c) = ((-rmax (fun r : Fin 128 => -X (128 * q + r.val) c.val) : ℝ) : EReal) := by
  refine (red_lo (Model.xblk M q hq) c).trans ?_
  simp only [xblk_at M X hX]
  exact fold_min_coe _

/-- The largest distance of a column's entries from its mean. -/
def far (n c : ℕ) : ℝ :=
  max ((rmax fun r : Fin 128 => X (128 * n + r.val) c) - qm X n c) (qm X n c - -rmax (fun r : Fin 128 => -X (128 * n + r.val) c))

include hX in
theorem amax_at (n : Fin 8) (c : Fin 640) : Model.amax M (ix2 n c) = ((far X n.val c.val : ℝ) : EReal) := by
  have e1 := cat_at (fun i : Fin 8 => Model.hi M i.val i.isLt) n c
  have e2 := cat_at (fun i : Fin 8 => Model.lo M i.val i.isLt) n c
  have e3 := means_at M X hX n c
  simp only [hi_at M X hX] at e1
  simp only [lo_at M X hX] at e2
  refine (congrArg₂ (fun x y : EReal => max x y) (congrArg₂ (fun x y : EReal => x - y) e1 e3) (congrArg₂ (fun x y : EReal => x - y) e3 e2)).trans ?_
  rw [← EReal.coe_sub, ← EReal.coe_sub, ← EReal.coe_strictMono.monotone.map_max]
  rfl

theorem far_max (n h : ℕ) (hn : n < 8) : (rmax fun d : Fin 160 => far X n (160 * h + d.val)) = qmax X n h := by
  have hx : ∀ (r : Fin 128) (c : ℕ), xd X (128 * n + r.val) c = X (128 * n + r.val) c - qm X n c := fun r c => by
    rw [xd, show (128 * n + r.val) / 128 = n by have := r.isLt; omega]
  apply le_antisymm
  · refine rmax_le.mpr fun d => max_le ?_ ?_
    · rw [sub_le_iff_le_add]
      refine rmax_le.mpr fun r => ?_
      have h1 := le_rmax (fun p : Fin 128 × Fin 160 => |xd X (128 * n + p.1.val) (160 * h + p.2.val)|) (r, d)
      have h2 := le_abs_self (xd X (128 * n + r.val) (160 * h + d.val))
      rw [hx] at h2
      simp only [hx] at h1 h2
      simp only [qmax, hx]
      linarith
    · rw [sub_neg_eq_add, ← le_sub_iff_add_le']
      refine rmax_le.mpr fun r => ?_
      have h1 := le_rmax (fun p : Fin 128 × Fin 160 => |xd X (128 * n + p.1.val) (160 * h + p.2.val)|) (r, d)
      have h2 := neg_le_abs (xd X (128 * n + r.val) (160 * h + d.val))
      simp only [hx] at h1 h2
      simp only [qmax, hx]
      linarith
  · refine rmax_le.mpr fun p => ?_
    refine le_trans ?_ (le_rmax (fun d : Fin 160 => far X n (160 * h + d.val)) p.2)
    rw [hx]
    have h1 := le_rmax (fun r : Fin 128 => X (128 * n + r.val) (160 * h + p.2.val)) p.1
    have h2 := le_rmax (fun r : Fin 128 => -X (128 * n + r.val) (160 * h + p.2.val)) p.1
    simp only [far] at *
    refine abs_le'.mpr ⟨le_trans ?_ (le_max_left _ _), le_trans ?_ (le_max_right _ _)⟩ <;> linarith

include hX in
theorem headMax_at (h : ℕ) (hh : h < 4) (n : Fin 8) (l : Fin 128) :
    Model.headMax M h hh (ix2 n l) = ((qmax X n.val h * c0 : ℝ) : EReal) := by
  refine (head_at (Model.amax M) h hh _ n l).trans ?_
  simp only [amax_at M X hX]
  rw [fold_max_coe, far_max X n.val h n.isLt, ← EReal.coe_mul]

variable (bx : Bd X 1024 640)

theorem cast3 (f : FVec Ideal S8x128 .f32) (q : Fin 8) (l : Fin 128) : (shapeCast S1x8x128 f : FVec Ideal S1x8x128 .f32) (ix3 0 q l) = f (ix2 q l) := by
  pointwise

include hX bx in
theorem inv_at (h : ℕ) (hh : h < 4) (q : Fin 8) (l : Fin 128) :
    (shapeCast S1x8x128 (Model.invOf (Model.headMax M h hh)) : FVec Ideal S1x8x128 .f32) (ix3 0 q l) = (((2 : ℝ) ^ (-qe X q.val h) : ℝ) : EReal) := by
  rw [cast3, invOf_apply, headMax_at M X hX, (sexpo_spec (q_ok bx q.isLt hh).1 (q_ok bx q.isLt hh).2).2]
  rfl

/-- The constant by which scores become powers of two. -/
def kp : ℝ := sm * (Real.log 2)⁻¹

theorem kap_eq : (Model.kap : Ideal .f32) = ((kp : ℝ) : EReal) := rfl

include hX bx in
theorem qsc_at (h : ℕ) (hh : h < 4) (q : Fin 8) (l : Fin 128) :
    (shapeCast S1x8x128 (mulf (Model.scaleOf (Model.headMax M h hh)) (broadcast S8x128 Model.kap)) : FVec Ideal S1x8x128 .f32) (ix3 0 q l)
      = (((2 : ℝ) ^ (qe X q.val h) * kp : ℝ) : EReal) := by
  rw [cast3]
  show (Model.scaleOf (Model.headMax M h hh) (ix2 q l) : EReal) * Model.kap = _
  rw [scaleOf_apply, headMax_at M X hX, (sexpo_spec (q_ok bx q.isLt hh).1 (q_ok bx q.isLt hh).2).1, kap_eq, ← EReal.coe_mul]
  rfl

include hX bx in
theorem L20_at (h : Fin 4) (q : Fin 8) (l : Fin 128) : View.canon (Model.L20 M) (ix3 h q l) = (((2 : ℝ) ^ (-qe X q.val h.val) : ℝ) : EReal) := by
  unfold Model.L20 Model.invPc
  obtain ⟨h, hh⟩ := h
  match h, hh with
  | 3, _ => exact (hit3 _ _ _ _ _ 0 q l rfl (by omega) (by omega)).trans (inv_at M X hX bx 3 _ q l)
  | 2, _ => exact (miss3 _ _ _ _ _ (by simp only []; omega)).trans ((hit3 _ _ _ _ _ 0 q l rfl (by omega) (by omega)).trans (inv_at M X hX bx 2 _ q l))
  | 1, _ => exact (miss3 _ _ _ _ _ (by simp only []; omega)).trans ((miss3 _ _ _ _ _ (by simp only []; omega)).trans ((hit3 _ _ _ _ _ 0 q l rfl (by omega) (by omega)).trans (inv_at M X hX bx 1 _ q l)))
  | 0, _ => exact (miss3 _ _ _ _ _ (by simp only []; omega)).trans ((miss3 _ _ _ _ _ (by simp only []; omega)).trans ((miss3 _ _ _ _ _ (by simp only []; omega)).trans ((hit3 _ _ _ _ _ 0 q l rfl (by omega) (by omega)).trans (inv_at M X hX bx 0 _ q l))))

include hX bx in
theorem L21_at (h : Fin 4) (q : Fin 8) (l : Fin 128) : View.canon (Model.L21 M) (ix3 h q l) = (((2 : ℝ) ^ (qe X q.val h.val) * kp : ℝ) : EReal) := by
  unfold Model.L21 Model.qscPc
  obtain ⟨h, hh⟩ := h
  match h, hh with
  | 3, _ => exact (hit3 _ _ _ _ _ 0 q l rfl (by omega) (by omega)).trans (qsc_at M X hX bx 3 _ q l)
  | 2, _ => exact (miss3 _ _ _ _ _ (by simp only []; omega)).trans ((hit3 _ _ _ _ _ 0 q l rfl (by omega) (by omega)).trans (qsc_at M X hX bx 2 _ q l))
  | 1, _ => exact (miss3 _ _ _ _ _ (by simp only []; omega)).trans ((miss3 _ _ _ _ _ (by simp only []; omega)).trans ((hit3 _ _ _ _ _ 0 q l rfl (by omega) (by omega)).trans (qsc_at M X hX bx 1 _ q l)))
  | 0, _ => exact (miss3 _ _ _ _ _ (by simp only []; omega)).trans ((miss3 _ _ _ _ _ (by simp only []; omega)).trans ((miss3 _ _ _ _ _ (by simp only []; omega)).trans ((hit3 _ _ _ _ _ 0 q l rfl (by omega) (by omega)).trans (qsc_at M X hX bx 0 _ q l))))

theorem mm_step (f : FVec Ideal S8x640 .f32) (h : ℕ) (hh : h < 4) (hs) (q : Fin 8) (d : Fin 160) :
    (shapeCast S8x160 (truncf .bf16 (extractStridedSlice S8x160 ![0, 160 * h] f hs) bitsLt_bf16_f32) : FVec Ideal S8x160 .bf16) (ix2 q d)
      = f (ix2 q ⟨160 * h + d.val, by omega⟩) := by
  pointwise

include hX in
theorem mm_at (h : ℕ) (hh : h < 4) (hs) (q : Fin 8) (d : Fin 160) :
    (shapeCast S8x160 (truncf .bf16 (extractStridedSlice S8x160 ![0, 160 * h] (Model.means M) hs) bitsLt_bf16_f32) : FVec Ideal S8x160 .bf16) (ix2 q d)
      = ((qm X q.val (160 * h + d.val) : ℝ) : EReal) :=
  (mm_step (Model.means M) h hh hs q d).trans (means_at M X hX q _)

include hX in
theorem L18_at (h : Fin 4) (q : Fin 8) (d : Fin 160) (a : Fin 32) (d' : Fin 256) (ha : a.val = 8 * h.val + q.val) (hd : d'.val = d.val) :
    View.canon (Model.L18 M) (ix2 a d') = ((qm X q.val (160 * h.val + d.val) : ℝ) : EReal) := by
  unfold Model.L18 Model.mmPc
  obtain ⟨h, hh⟩ := h
  have hq := q.isLt
  simp only [] at ha
  match h, hh with
  | 3, _ => exact (hit2 _ _ _ _ q d (by omega) (by omega)).trans (mm_at M X hX 3 (by omega) _ q d)
  | 2, _ => exact (miss2 _ _ _ _ (by omega)).trans ((hit2 _ _ _ _ q d (by omega) (by omega)).trans (mm_at M X hX 2 (by omega) _ q d))
  | 1, _ => exact (miss2 _ _ _ _ (by omega)).trans ((miss2 _ _ _ _ (by omega)).trans ((hit2 _ _ _ _ q d (by omega) (by omega)).trans (mm_at M X hX 1 (by omega) _ q d)))
  | 0, _ => exact (miss2 _ _ _ _ (by omega)).trans ((miss2 _ _ _ _ (by omega)).trans ((miss2 _ _ _ _ (by omega)).trans ((hit2 _ _ _ _ q d (by omega) (by omega)).trans (mm_at M X hX 0 (by omega) _ q d))))

end Cert.KernelIdeal.Eval
end
-- ==== Proof.Out.EvalB.lean ====
/-
The attention part of the kernel's body at an index: the correction by the means, the codes of the queries and their
products with the codes of the keys.
-/
module

public import proofs.«01_k».proof.Proof.Out.EvalA
public import Idealize.ShloMosaic.Lib.MatmulPlain

@[expose] public section

set_option maxRecDepth 16384

noncomputable section

namespace Cert.KernelIdeal.Eval

open Cert.KernelIdeal Cert.KernelIdeal.Gen Cert.KernelIdeal.Value
open Idealize.ShloMosaic
open Cert.KernelIdeal.Spec Cert.KernelIdeal.Scale Cert.KernelIdeal.Row Cert.KernelIdeal.Canon

theorem sum256 (f : Fin 256 → EReal) (h : ∀ k : Fin 256, 160 ≤ k.val → f k = 0) :
    ∑ k, f k = ∑ d : Fin 160, f ⟨d.val, by omega⟩ := by
  rw [show (∑ k : Fin 256, f k) = ∑ k : Fin (160 + 96), f k from rfl, Fin.sum_univ_add]
  rw [show (∑ i : Fin 96, f (Fin.natAdd 160 i)) = 0 from Finset.sum_eq_zero fun i _ => h _ (by simp), add_zero]
  rfl

theorem corr_step (A : FVec Ideal S1x1024x256 .bf16) (B : FVec Ideal S32x256 .bf16) (hs) (k : Ideal .f32) (j : Fin 1024) (a : Fin 32) :
    (shapeCast S1024x32 (mulf (matmul dot_S1024x256_S32x256_S1024x32_1_1_0_0_n_n none
      (shapeCast S1024x256 A hs : FVec Ideal S1024x256 .bf16) B (constant S1024x32 .f32 0x00000000#32)) (broadcast S1024x32 k)) : FVec Ideal S1024x32 .f32) (ix2 j a)
      = (∑ d : Fin 256, A (ix3 0 j d) * B (ix2 a d)) * k := by
  pointwise

theorem select_eq (a b : ℕ) (ha : a < 1024) (hb : b < 1024) (x y : EReal) :
    Scalar.select (IntOp.cmpi CmpIPredicate.eq (BitVec.ofNat 32 a) (BitVec.ofNat 32 b)) x y = if a = b then x else y := by
  have h : IntOp.cmpi CmpIPredicate.eq (BitVec.ofNat 32 a) (BitVec.ofNat 32 b) = BitVec.ofBool (decide (a = b)) := by
    show BitVec.ofBool (BitVec.ofNat 32 a == BitVec.ofNat 32 b) = _
    congr 1
    rw [Bool.eq_iff_iff, beq_iff_eq, decide_eq_true_iff]
    constructor
    · intro h
      have := congrArg BitVec.toNat h
      simp at this
      omega
    · rintro rfl; rfl
  rw [h]
  by_cases hab : a = b
  · rw [if_pos hab, decide_eq_true hab]; rfl
  · rw [if_neg hab, decide_eq_false hab]; rfl

theorem select_sle (a b : ℕ) (ha : a < 1024) (hb : b < 1024) (x y : EReal) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) := by
    show BitVec.ofBool (BitVec.sle (BitVec.ofNat 32 a) (BitVec.ofNat 32 b)) = _
    congr 1
    rw [BitVec.sle_eq_decide, BitVec.toInt_eq_toNat_of_lt (by simp; omega), BitVec.toInt_eq_toNat_of_lt (by simp; omega)]
    simp [Nat.mod_eq_of_lt (show a < 4294967296 by omega), Nat.mod_eq_of_lt (show b < 4294967296 by omega)]
  rw [h]
  by_cases hab : a ≤ b
  · rw [if_pos hab, decide_eq_true hab]; rfl
  · rw [if_neg hab, decide_eq_false hab]; rfl

theorem quot_a : ∀ a : Fin 256, (Scalar.select
            (IntOp.andi
              (IntOp.cmpi CmpIPredicate.ne
                (IntOp.subi (BitVec.setWidth 32 (IntOp.cmpi CmpIPredicate.sgt (BitVec.ofNat 32 a.val) 0#32))
                  (BitVec.setWidth 32 (IntOp.cmpi CmpIPredicate.slt (BitVec.ofNat 32 a.val) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 a.val) 128#32) 0#32))
            (IntOp.subi (IntOp.divsi ArithUnit.vector (BitVec.ofNat 32 a.val) 128#32) 1#32)
            (IntOp.divsi ArithUnit.vector (BitVec.ofNat 32 a.val) 128#32)) = BitVec.ofNat 32 (a.val / 128) := by decide +kernel

theorem quot_b : ∀ a : Fin 256, (Scalar.select
            (IntOp.andi
              (IntOp.cmpi CmpIPredicate.ne
                (IntOp.subi (BitVec.setWidth 32 (IntOp.cmpi CmpIPredicate.sgt (BitVec.ofNat 32 a.val) 0#32))
                  (BitVec.setWidth 32 (IntOp.cmpi CmpIPredicate.slt (BitVec.ofNat 32 a.val) 0#32)))
                1#32)
              (IntOp.cmpi CmpIPredicate.ne (IntOp.remsi ArithUnit.vector (BitVec.ofNat 32 a.val) 128#32) 0#32))
            (IntOp.subi (IntOp.divsi ArithUnit.vector (BitVec.ofNat 32 a.val) 128#32) 1#32)
            (IntOp.divsi ArithUnit.vector (BitVec.ofNat 32 a.val) 128#32)) = BitVec.ofNat 32 (a.val / 128) := by decide +kernel

theorem ofBits_128th : Ideal.ofBits .f32 0x3C000000#32 = ((1 / 128 : ℝ) : EReal) := by
  simp [Ideal.ofBits, Ideal.ieee, -EReal.coe_mul]
  norm_num

theorem centre_at (a b : Fin 256) : Model.centre (F := Ideal) (ix2 a b)
    = (((if a.val = b.val then 1 else 0) - (if a.val / 128 = b.val / 128 then 1 / 128 else 0) : ℝ) : EReal) := by
  pointwise [Model.centre, k0_pay200, k0_pay201, k0_pay202, k0_pay203]
  have h1 := a.isLt
  have h2 := b.isLt
  rw [quot_a, quot_b, select_eq _ _ (by omega) (by omega), select_eq _ _ (by omega) (by omega),
    show Ideal.ofBits FTy.f32 1006632960#32 = ((1 / 128 : ℝ) : EReal) from ofBits_128th, EReal.coe_sub]
  refine congrArg₂ (fun x y : EReal => x - y) ?_ ?_
  · split <;> rfl
  · split <;> rfl

theorem y_step (A : FVec Ideal S1x256x640 .bf16) (B : FVec Ideal S256x256 .bf16) (hs) (c : Fin 640) (r : Fin 256) :
    (matmul dot_S640x256_S256x256_S640x256_1_0_0_1_n_n none
      (transpose S640x256 [1, 0] (shapeCast S256x640 A hs : FVec Ideal S256x640 .bf16)) B (constant S640x256 .f32 0x00000000#32) : FVec Ideal S640x256 .f32) (ix2 c r)
      = ∑ k : Fin 256, A (ix3 0 k c) * B (ix2 k r) := by
  pointwise

theorem code_step (Y : FVec Ideal S640x256 .f32) (I : FVec Ideal S1x1x128 .f32) (q h : ℕ) (hh : h < 4) (hs) (hs') (d : Fin 160) (r : Fin 128) :
    (shapeCast S160x128 (truncf .fp8e4m3 (minimumf (broadcast S160x128 (Scalar.ofBits .f32 0x43E00000#32))
    (maximumf (broadcast S160x128 (Scalar.ofBits .f32 0xC3E00000#32))
      (mulf (extractStridedSlice S160x128 ![160 * h, 128 * (q % 2)] Y hs)
        (broadcastTo S160x128 (shapeCast S1x128 I hs'))))) bitsLt_fp8e4m3_f32) : FVec Ideal S160x128 .fp8e4m3) (ix2 d r)
      = min ((448 : ℝ) : EReal) (max ((-448 : ℝ) : EReal) (Y (ix2 ⟨160 * h + d.val, by omega⟩ ⟨128 * (q % 2) + r.val, by omega⟩) * I (ix3 0 0 r))) := by
  rw [← ofBits_448, ← ofBits_n448]
  pointwise

theorem castK_at {n : ℕ} (A : (⟨3, ![1, n, 256]⟩ : Shape).Idx → EReal) (hs) (j : Fin n) (d : Fin 256) : shapeCast ⟨2, ![n, 256]⟩ A hs (ix2 j d) = A (ix3 0 j d) := by
  refine congrArg A (Shape.reshapeEquiv_eq_of_rowMajor _ ?_)
  rw [Shape.rowMajor_val_two, Shape.rowMajor_val_three]
  show ((0 * n + j.val) * 256 + d.val : ℕ) = j.val * 256 + d.val
  simp

theorem castV_at {n : ℕ} (A : (⟨4, ![1, 1, 160, n]⟩ : Shape).Idx → EReal) (hs) (d : Fin 160) (j : Fin n) : shapeCast ⟨2, ![160, n]⟩ A hs (ix2 d j) = A (ix4 0 0 d j) := by
  refine congrArg A (Shape.reshapeEquiv_eq_of_rowMajor _ ?_)
  rw [Shape.rowMajor_val_two, Shape.rowMajor_val_four]
  show (((0 * 1 + 0) * 160 + d.val) * n + j.val : ℕ) = d.val * n + j.val
  simp

theorem ix_eq {n m : ℕ} (a : Fin n) (b : Fin m) : (ValueIdx.ix2 a b : (⟨2, ![n, m]⟩ : Shape).Idx) = ix2 a b := by
  funext i
  match i with
  | 0 => rfl
  | 1 => rfl

theorem bits0 : Ideal.ofBits .f32 0x00000000#32 = 0 := by simp [Ideal.ofBits, Ideal.ieee]

theorem raw_step (n : ℕ) (A : FVec Ideal ⟨3, ![1, n, 256]⟩ .fp8e4m3) (B : FVec Ideal S256x512 .fp8e4m3) (hs) (j : Fin n) (c : Fin 512) :
    (matmul (φ₁ := .fp8e4m3) (φ₂ := .fp8e4m3) (DotDims.plain n 256 512) none (shapeCast ⟨2, ![n, 256]⟩ A hs) B (constant ⟨2, ![n, 512]⟩ .f32 0x00000000#32) : FVec Ideal ⟨2, ![n, 512]⟩ .f32) (ix2 j c)
      = ∑ d : Fin 256, A (ix3 0 j d) * B (ix2 d c) := by
  refine (Ideal.matmul_plain_apply none _ _ _ j c).trans ?_
  simp only [ix_eq]
  rw [show (constant (⟨2, ![n, 512]⟩ : Shape) .f32 0x00000000#32 : FVec Ideal _ .f32) (ix2 j c) = 0 from bits0, zero_add]
  exact Finset.sum_congr rfl fun d _ => congrArg (fun x : EReal => x * (B (ix2 d c) : EReal)) (castK_at A hs j d)

theorem o_step (n : ℕ) (A : FVec Ideal ⟨4, ![1, 1, 160, n]⟩ .fp8e4m3) (B : FVec Ideal ⟨2, ![n, 512]⟩ .fp8e4m3) (hs) (d : Fin 160) (c : Fin 512) :
    (matmul (φ₁ := .fp8e4m3) (φ₂ := .fp8e4m3) (DotDims.plain 160 n 512) none (shapeCast ⟨2, ![160, n]⟩ A hs) B (constant S160x512 .f32 0x00000000#32) : FVec Ideal S160x512 .f32) (ix2 d c)
      = ∑ j : Fin n, A (ix4 0 0 d j) * B (ix2 j c) := by
  refine (Ideal.matmul_plain_apply none _ _ _ d c).trans ?_
  simp only [ix_eq]
  rw [show (constant S160x512 .f32 0x00000000#32 : FVec Ideal _ .f32) (ix2 d c) = 0 from bits0, zero_add]
  exact Finset.sum_congr rfl fun j _ => congrArg (fun x : EReal => x * (B (ix2 j c) : EReal)) (castV_at A hs d j)

theorem c_step (A : FVec Ideal S1x1x128 .f32) (B : FVec Ideal S1x1x128 .f32) (hs hs') (r : Fin 128) :
    (mulf (shapeCast S1x128 A hs) (shapeCast S1x128 B hs') : FVec Ideal S1x128 .f32) (ix2 0 r) = A (ix3 0 0 r) * B (ix3 0 0 r) := by
  pointwise

theorem s_step {n kb h : ℕ} (raw : FVec Ideal ⟨2, ![n, 512]⟩ .f32) (C : FVec Ideal S1x128 .f32) (E : FVec Ideal S64x1 .f32) (hs) (hs') (hn : 64 * kb + 64 ≤ n) (hh : h < 4)
    (j : Fin 64) (r : Fin 128) :
    (addf (mulf (extractStridedSlice S64x128 ![64 * kb, 128 * h] raw hs) (broadcastTo S64x128 C)) (broadcastTo S64x128 (shapeCast S64x1 E hs')) : FVec Ideal S64x128 .f32) (ix2 j r)
      = raw (ix2 ⟨64 * kb + j.val, by omega⟩ ⟨128 * h + r.val, by omega⟩) * C (ix2 0 r) + E (ix2 j 0) := by
  pointwise
  refine congrArg (fun x : EReal => x * C (ix2 0 r) + E (ix2 j 0)) (congrArg raw ?_)
  funext a
  match a with
  | 0 => rfl
  | 1 => rfl

theorem mask_step (f : FVec Ideal S64x128 .f32) (m : ℕ) (hm : m ≤ 64) (j : Fin 64) (r : Fin 128) :
    (select (cmpi .sle (addi Model.keyI (broadcast S64x128 (BitVec.ofNat 32 m))) Model.qI) f (broadcast S64x128 (Scalar.ofBits .f32 0xFF800000#32)) : FVec Ideal S64x128 .f32) (ix2 j r)
      = if j.val + m ≤ r.val then f (ix2 j r) else ⊥ := by
  rw [← bot32]
  pointwise [Model.keyI, Model.qI]
  rw [show IntOp.addi (BitVec.ofNat 32 j.val) (BitVec.ofNat 32 m) = BitVec.ofNat 32 (j.val + m) from (BitVec.ofNat_add _ _).symm]
  exact select_sle _ _ (by omega) (by omega) _ _

theorem m8_step (f : FVec Ideal S8x128 .f32) (g : FVec Ideal S64x128 .f32) (a : Fin 8) (r : Fin 128) :
    (maximumf f (multiReduction .maximumf [0] S8x128 (shapeCast S8x8x128 g) 0xFF800000#32) : FVec Ideal S8x128 .f32) (ix2 a r)
      = max (f (ix2 a r)) ((Finset.univ : Finset (Fin 8)).fold max ⊥ fun i => g (ix2 ⟨i.val * 8 + a.val, by omega⟩ r)) := by
  rw [← bot32]
  pointwise

theorem l8_step (f : FVec Ideal S8x128 .f32) (g : FVec Ideal S64x128 .f32) (a : Fin 8) (r : Fin 128) :
    (addf f (multiReduction .add [0] S8x128 (shapeCast S8x8x128 g) 0x00000000#32) : FVec Ideal S8x128 .f32) (ix2 a r)
      = f (ix2 a r) + ∑ i : Fin 8, g (ix2 ⟨i.val * 8 + a.val, by omega⟩ r) := by
  pointwise

theorem ofBits_8 : Ideal.ofBits .f32 0x41000000#32 = ((8 : ℝ) : EReal) := by
  simp [Ideal.ofBits, Ideal.ieee, -EReal.coe_mul]
  norm_num

theorem ofBits_1 : Ideal.ofBits .f32 0x3F800000#32 = 1 := by
  simp [Ideal.ofBits, Ideal.ieee, -EReal.coe_mul]
  norm_num

theorem shift_step (f : FVec Ideal S8x128 .f32) (r : Fin 128) :
    (subf (shapeCast S1x128 (multiReduction .maximumf [0] S128 f 0xFF800000#32)) (broadcast S1x128 (Scalar.ofBits .f32 0x41000000#32)) : FVec Ideal S1x128 .f32) (ix2 0 r)
      = (Finset.univ : Finset (Fin 8)).fold max ⊥ (fun a => f (ix2 a r)) - ((8 : ℝ) : EReal) := by
  rw [← bot32, ← ofBits_8]
  pointwise

theorem invL_step (f : FVec Ideal S8x128 .f32) (r : Fin 128) :
    (divf (broadcast S1x128 (Scalar.ofBits .f32 0x3F800000#32)) (shapeCast S1x128 (multiReduction .add [0] S128 f 0x00000000#32)) : FVec Ideal S1x128 .f32) (ix2 0 r)
      = Ideal.div 1 (∑ a : Fin 8, f (ix2 a r)) := by
  rw [← ofBits_1]
  pointwise

theorem exp_step (s : FVec Ideal S64x128 .f32) (sh : FVec Ideal S1x128 .f32) (j : Fin 64) (r : Fin 128) :
    (exp2 (subf s (broadcastTo S64x128 sh)) : FVec Ideal S64x128 .f32) (ix2 j r) = Ideal.exp2 (s (ix2 j r) - sh (ix2 0 r)) := by
  pointwise
  rfl

theorem p_step (p : FVec Ideal S64x128 .f32) (j : Fin 64) (r : Fin 128) :
    (shapeCast S64x128 (truncf .fp8e4m3 (minimumf (broadcast S64x128 (Scalar.ofBits .f32 0x43E00000#32))
    (maximumf (broadcast S64x128 (Scalar.ofBits .f32 0xC3E00000#32)) p)) bitsLt_fp8e4m3_f32) : FVec Ideal S64x128 .fp8e4m3) (ix2 j r)
      = min ((448 : ℝ) : EReal) (max ((-448 : ℝ) : EReal) (p (ix2 j r))) := by
  rw [← ofBits_448, ← ofBits_n448]
  pointwise

theorem oblk_step (o : FVec Ideal S160x512 .f32) (W : FVec Ideal S1x160x128 .f32) (il : FVec Ideal S1x128 .f32) (h : ℕ) (hh : h < 4) (hs hs') (d : Fin 160) (r : Fin 128) :
    (shapeCast S160x128 (truncf .bf16 (mulf (mulf (extractStridedSlice S160x128 ![0, 128 * h] o hs) (shapeCast S160x128 W hs'))
      (broadcastTo S160x128 il)) bitsLt_bf16_f32) : FVec Ideal S160x128 .bf16) (ix2 d r)
      = o (ix2 d ⟨128 * h + r.val, by omega⟩) * W (ix3 0 d r) * il (ix2 0 r) := by
  pointwise

theorem out_step (o : FVec Ideal S640x128 .bf16) (r : Fin 128) (c : Fin 640) :
    (shapeCast S1x128x640 (transpose S128x640 [1, 0] o (by decide : S640x128.Transposes [1, 0] S128x640)) : FVec Ideal S1x128x640 .bf16) (ix3 0 r c) = o (ix2 c r) := by
  pointwise

end Cert.KernelIdeal.Eval
end
-- ==== Proof.Out.EvalC.lean ====
/-
The attention part of the kernel's body over the reals: each result is the row of the attention at its query, head and
column.
-/
module

public import proofs.«01_k».proof.Proof.Out.EvalB

@[expose] public section

set_option maxRecDepth 16384

noncomputable section

namespace Cert.KernelIdeal.Eval

open Cert.KernelIdeal Cert.KernelIdeal.Gen Cert.KernelIdeal.Value
open Idealize.ShloMosaic
open Cert.KernelIdeal.Spec Cert.KernelIdeal.Scale Cert.KernelIdeal.Row Cert.KernelIdeal.Canon

/-- What the attention part reads is what the quantisation of the keys and the values left. -/
structure Good (M : Model.Mem Ideal) (X K V : ℕ → ℕ → ℝ) : Prop where
  hX : ∀ (s : Fin 1024) (c : Fin 640), M.C2 (ix3 0 s c) = ((X s.val c.val : ℝ) : EReal)
  h13 : ∀ (j : Fin 1024) (d : Fin 256), M.C13 (ix3 ⟨Model.gi M.i, Model.gi_lt M.i⟩ j d) = ((if d.val < 160 then kcode K j.val d.val else 0 : ℝ) : EReal)
  h14 : ∀ (j : Fin 1024) (d : Fin 256), M.C14 (ix3 ⟨Model.gi M.i, Model.gi_lt M.i⟩ j d) = ((if d.val < 160 then ks K j.val d.val else 0 : ℝ) : EReal)
  h15 : ∀ (n : Fin 16) (l : Fin 128), M.C15 (ix3 ⟨Model.gi M.i, Model.gi_lt M.i⟩ n l) = (((2 : ℝ) ^ ke K n.val : ℝ) : EReal)
  h16 : ∀ (d : Fin 160) (l : Fin 128), M.C16 (ix3 ⟨Model.gi M.i, Model.gi_lt M.i⟩ d l) = (((2 : ℝ) ^ ve V d.val : ℝ) : EReal)
  h11 : ∀ (d : Fin 160) (j : Fin 1024), M.C11 (ix4 0 ⟨Model.gi M.i, Model.gi_lt M.i⟩ d j) = ((vcode V j.val d.val : ℝ) : EReal)
  h17 : ∀ (L) (a : Fin 256) (b : Fin 512), (∃ p ∈ L, ix2 a b ∈ p.1.set) → M.R17 L (ix2 a b) = View.canon L (ix2 a b)
  h18 : ∀ (L) (a : Fin 32) (b : Fin 256), (∃ p ∈ L, ix2 a b ∈ p.1.set) → M.R18 L (ix2 a b) = View.canon L (ix2 a b)
  bx : Bd X 1024 640

variable {M : Model.Mem Ideal} {X K V : ℕ → ℕ → ℝ} (G : Good M X K V)

theorem mem2 {n0 n1 o0 o1 s0 s1 : ℕ} {inb} (a : Fin n0) (b : Fin n1) (h : o0 ≤ a.val ∧ a.val < o0 + s0 ∧ o1 ≤ b.val ∧ b.val < o1 + s1) :
    ix2 a b ∈ (Rect.unit (s := ⟨2, ![n0, n1]⟩) ![o0, o1] ![s0, s1] inb).set := by
  rw [Rect.mem_set_unit (inb := inb)]
  intro i
  match i with
  | 0 => exact ⟨h.1, h.2.1⟩
  | 1 => exact ⟨h.2.2.1, h.2.2.2⟩

/-! ## The correction by the means -/

include G in
theorem R18_at (h : Fin 4) (q : Fin 8) (d : Fin 160) (a : Fin 32) (d' : Fin 256) (ha : a.val = 8 * h.val + q.val) (hd : d'.val = d.val) :
    M.R18 (Model.L18 M) (ix2 a d') = ((qm X q.val (160 * h.val + d.val) : ℝ) : EReal) := by
  refine (G.h18 _ _ _ ?_).trans (L18_at M X G.hX h q d a d' ha hd)
  have hq := q.isLt
  have hd' := d.isLt
  obtain ⟨h, hh⟩ := h
  simp only [] at ha
  refine ⟨Model.mmPc M h hh, ?_, mem2 (inb := Rect.inb₂ (by change 8 * h + 8 ≤ 32; omega) (Model.leB rfl)) _ _ (by omega)⟩
  unfold Model.L18
  match h, hh with
  | 0, _ => simp
  | 1, _ => simp
  | 2, _ => simp
  | 3, _ => simp

include G in
theorem corr_at (h : Fin 4) (q : Fin 8) (j : Fin 1024) (a : Fin 32) (ha : a.val = 8 * h.val + q.val) :
    Model.corr M (ix2 j a) = (((∑ d : Fin 160, ks K j.val d.val * qm X q.val (160 * h.val + d.val)) * kp : ℝ) : EReal) := by
  refine (corr_step _ _ _ _ j a).trans ?_
  have e : ∀ d : Fin 256, Model.ldr (s := S5x1024x256) M.C14 (Rect.unit (s := S5x1024x256) ![Model.gi M.i, 0, 0] S1x1024x256.size
      (Model.in3 (by have := Model.gi_lt M.i; change Model.gi M.i + 1 ≤ 5; omega) (Model.leB rfl) (Model.leB rfl))).toLoadRect (ix3 0 j d)
      = ((if d.val < 160 then ks K j.val d.val else 0 : ℝ) : EReal) := fun d =>
    (congrArg M.C14 (idx3 0 j d ⟨Model.gi M.i, Model.gi_lt M.i⟩ j d rfl (by omega) (by omega))).trans (G.h14 j d)
  refine (congrArg₂ (fun x y : EReal => x * y) ((Finset.sum_congr rfl fun d _ => congrArg (fun x : EReal => x * (M.R18 (Model.L18 M) (ix2 a d) : EReal)) (e d)).trans (sum256 _ ?_)) kap_eq).trans ?_
  · intro k hk
    rw [if_neg (by omega)]
    exact zero_mul _
  · rw [EReal.coe_mul, ← coe_sum]
    refine congrArg (fun x : EReal => x * ((kp : ℝ) : EReal)) (Finset.sum_congr rfl fun d _ => ?_)
    rw [R18_at G h q d a ⟨d.val, by omega⟩ ha rfl, EReal.coe_mul, if_pos d.isLt]

include G in
theorem L22_at (h : Fin 4) (q : Fin 8) (j : Fin 1024) (a : Fin 32) (ha : a.val = 8 * h.val + q.val) :
    View.canon (Model.L22 M) (ix2 j a) = (((∑ d : Fin 160, ks K j.val d.val * qm X q.val (160 * h.val + d.val)) * kp : ℝ) : EReal) :=
  (hit2 _ _ _ _ j a (by omega) (by omega)).trans (corr_at G h q j a ha)

/-! ## The query codes -/

theorem sum_centre (f : Fin 256 → ℝ) (r : Fin 256) :
    ∑ k : Fin 256, f k * ((if k.val = r.val then 1 else 0) - (if k.val / 128 = r.val / 128 then 1 / 128 else 0))
      = f r - (∑ k : Fin 128, f ⟨128 * (r.val / 128) + k.val, by omega⟩) * (1 / 128) := by
  simp only [mul_sub, Finset.sum_sub_distrib]
  congr 1
  · rw [Finset.sum_eq_single r]
    · simp
    · intro b _ hb
      rw [if_neg (fun h => hb (Fin.ext h)), mul_zero]
    · intro h; exact absurd (Finset.mem_univ _) h
  · rw [show (∑ k : Fin 256, f k * (if k.val / 128 = r.val / 128 then 1 / 128 else 0)) = ∑ k : Fin (128 + 128), f k * (if k.val / 128 = r.val / 128 then 1 / 128 else 0) from rfl,
      Fin.sum_univ_add, Finset.sum_mul]
    have hr : r.val / 128 = 0 ∨ r.val / 128 = 1 := by omega
    rcases hr with h | h
    · have e2 : ∀ i : Fin 128, (Fin.natAdd 128 i).val / 128 = 1 := fun i => by simp
      have e1 : ∀ i : Fin 128, (Fin.castAdd 128 i).val / 128 = 0 := fun i => by simp
      simp only [e1, e2, h]
      simp only [if_true, one_ne_zero, if_false, mul_zero, Finset.sum_const_zero, add_zero]
      refine Finset.sum_congr rfl fun i _ => ?_
      congr 2
      ext
      simp
    · have e2 : ∀ i : Fin 128, (Fin.natAdd 128 i).val / 128 = 1 := fun i => by simp
      have e1 : ∀ i : Fin 128, (Fin.castAdd 128 i).val / 128 = 0 := fun i => by simp
      simp only [e1, e2, h]
      simp only [if_true, zero_ne_one, if_false, mul_zero, Finset.sum_const_zero, zero_add]
      refine Finset.sum_congr rfl fun i _ => ?_
      congr 2

include G in
theorem y_at (pr : ℕ) (hp : pr < 4) (c : Fin 640) (r : Fin 256) : Model.yOf M pr hp (ix2 c r) = ((xd X (256 * pr + r.val) c.val : ℝ) : EReal) := by
  refine (y_step _ _ _ c r).trans ?_
  have e : ∀ k : Fin 256, Model.ldr (s := S1x1024x640) M.C2 (Rect.unit (s := S1x1024x640) ![0, 256 * pr, 0] S1x256x640.size
      (Model.in3 (Model.leB rfl) (by change 256 * pr + 256 ≤ 1024; omega) (Model.leB rfl))).toLoadRect (ix3 0 k c)
      = ((X (256 * pr + k.val) c.val : ℝ) : EReal) := fun k =>
    (congrArg M.C2 (idx3 0 k c 0 ⟨256 * pr + k.val, by omega⟩ c rfl rfl (by omega))).trans (G.hX _ _)
  refine (Finset.sum_congr rfl fun k _ => congrArg₂ (fun x y : EReal => x * y) (e k) (centre_at k r)).trans ?_
  simp only [← EReal.coe_mul, coe_sum]
  rw [sum_centre (fun k : Fin 256 => X (256 * pr + k.val) c.val) r]
  unfold xd qm
  have hr := r.isLt
  refine congrArg _ (congrArg₂ (fun x y : ℝ => x - y * (1 / 128)) rfl (Finset.sum_congr rfl fun k _ => congrArg (fun n => X n c.val) ?_))
  simp only []
  omega

include G in
theorem code_at (q h : ℕ) (hq : q < 8) (hh : h < 4) (d : Fin 160) (r : Fin 128) :
    (shapeCast S160x128 (Model.code M q h hq hh) : FVec Ideal S160x128 .fp8e4m3) (ix2 d r) = ((qcode X (128 * q + r.val) h d.val : ℝ) : EReal) := by
  refine (code_step _ _ q h hh _ _ d r).trans ?_
  have e : M.v20.readCov (Model.L20 M) (Rect.unit (s := S4x8x128) ![h, q, 0] S1x1x128.size
          (Model.in3 (by change h + 1 ≤ 4; omega) (by change q + 1 ≤ 8; omega) (Model.leB rfl))).toLoadRect (ix3 0 0 r) = (((2 : ℝ) ^ (-qe X q h) : ℝ) : EReal) :=
    (cov3 _ _ 0 0 r ⟨h, hh⟩ ⟨q, hq⟩ r rfl rfl (by omega)).trans (L20_at M X G.hX G.bx ⟨h, hh⟩ ⟨q, hq⟩ r)
  refine (congrArg (fun x : EReal => min ((448 : ℝ) : EReal) (max ((-448 : ℝ) : EReal) x)) (congrArg₂ (fun x y : EReal => x * y) (y_at G (q / 2) (by omega) _ _) e)).trans ?_
  rw [← EReal.coe_mul, clip_coe]
  unfold qcode
  have hr := r.isLt
  rw [show (128 * q + r.val) / 128 = q by omega]
  simp only []
  rw [show 256 * (q / 2) + (128 * (q % 2) + r.val) = 128 * q + r.val by omega]

include G in
theorem R17_at (q : ℕ) (hq : q < 8) (h : ℕ) (hh : h < 4) (d : Fin 160) (r : Fin 128) (d' : Fin 256) (c : Fin 512) (hd : d'.val = d.val) (hc : c.val = 128 * h + r.val) :
    M.R17 (Model.L17 M (q + 1) hq) (ix2 d' c) = ((qcode X (128 * q + r.val) h d.val : ℝ) : EReal) := by
  have hr := r.isLt
  have hd' := d.isLt
  refine (G.h17 _ _ _ ?_).trans ?_
  · refine ⟨Model.qtPc M q h hq hh, ?_, mem2 (inb := Rect.inb₂ (Model.leB rfl) (by change 128 * h + 128 ≤ 512; omega)) _ _ (by omega)⟩
    unfold Model.L17
    match h, hh with
    | 0, _ => simp
    | 1, _ => simp
    | 2, _ => simp
    | 3, _ => simp
  · unfold Model.L17 Model.qtPc
    match h, hh with
    | 3, _ => exact (hit2 _ _ _ _ d r (by omega) (by omega)).trans (code_at G q 3 hq _ d r)
    | 2, _ => exact (miss2 _ _ _ _ (by omega)).trans ((hit2 _ _ _ _ d r (by omega) (by omega)).trans (code_at G q 2 hq _ d r))
    | 1, _ => exact (miss2 _ _ _ _ (by omega)).trans ((miss2 _ _ _ _ (by omega)).trans ((hit2 _ _ _ _ d r (by omega) (by omega)).trans (code_at G q 1 hq _ d r)))
    | 0, _ => exact (miss2 _ _ _ _ (by omega)).trans ((miss2 _ _ _ _ (by omega)).trans ((miss2 _ _ _ _ (by omega)).trans ((hit2 _ _ _ _ d r (by omega) (by omega)).trans (code_at G q 0 hq _ d r))))

include G in
theorem raw_at (q : ℕ) (hq : q < 8) (h : ℕ) (hh : h < 4) (r : Fin 128) (j : Fin (128 * (q + 1))) (c : Fin 512) (hc : c.val = 128 * h + r.val) :
    (Model.blk M q hq).raw (ix2 j c) = ((∑ d : Fin 160, kcode K j.val d.val * qcode X (128 * q + r.val) h d.val : ℝ) : EReal) := by
  have hj := j.isLt
  refine (raw_step (128 * (q + 1)) _ _ _ j c).trans ?_
  have e : ∀ d : Fin 256, Model.ldr (s := S5x1024x256) M.C13 (Rect.unit (s := S5x1024x256) ![Model.gi M.i, 0, 0] ![1, 128 * (q + 1), 256]
      (Model.in3 (by have := Model.gi_lt M.i; change Model.gi M.i + 1 ≤ 5; omega) (by change 0 + 128 * (q + 1) ≤ 1024; omega) (Model.leB rfl))).toLoadRect (ix3 0 j d)
      = ((if d.val < 160 then kcode K j.val d.val else 0 : ℝ) : EReal) := fun d =>
    (congrArg M.C13 (idx3 0 j d ⟨Model.gi M.i, Model.gi_lt M.i⟩ ⟨j.val, by omega⟩ d rfl (by simp) (by omega))).trans (G.h13 _ d)
  refine ((Finset.sum_congr rfl fun d _ => congrArg (fun x : EReal => x * (M.R17 (Model.L17 M (q + 1) hq) (ix2 d c) : EReal)) (e d)).trans (sum256 _ ?_)).trans ?_
  · intro k hk
    rw [if_neg (by omega)]
    exact zero_mul _
  · rw [← coe_sum]
    refine Finset.sum_congr rfl fun d _ => ?_
    rw [R17_at G q hq h hh d r ⟨d.val, by omega⟩ c rfl hc, EReal.coe_mul, if_pos d.isLt]

/-! ## The scores -/

/-- The score in powers of two. -/
def asc (X K : ℕ → ℕ → ℝ) (h s j : ℕ) : ℝ := score X K h s j * (Real.log 2)⁻¹

/-- The score with the mask. -/
def msc (X K : ℕ → ℕ → ℝ) (h s j : ℕ) : EReal := if j ≤ s then ((asc X K h s j : ℝ) : EReal) else ⊥

include G in
theorem sFree_at (q : ℕ) (hq : q < 8) (h : ℕ) (hh : h < 4) (kb : ℕ) (hb : kb < 2 * (q + 1)) (j : Fin 64) (r : Fin 128) :
    Model.sFree M (Model.blk M q hq) h hh kb hb (ix2 j r) = ((asc X K h (128 * q + r.val) (64 * kb + j.val) : ℝ) : EReal) := by
  have hr := r.isLt
  have hj := j.isLt
  refine (s_step (n := 128 * (q + 1)) _ _ _ _ _ (by omega) hh j r).trans ?_
  have e1 := raw_at G q hq h hh r ⟨64 * kb + j.val, by omega⟩ ⟨128 * h + r.val, by omega⟩ rfl
  have e2 : Model.cOf M (Model.blk M q hq) h hh kb (by omega) (ix2 0 r) = (((2 : ℝ) ^ ke K kb * ((2 : ℝ) ^ qe X q h * kp) : ℝ) : EReal) := by
    refine (c_step _ _ _ _ r).trans ?_
    rw [EReal.coe_mul]
    refine congrArg₂ (fun x y : EReal => x * y) ?_ ?_
    · exact (congrArg M.C15 (idx3 0 0 r ⟨Model.gi M.i, Model.gi_lt M.i⟩ ⟨kb, by omega⟩ r rfl rfl (by omega))).trans (G.h15 _ r)
    · exact (cov3 _ _ 0 0 r ⟨h, hh⟩ ⟨q, hq⟩ r rfl rfl (by omega)).trans (L21_at M X G.hX G.bx ⟨h, hh⟩ ⟨q, hq⟩ r)
  have e3 : M.v22.readCov (Model.L22 M) (Rect.unit (s := S1024x32) ![64 * kb, 8 * h + q] S64x1.size
      (Rect.inb₂ (by change 64 * kb + 64 ≤ 1024; omega) (by change 8 * h + q + 1 ≤ 32; omega))).toLoadRect (ix2 j 0)
      = (((∑ d : Fin 160, ks K (64 * kb + j.val) d.val * qm X q (160 * h + d.val)) * kp : ℝ) : EReal) :=
    (cov2 _ _ j 0 ⟨64 * kb + j.val, by omega⟩ ⟨8 * h + q, by omega⟩ rfl rfl).trans (L22_at G ⟨h, hh⟩ ⟨q, hq⟩ ⟨64 * kb + j.val, by omega⟩ ⟨8 * h + q, by omega⟩ rfl)
  refine (congrArg₂ (fun x y : EReal => x + y) (congrArg₂ (fun x y : EReal => x * y) e1 e2) e3).trans ?_
  rw [← EReal.coe_mul, ← EReal.coe_add]
  refine congrArg _ ?_
  unfold asc score kp
  rw [show (128 * q + r.val) / 128 = q by omega, show (64 * kb + j.val) / 64 = kb by omega]
  rw [show (∑ d : Fin 160, qcode X (128 * q + r.val) h d.val * kcode K (64 * kb + j.val) d.val) = ∑ d : Fin 160, kcode K (64 * kb + j.val) d.val * qcode X (128 * q + r.val) h d.val from
      Finset.sum_congr rfl fun d _ => mul_comm _ _,
    show (∑ d : Fin 160, qm X q (160 * h + d.val) * ks K (64 * kb + j.val) d.val) = ∑ d : Fin 160, ks K (64 * kb + j.val) d.val * qm X q (160 * h + d.val) from
      Finset.sum_congr rfl fun d _ => mul_comm _ _]
  ring

include G in
theorem sBlk_at (q : ℕ) (hq : q < 8) (h : ℕ) (hh : h < 4) (kb : ℕ) (hb : kb < 2 * (q + 1)) (j : Fin 64) (r : Fin 128) :
    Model.sBlk M (Model.blk M q hq) h hh kb hb (ix2 j r) = msc X K h (128 * q + r.val) (64 * kb + j.val) := by
  have hr := r.isLt
  have hj := j.isLt
  unfold Model.sBlk msc
  by_cases hc : 2 * q ≤ kb
  · rw [show Nat.ble (2 * (Model.blk M q hq).qb) kb = true from Nat.ble_eq_true_of_le hc, cond_true]
    refine (mask_step _ (64 * kb - 128 * q) (by omega) j r).trans ?_
    refine if_congr (by omega) (sFree_at G q hq h hh kb hb j r) rfl
  · rw [show Nat.ble (2 * (Model.blk M q hq).qb) kb = false from by
        rw [Bool.eq_false_iff]; exact fun h => hc (Nat.le_of_ble_eq_true h), cond_false, if_pos (by omega)]
    exact sFree_at G q hq h hh kb hb j r

end Cert.KernelIdeal.Eval
end
-- ==== Proof.Out.EvalD.lean ====
/-
The softmax and the weighted values of the kernel's body over the reals: the body's result is the attention's.
-/
module

public import proofs.«01_k».proof.Proof.Out.EvalC

@[expose] public section

set_option maxRecDepth 16384

noncomputable section

namespace Cert.KernelIdeal.Eval

open Cert.KernelIdeal Cert.KernelIdeal.Gen Cert.KernelIdeal.Value
open Idealize.ShloMosaic
open Cert.KernelIdeal.Spec Cert.KernelIdeal.Scale Cert.KernelIdeal.Row Cert.KernelIdeal.Canon

variable {M : Model.Mem Ideal} {X K V : ℕ → ℕ → ℝ} (G : Good M X K V)

theorem sum_block (f : ℕ → EReal) (n : ℕ) : ∑ a : Fin 8, ∑ i : Fin 8, f (n + (i.val * 8 + a.val)) = ∑ t ∈ Finset.range 64, f (n + t) := by
  rw [Finset.sum_range (fun t => f (n + t)), Finset.sum_comm, ← Fintype.sum_prod_type' (fun (i a : Fin 8) => f (n + (i.val * 8 + a.val)))]
  refine Fintype.sum_equiv (finProdFinEquiv (m := 8) (n := 8)) _ (fun t : Fin 64 => f (n + t.val)) fun p => congrArg f ?_
  simp [finProdFinEquiv]
  omega

theorem sum_blocks' (f : ℕ → EReal) (k : ℕ) : ∑ a : Fin 8, ∑ kb ∈ Finset.range k, ∑ i : Fin 8, f (64 * kb + (i.val * 8 + a.val)) = ∑ j ∈ Finset.range (64 * k), f j := by
  induction k with
  | zero => simp
  | succ k ih =>
    simp only [Finset.sum_range_succ, Finset.sum_add_distrib]
    rw [ih, sum_block, show 64 * (k + 1) = 64 * k + 64 by ring, Finset.sum_range_add]

/-- The shift of a row. -/
def shv (X K : ℕ → ℕ → ℝ) (q h s : ℕ) : EReal :=
  (Finset.univ : Finset (Fin (128 * (q + 1)))).fold max ⊥ (fun j => msc X K h s j.val) - ((8 : ℝ) : EReal)

include G in
theorem sL_at (q : ℕ) (hq : q < 8) (h : ℕ) (hh : h < 4) (L : List (Model.Pc Ideal S1024x512 .f32)) (kb : ℕ) (j : Fin 64) (r : Fin 128)
    (a : Fin 1024) (c : Fin 512) (ha : a.val = 64 * kb + j.val) (hc : c.val = 128 * h + r.val) :
    ∀ (k : ℕ) (hk : k ≤ 2 * (q + 1)) (hkb : kb < k), View.canon (Model.sL M (Model.blk M q hq) h hh L k hk) (ix2 a c) = msc X K h (128 * q + r.val) (64 * kb + j.val)
  | k + 1, hk, hkb => by
    by_cases e : kb = k
    · subst e
      refine (hit2 _ _ _ _ j r (by omega) (by omega)).trans ?_
      exact (congrFun (shapeCast_self _ _) (ix2 j r)).trans (sBlk_at G q hq h hh kb hk j r)
    · have hj := j.isLt
      refine (miss2 _ _ _ _ (by omega)).trans ?_
      exact sL_at q hq h hh L kb j r a c ha hc k (by omega) (by omega)

include G in
theorem m8_le (q : ℕ) (hq : q < 8) (h : ℕ) (hh : h < 4) (a : Fin 8) (r : Fin 128) (v : EReal) :
    ∀ (k : ℕ) (hk : k ≤ 2 * (q + 1)), Model.m8 M (Model.blk M q hq) h hh k hk (ix2 a r) ≤ v ↔ ∀ kb < k, ∀ i : Fin 8, msc X K h (128 * q + r.val) (64 * kb + (i.val * 8 + a.val)) ≤ v
  | 0, hk => by
    rw [show Model.m8 M (Model.blk M q hq) h hh 0 hk (ix2 a r) = (⊥ : EReal) from bot32]
    exact ⟨fun _ kb h => absurd h (by omega), fun _ => bot_le⟩
  | k + 1, hk => by
    rw [show Model.m8 M (Model.blk M q hq) h hh (k + 1) hk (ix2 a r) = max (Model.m8 M (Model.blk M q hq) h hh k (by change k ≤ 2 * (q + 1); omega) (ix2 a r))
      ((Finset.univ : Finset (Fin 8)).fold max ⊥ fun i => Model.sBlk M (Model.blk M q hq) h hh k hk (ix2 ⟨i.val * 8 + a.val, by omega⟩ r)) from m8_step _ _ a r]
    rw [max_le_iff, m8_le q hq h hh a r v k (by omega), Finset.fold_max_le]
    constructor
    · rintro ⟨h1, -, h2⟩ kb hkb i
      by_cases e : kb = k
      · subst e
        have := h2 i (Finset.mem_univ _)
        rwa [sBlk_at G q hq h hh kb hk] at this
      · exact h1 kb (by omega) i
    · intro h1
      refine ⟨fun kb hkb => h1 kb (by omega), bot_le, fun i _ => ?_⟩
      rw [sBlk_at G q hq h hh k hk]
      exact h1 k (by omega) i

include G in
theorem shift_at (q : ℕ) (hq : q < 8) (h : ℕ) (hh : h < 4) (r : Fin 128) :
    Model.shift M (Model.blk M q hq) h hh (ix2 0 r) = shv X K q h (128 * q + r.val) := by
  refine (shift_step _ r).trans (congrArg (fun x : EReal => x - ((8 : ℝ) : EReal)) ?_)
  refine eq_of_forall_ge_iff fun v => ?_
  rw [Finset.fold_max_le, Finset.fold_max_le]
  constructor
  · rintro ⟨-, h1⟩
    refine ⟨bot_le, fun j _ => ?_⟩
    have hj := j.isLt
    have := (m8_le G q hq h hh ⟨j.val % 8, by omega⟩ r v (2 * (q + 1)) (Nat.le_refl _)).mp (h1 ⟨j.val % 8, by omega⟩ (Finset.mem_univ _)) (j.val / 64) (by omega) ⟨j.val / 8 % 8, by omega⟩
    rwa [show 64 * (j.val / 64) + (j.val / 8 % 8 * 8 + j.val % 8) = j.val by omega] at this
  · rintro ⟨-, h1⟩
    refine ⟨bot_le, fun a _ => (m8_le G q hq h hh a r v (2 * (q + 1)) (Nat.le_refl _)).mpr fun kb hkb i => ?_⟩
    have ha := a.isLt
    have hi := i.isLt
    exact h1 ⟨64 * kb + (i.val * 8 + a.val), by omega⟩ (Finset.mem_univ _)

include G in
theorem pExp_at (q : ℕ) (hq : q < 8) (h : ℕ) (hh : h < 4) (L : List (Model.Pc Ideal S1024x512 .f32)) (kb : ℕ) (hb : kb < 2 * (q + 1)) (j : Fin 64) (r : Fin 128) :
    Model.pExp M (Model.blk M q hq) h hh L kb hb (ix2 j r)
      = Ideal.exp2 (msc X K h (128 * q + r.val) (64 * kb + j.val) - shv X K q h (128 * q + r.val)) := by
  have hj := j.isLt
  have hr := r.isLt
  refine (exp_step _ _ j r).trans (congrArg Ideal.exp2 (congrArg₂ (fun x y : EReal => x - y) ?_ (shift_at G q hq h hh r)))
  exact (cov2 _ _ j r ⟨64 * kb + j.val, by omega⟩ ⟨128 * h + r.val, by omega⟩ rfl rfl).trans (sL_at G q hq h hh L kb j r _ _ rfl rfl (2 * (q + 1)) (Nat.le_refl _) hb)

include G in
theorem l8_at (q : ℕ) (hq : q < 8) (h : ℕ) (hh : h < 4) (L : List (Model.Pc Ideal S1024x512 .f32)) (a : Fin 8) (r : Fin 128) :
    ∀ (k : ℕ) (hk : k ≤ 2 * (q + 1)), Model.l8 M (Model.blk M q hq) h hh L k hk (ix2 a r)
      = ∑ kb ∈ Finset.range k, ∑ i : Fin 8, Ideal.exp2 (msc X K h (128 * q + r.val) (64 * kb + (i.val * 8 + a.val)) - shv X K q h (128 * q + r.val))
  | 0, hk => by
    rw [Finset.sum_range_zero]
    exact bits0
  | k + 1, hk => by
    refine (l8_step _ _ a r).trans ?_
    rw [l8_at q hq h hh L a r k (by omega), Finset.sum_range_succ]
    refine congrArg₂ (fun x y : EReal => x + y) rfl (Finset.sum_congr rfl fun i _ => ?_)
    exact pExp_at G q hq h hh L k hk _ r

include G in
theorem invL_at (q : ℕ) (hq : q < 8) (h : ℕ) (hh : h < 4) (L : List (Model.Pc Ideal S1024x512 .f32)) (r : Fin 128) :
    Model.invL M (Model.blk M q hq) h hh L (ix2 0 r)
      = Ideal.div 1 (∑ j : Fin (128 * (q + 1)), Ideal.exp2 (msc X K h (128 * q + r.val) j.val - shv X K q h (128 * q + r.val))) := by
  refine (invL_step _ r).trans (congrArg (fun x : EReal => Ideal.div 1 x) ?_)
  refine (Finset.sum_congr rfl fun a _ => l8_at G q hq h hh L a r (2 * (q + 1)) (Nat.le_refl _)).trans ?_
  rw [sum_blocks' (fun j => Ideal.exp2 (msc X K h (128 * q + r.val) j - shv X K q h (128 * q + r.val))), show 64 * (2 * (q + 1)) = 128 * (q + 1) by ring]
  exact Finset.sum_range _

/-- A code of the shifted powers. -/
def pcv (X K : ℕ → ℕ → ℝ) (q h s j : ℕ) : EReal :=
  min ((448 : ℝ) : EReal) (max ((-448 : ℝ) : EReal) (Ideal.exp2 (msc X K h s j - shv X K q h s)))

include G in
theorem pL_at (q : ℕ) (hq : q < 8) (h : ℕ) (hh : h < 4) (L : List (Model.Pc Ideal S1024x512 .f32)) (L' : List (Model.Pc Ideal S1024x512 .fp8e4m3)) (kb : ℕ) (j : Fin 64) (r : Fin 128)
    (a : Fin 1024) (c : Fin 512) (ha : a.val = 64 * kb + j.val) (hc : c.val = 128 * h + r.val) :
    ∀ (k : ℕ) (hk : k ≤ 2 * (q + 1)) (hkb : kb < k), View.canon (Model.pL M (Model.blk M q hq) h hh L L' k hk) (ix2 a c) = pcv X K q h (128 * q + r.val) (64 * kb + j.val)
  | k + 1, hk, hkb => by
    by_cases e : kb = k
    · subst e
      refine (hit2 _ _ _ _ j r (by omega) (by omega)).trans ((p_step _ j r).trans ?_)
      exact congrArg (fun x : EReal => min ((448 : ℝ) : EReal) (max ((-448 : ℝ) : EReal) x)) (pExp_at G q hq h hh L kb hk j r)
    · have hj := j.isLt
      refine (miss2 _ _ _ _ (by omega)).trans ?_
      exact pL_at q hq h hh L L' kb j r a c ha hc k (by omega) (by omega)

theorem pL_miss (q : ℕ) (hq : q < 8) (h : ℕ) (hh : h < 4) (L : List (Model.Pc Ideal S1024x512 .f32)) (L' : List (Model.Pc Ideal S1024x512 .fp8e4m3))
    (a : Fin 1024) (c : Fin 512) (hc : c.val < 128 * h) :
    ∀ (k : ℕ) (hk : k ≤ 2 * (q + 1)), View.canon (Model.pL M (Model.blk M q hq) h hh L L' k hk) (ix2 a c) = View.canon L' (ix2 a c)
  | 0, hk => rfl
  | k + 1, hk => by
    exact (miss2 _ _ _ _ (by omega)).trans (pL_miss q hq h hh L L' a c hc k (by omega))

include G in
theorem pH_at (q : ℕ) (hq : q < 8) (h : ℕ) (L : List (Model.Pc Ideal S1024x512 .f32)) (L' : List (Model.Pc Ideal S1024x512 .fp8e4m3)) (j : Fin (128 * (q + 1))) (r : Fin 128)
    (a : Fin 1024) (c : Fin 512) (ha : a.val = j.val) (hc : c.val = 128 * h + r.val) :
    ∀ (H : ℕ) (hH : H ≤ 4) (hh : h < H), View.canon (Model.pH M (Model.blk M q hq) L L' H hH) (ix2 a c) = pcv X K q h (128 * q + r.val) j.val
  | H + 1, hH, hh => by
    have hj := j.isLt
    have hr := r.isLt
    rw [Model.pH]
    by_cases e : h = H
    · subst e
      refine (pL_at G q hq h hH _ _ (j.val / 64) ⟨j.val % 64, by omega⟩ r a c (by simp only []; omega) hc (2 * (q + 1)) (Nat.le_refl _) (by omega)).trans ?_
      rw [show 64 * (j.val / 64) + j.val % 64 = j.val by omega]
    · refine (pL_miss q hq H hH _ _ a c (by omega) (2 * (q + 1)) (Nat.le_refl _)).trans ?_
      exact pH_at q hq h L L' j r a c ha hc H (by omega) (by omega)

include G in
theorem oOf_at (q : ℕ) (hq : q < 8) (h : ℕ) (hh : h < 4) (d : Fin 160) (r : Fin 128) (c : Fin 512) (hc : c.val = 128 * h + r.val) :
    Model.oOf M (128 * (q + 1)) (by omega) (Model.L24 M (q + 1) hq) (ix2 d c)
      = ∑ j : Fin (128 * (q + 1)), ((vcode V j.val d.val : ℝ) : EReal) * pcv X K q h (128 * q + r.val) j.val := by
  refine (o_step (128 * (q + 1)) _ _ _ d c).trans (Finset.sum_congr rfl fun j _ => congrArg₂ (fun x y : EReal => x * y) ?_ ?_)
  · have hj := j.isLt
    exact (congrArg M.C11 (idx4 0 0 d j 0 ⟨Model.gi M.i, Model.gi_lt M.i⟩ d ⟨j.val, by omega⟩ rfl rfl (by omega) (by simp))).trans (G.h11 d ⟨j.val, by omega⟩)
  · have hj := j.isLt
    refine (cov2 _ _ j c ⟨j.val, by omega⟩ c (by simp) (by omega)).trans ?_
    rw [Model.L24]
    exact pH_at G q hq h _ _ j r ⟨j.val, by omega⟩ c rfl hc 4 (Nat.le_refl 4) hh

/-- The result's row as the kernel computes it. -/
def kout (X K V : ℕ → ℕ → ℝ) (q h s d : ℕ) : EReal :=
  (∑ j : Fin (128 * (q + 1)), ((vcode V j.val d : ℝ) : EReal) * pcv X K q h s j.val) * (((2 : ℝ) ^ ve V d : ℝ) : EReal)
    * Ideal.div 1 (∑ j : Fin (128 * (q + 1)), Ideal.exp2 (msc X K h s j.val - shv X K q h s))

theorem kout_eq (X K V : ℕ → ℕ → ℝ) (q h s d : ℕ) (hq : q < 8) (hs : s < 128 * (q + 1)) : kout X K V q h s d = Spec.out X K V h s d :=
  Row.krow_eq (n := 128 * (q + 1)) (N := 1024) (by omega) (fun j => score X K h s j.val) (fun j => vcode V j.val d) ((2 : ℝ) ^ ve V d) s hs (fun j => asc X K h s j.val)
    fun j => rfl

include G in
theorem oPc_at (q : ℕ) (hq : q < 8) (h : ℕ) (hh : h < 4) (L : List (Model.Pc Ideal S1024x512 .f32)) (d : Fin 160) (r : Fin 128) :
    (shapeCast S160x128 (Model.oBlk M (Model.oOf M (128 * (q + 1)) (by omega) (Model.L24 M (q + 1) hq)) (Model.invL M (Model.blk M q hq) h hh L) h hh) : FVec Ideal S160x128 .bf16) (ix2 d r)
      = kout X K V q h (128 * q + r.val) d.val := by
  refine (oblk_step _ _ _ h hh _ _ d r).trans (congrArg₂ (fun x y : EReal => x * y) (congrArg₂ (fun x y : EReal => x * y) (oOf_at G q hq h hh d r _ rfl) ?_) (invL_at G q hq h hh L r))
  exact (congrArg M.C16 (idx3 0 d r ⟨Model.gi M.i, Model.gi_lt M.i⟩ d r rfl (by omega) (by omega))).trans (G.h16 d r)

include G in
theorem L25_at (q : ℕ) (hq : q < 8) (h : ℕ) (hh : h < 4) (d : Fin 160) (r : Fin 128) (c : Fin 640) (hc : c.val = 160 * h + d.val) :
    View.canon (Model.L25 M (q + 1) hq) (ix2 c r) = kout X K V q h (128 * q + r.val) d.val := by
  have hd := d.isLt
  rw [Model.L25]
  unfold Model.oPcq Model.oPc
  match h, hh with
  | 3, _ => exact (hit2 _ _ _ _ d r (by omega) (by omega)).trans (oPc_at G q hq 3 _ _ d r)
  | 2, _ => exact (miss2 _ _ _ _ (by omega)).trans ((hit2 _ _ _ _ d r (by omega) (by omega)).trans (oPc_at G q hq 2 _ _ d r))
  | 1, _ => exact (miss2 _ _ _ _ (by omega)).trans ((miss2 _ _ _ _ (by omega)).trans ((hit2 _ _ _ _ d r (by omega) (by omega)).trans (oPc_at G q hq 1 _ _ d r)))
  | 0, _ => exact (miss2 _ _ _ _ (by omega)).trans ((miss2 _ _ _ _ (by omega)).trans ((miss2 _ _ _ _ (by omega)).trans ((hit2 _ _ _ _ d r (by omega) (by omega)).trans (oPc_at G q hq 0 _ _ d r))))

include G in
theorem outL_at (q : ℕ) (hq : q < 8) (h : ℕ) (hh : h < 4) (d : Fin 160) (r : Fin 128) (s : Fin 1024) (c : Fin 640) (hs : s.val = 128 * q + r.val) (hc : c.val = 160 * h + d.val) :
    ∀ (k : ℕ) (hk : k ≤ 8) (hqk : q < k), View.canon (Model.outL M k hk) (ix3 0 s c) = kout X K V q h s.val d.val
  | k + 1, hk, hqk => by
    have hr := r.isLt
    rw [Model.outL]
    unfold Model.outPc
    by_cases e : q = k
    · subst e
      refine (hit3 _ _ _ _ _ 0 r c rfl hs (by omega)).trans ((out_step _ r c).trans ?_)
      rw [hs]
      exact (cov2 _ _ c r c r (by omega) (by omega)).trans (L25_at G q hq h hh d r c hc)
    · exact (miss3 _ _ _ _ _ (by omega)).trans (outL_at q hq h hh d r s c hs hc k (by omega) (by omega))

include G in
/-- The body's result is the attention's. -/
theorem out_at (s : Fin 1024) (c : Fin 640) :
    View.canon (Model.outL M 8 (Nat.le_refl 8)) (ix3 0 s c) = Spec.out X K V (c.val / 160) s.val (c.val % 160) := by
  have h1 := s.isLt
  have h2 := c.isLt
  refine (outL_at G (s.val / 128) (by omega) (c.val / 160) (by omega) ⟨c.val % 160, by omega⟩ ⟨s.val % 128, by omega⟩ s c (by simp only []; omega) (by simp only []; omega) 8 (Nat.le_refl 8) (by omega)).trans ?_
  exact kout_eq X K V _ _ _ _ (by omega) (by omega)

end Cert.KernelIdeal.Eval
end
-- ==== Proof.Out.PrepEval.lean ====
/-
The quantisation of the keys and the values over the reals.
-/
module

public import proofs.«01_k».proof.Proof.Out.EvalD
public import proofs.«01_k».proof.Proof.Prep

@[expose] public section

set_option maxRecDepth 16384

noncomputable section

namespace Cert.KernelIdeal.Eval

open Cert.KernelIdeal Cert.KernelIdeal.Gen Cert.KernelIdeal.Value
open Idealize.ShloMosaic
open Cert.KernelIdeal.Spec Cert.KernelIdeal.Scale Cert.KernelIdeal.Row Cert.KernelIdeal.Canon

/-! ## A group's stores among the others -/

theorem grp_at {e : EltTy} {s : Shape} (pc : (g : ℕ) → g < 5 → Model.Pc Ideal s e) (Z : List (Model.Pc Ideal s e)) (y : s.Idx) (g : ℕ) (hg : g < 5) (v : Elt Ideal e)
    (hh : ∀ L, View.canon (pc g hg :: L) y = v) (hm : ∀ (n : ℕ) (hn : n < 5), g < n → ∀ L, View.canon (pc n hn :: L) y = View.canon L y) :
    ∀ (n : ℕ) (hn : n ≤ 5) (h : g < n), View.canon (Model.grp pc Z n hn) y = v
  | n + 1, hn, h => by
    by_cases e : g = n
    · subst e
      exact hh _
    · exact (hm n hn (by omega) _).trans (grp_at pc Z y g hg v hh hm n (by omega) (by omega))

theorem grp_miss {e : EltTy} {s : Shape} (pc : (g : ℕ) → g < 5 → Model.Pc Ideal s e) (Z : List (Model.Pc Ideal s e)) (y : s.Idx)
    (hm : ∀ (n : ℕ) (hn : n < 5), ∀ L, View.canon (pc n hn :: L) y = View.canon L y) :
    ∀ (n : ℕ) (hn : n ≤ 5), View.canon (Model.grp pc Z n hn) y = View.canon Z y
  | 0, hn => rfl
  | n + 1, hn => (hm n hn _).trans (grp_miss pc Z y hm n (by omega))

theorem hit4 {e : EltTy} {n0 n1 n2 n3 s3 s2 : ℕ} {g : ℕ} {inb} (w : (Rect.unit (s := ⟨4, ![n0, n1, n2, n3]⟩) ![0, g, 0, 0] ![1, 1, s2, s3] inb).shape.Idx → Elt Ideal e)
    (L : List (Model.Pc Ideal ⟨4, ![n0, n1, n2, n3]⟩ e)) (z : Fin n0) (hz : z.val = 0) (gg : Fin n1) (h : gg.val = g) (a : Fin n2) (b : Fin n3) (a' : Fin s2) (b' : Fin s3)
    (ha : a.val = a'.val) (hb : b.val = b'.val) :
    View.canon (⟨Rect.unit (s := ⟨4, ![n0, n1, n2, n3]⟩) ![0, g, 0, 0] ![1, 1, s2, s3] inb, w⟩ :: L) (ix4 z gg a b) = w (ix4 0 0 a' b') := by
  refine canon_hit (s := ⟨4, ![n0, n1, n2, n3]⟩) (Rect.unit (s := ⟨4, ![n0, n1, n2, n3]⟩) ![0, g, 0, 0] ![1, 1, s2, s3] inb) w L _ (ix4 0 0 a' b') fun i => ?_
  match i with
  | 0 => show z.val = 0 + 1 * 0; omega
  | 1 => show gg.val = g + 1 * 0; omega
  | 2 => show a.val = 0 + 1 * a'.val; omega
  | 3 => show b.val = 0 + 1 * b'.val; omega

theorem miss4 {e : EltTy} {n0 n1 n2 n3 s3 s2 : ℕ} {g : ℕ} {inb} (w : (Rect.unit (s := ⟨4, ![n0, n1, n2, n3]⟩) ![0, g, 0, 0] ![1, 1, s2, s3] inb).shape.Idx → Elt Ideal e)
    (L : List (Model.Pc Ideal ⟨4, ![n0, n1, n2, n3]⟩ e)) (z : Fin n0) (gg : Fin n1) (a : Fin n2) (b : Fin n3) (h : gg.val < g) :
    View.canon (⟨Rect.unit (s := ⟨4, ![n0, n1, n2, n3]⟩) ![0, g, 0, 0] ![1, 1, s2, s3] inb, w⟩ :: L) (ix4 z gg a b) = View.canon L (ix4 z gg a b) := by
  refine View.canon_cons_of_not_mem _ _ fun hm => ?_
  rw [Rect.mem_set_unit (inb := inb)] at hm
  have h1 := (hm 1).1
  change g ≤ gg.val at h1
  omega

theorem grp_mem {e : EltTy} {s : Shape} (pc : (g : ℕ) → g < 5 → Model.Pc Ideal s e) (Z : List (Model.Pc Ideal s e)) (g : ℕ) (hg : g < 5) :
    ∀ (n : ℕ) (hn : n ≤ 5) (h : g < n), pc g hg ∈ Model.grp pc Z n hn
  | n + 1, hn, h => by
    by_cases e : g = n
    · subst e; exact List.mem_cons_self
    · exact List.mem_cons_of_mem _ (grp_mem pc Z g hg n (by omega) (by omega))

theorem mem_grp {e : EltTy} {s : Shape} (pc : (g : ℕ) → g < 5 → Model.Pc Ideal s e) (p : Model.Pc Ideal s e) :
    ∀ (n : ℕ) (hn : n ≤ 5) (h : p ∈ Model.grp pc [] n hn), ∃ g, ∃ hg : g < 5, p = pc g hg
  | 0, hn, h => absurd h List.not_mem_nil
  | n + 1, hn, h => by
    rcases List.mem_cons.mp h with h | h
    · exact ⟨n, hn, h⟩
    · exact mem_grp pc p n (by omega) h

/-! ## The steps -/

theorem cast_cols (A : FVec Ideal S1x1024x160 .bf16) (hs) (s : Fin 1024) (d : Fin 160) : (shapeCast S1024x160 A hs : FVec Ideal S1024x160 .bf16) (ix2 s d) = A (ix3 0 s d) := by
  pointwise

theorem cols_at (C : Vec Ideal S1x1024x800 .bf16) (g : ℕ) (hg : g < 5) (s : Fin 1024) (d : Fin 160) :
    Model.cols C g hg (ix2 s d) = C (ix3 0 s ⟨160 * g + d.val, by omega⟩) :=
  (cast_cols _ _ s d).trans (congrArg C (idx3 0 s d 0 s ⟨160 * g + d.val, by omega⟩ rfl (by omega) rfl))

theorem ofBits_1024th : Ideal.ofBits .f32 0x3A800000#32 = ((1 / 1024 : ℝ) : EReal) := by
  simp [Ideal.ofBits, Ideal.ieee, -EReal.coe_mul]
  norm_num

theorem kS_step (f : FVec Ideal S1024x160 .f32) (s : Fin 1024) (d : Fin 160) :
    Model.kS f (ix2 s d) = f (ix2 s d) - (∑ k : Fin 1024, f (ix2 k d)) * ((1 / 1024 : ℝ) : EReal) := by
  rw [← ofBits_1024th]
  pointwise [Model.kS]

theorem kAmax_step (f : FVec Ideal S1024x160 .f32) (n : Fin 16) (l : Fin 128) :
    Model.kAmax f (ix2 n l) = (Finset.univ : Finset (Fin 160)).fold max ⊥ (fun d => (Finset.univ : Finset (Fin 64)).fold max ⊥ fun r =>
      (FloatOps.absf (F := Ideal) (φ := .f32) (f (ix2 ⟨n.val * 64 + r.val, by omega⟩ d)) : EReal)) * ((c0 : ℝ) : EReal) := by
  rw [← ofBits_c0, ← bot32]
  pointwise [Model.kAmax]

theorem kCode_step (f : FVec Ideal S1024x160 .f32) (inv : FVec Ideal S16x128 .f32) (s : Fin 1024) (d : Fin 160) :
    (shapeCast S1x1024x160 (Model.kCode f inv) : FVec Ideal S1x1024x160 .fp8e4m3) (ix3 0 s d)
      = min ((448 : ℝ) : EReal) (max ((-448 : ℝ) : EReal) (f (ix2 s d) * inv (ix2 ⟨s.val / 64, by omega⟩ 0))) := by
  rw [← ofBits_448, ← ofBits_n448]
  pointwise [Model.kCode]

theorem kb_step (f : FVec Ideal S1024x160 .f32) (s : Fin 1024) (d : Fin 160) :
    (shapeCast S1x1024x160 (truncf .bf16 f bitsLt_bf16_f32) : FVec Ideal S1x1024x160 .bf16) (ix3 0 s d) = f (ix2 s d) := by
  pointwise

theorem ksc_step (f : FVec Ideal S16x128 .f32) (n : Fin 16) (l : Fin 128) : (shapeCast S1x16x128 f : FVec Ideal S1x16x128 .f32) (ix3 0 n l) = f (ix2 n l) := by
  pointwise

theorem vAmax_step (v : FVec Ideal S1024x160 .bf16) (d : Fin 160) :
    Model.vAmax v (ix2 0 d) = (Finset.univ : Finset (Fin 1024)).fold max ⊥ (fun s => (FloatOps.absf (F := Ideal) (φ := .bf16) (v (ix2 s d)) : EReal)) * ((c0 : ℝ) : EReal) := by
  rw [← ofBits_c0, ← bot16]
  pointwise [Model.vAmax]

theorem vCode_step (v : FVec Ideal S1024x160 .bf16) (inv : FVec Ideal S1x160 .f32) (d : Fin 160) (s : Fin 1024) :
    (shapeCast S1x1x160x1024 (Model.vCode v inv) : FVec Ideal S1x1x160x1024 .fp8e4m3) (ix4 0 0 d s)
      = min ((448 : ℝ) : EReal) (max ((-448 : ℝ) : EReal) (v (ix2 s d) * inv (ix2 0 d))) := by
  rw [← ofBits_448, ← ofBits_n448]
  pointwise [Model.vCode]

theorem vcol_step (f : FVec Ideal S1x160 .f32) (d : Fin 160) (l : Fin 128) :
    (shapeCast S1x160x128 (transpose S160x128 [1, 0] (broadcastTo S128x160 (shapeCast S1x160 f))) : FVec Ideal S1x160x128 .f32) (ix3 0 d l) = f (ix2 0 d) := by
  pointwise

theorem abs_coe (φ : FTy) (r : ℝ) : (FloatOps.absf (F := Ideal) (φ := φ) ((r : ℝ) : EReal) : EReal) = ((|r| : ℝ) : EReal) := rfl

/-! ## Their values over the reals -/

/-- The columns of a group, as reals. -/
def Kg (Kf : ℕ → ℕ → ℝ) (g : ℕ) (s d : ℕ) : ℝ := Kf s (160 * g + d)

theorem bd_Kg {Kf : ℕ → ℕ → ℝ} (b : Bd Kf 1024 800) {g : ℕ} (hg : g < 5) : Bd (Kg Kf g) 1024 160 :=
  fun s hs d hd => b s hs _ (by omega)

section
variable (C : Vec Ideal S1x1024x800 .bf16) (Kf : ℕ → ℕ → ℝ)
variable (hC : ∀ (s : Fin 1024) (c : Fin 800), C (ix3 0 s c) = ((Kf s.val c.val : ℝ) : EReal)) (b : Bd Kf 1024 800)

include hC in
theorem colsR (g : ℕ) (hg : g < 5) (s : Fin 1024) (d : Fin 160) : Model.cols C g hg (ix2 s d) = ((Kg Kf g s.val d.val : ℝ) : EReal) :=
  (cols_at C g hg s d).trans (hC s ⟨160 * g + d.val, by omega⟩)

include hC in
theorem kSg_at (g : ℕ) (hg : g < 5) (s : Fin 1024) (d : Fin 160) : Model.kSg C g hg (ix2 s d) = ((ks (Kg Kf g) s.val d.val : ℝ) : EReal) := by
  refine (kS_step _ s d).trans ?_
  have h : ∀ k : Fin 1024, (extf .f32 (Model.cols C g hg) bitsLt_bf16_f32 : FVec Ideal S1024x160 .f32) (ix2 k d) = ((Kg Kf g k.val d.val : ℝ) : EReal) :=
    fun k => colsR C Kf hC g hg k d
  rw [h s, Finset.sum_congr rfl fun k _ => h k, Row.coe_sum, ← EReal.coe_mul, ← EReal.coe_sub]
  rfl

include hC in
theorem kAmax_at (g : ℕ) (hg : g < 5) (n : Fin 16) (l : Fin 128) :
    Model.kAmax (Model.kSg C g hg) (ix2 n l) = ((kmax (Kg Kf g) n.val * c0 : ℝ) : EReal) := by
  refine (kAmax_step _ n l).trans ?_
  rw [EReal.coe_mul]
  refine congrArg (fun x : EReal => x * ((c0 : ℝ) : EReal)) ?_
  have h : ∀ (d : Fin 160) (r : Fin 64), (FloatOps.absf (F := Ideal) (φ := .f32) (Model.kSg C g hg (ix2 ⟨n.val * 64 + r.val, by omega⟩ d)) : EReal)
      = ((|ks (Kg Kf g) (64 * n.val + r.val) d.val| : ℝ) : EReal) := fun d r => by
    rw [kSg_at C Kf hC g hg, abs_coe, mul_comm 64 n.val]
  have h2 : ∀ d : Fin 160, (Finset.univ : Finset (Fin 64)).fold max ⊥ (fun r =>
      (FloatOps.absf (F := Ideal) (φ := .f32) (Model.kSg C g hg (ix2 ⟨n.val * 64 + r.val, by omega⟩ d)) : EReal))
      = ((rmax fun r : Fin 64 => |ks (Kg Kf g) (64 * n.val + r.val) d.val| : ℝ) : EReal) := fun d =>
    (Finset.fold_congr fun r _ => h d r).trans (fold_max_coe _)
  refine ((Finset.fold_congr fun d _ => h2 d).trans (fold_max_coe _)).trans (congrArg _ ?_)
  apply le_antisymm
  · exact rmax_le.mpr fun d => rmax_le.mpr fun r => le_rmax (fun p : Fin 64 × Fin 160 => |ks (Kg Kf g) (64 * n.val + p.1.val) p.2.val|) (r, d)
  · exact rmax_le.mpr fun p => (le_rmax (fun r : Fin 64 => |ks (Kg Kf g) (64 * n.val + r.val) p.2.val|) p.1).trans
      (le_rmax (fun d : Fin 160 => rmax fun r : Fin 64 => |ks (Kg Kf g) (64 * n.val + r.val) d.val|) p.2)

include hC b in
theorem v13_at (g : ℕ) (hg : g < 5) (s : Fin 1024) (d : Fin 160) :
    (shapeCast S1x1024x160 (Model.kCode (Model.kSg C g hg) (Model.invOf (Model.kAmax (Model.kSg C g hg)))) : FVec Ideal S1x1024x160 .fp8e4m3) (ix3 0 s d)
      = ((kcode (Kg Kf g) s.val d.val : ℝ) : EReal) := by
  refine (kCode_step _ _ s d).trans ?_
  have hk := k_ok (bd_Kg b hg) (n := s.val / 64) (by omega)
  rw [invOf_apply, kAmax_at C Kf hC g hg, (sexpo_spec hk.1 hk.2).2, kSg_at C Kf hC g hg, ← EReal.coe_mul, clip_coe]
  rfl

include hC in
theorem v14_at (g : ℕ) (hg : g < 5) (s : Fin 1024) (d : Fin 160) :
    (shapeCast S1x1024x160 (truncf .bf16 (Model.kSg C g hg) bitsLt_bf16_f32) : FVec Ideal S1x1024x160 .bf16) (ix3 0 s d)
      = ((ks (Kg Kf g) s.val d.val : ℝ) : EReal) :=
  (kb_step _ s d).trans (kSg_at C Kf hC g hg s d)

include hC b in
theorem v15_at (g : ℕ) (hg : g < 5) (n : Fin 16) (l : Fin 128) :
    (shapeCast S1x16x128 (Model.scaleOf (Model.kAmax (Model.kSg C g hg))) : FVec Ideal S1x16x128 .f32) (ix3 0 n l)
      = (((2 : ℝ) ^ ke (Kg Kf g) n.val : ℝ) : EReal) := by
  refine (ksc_step _ n l).trans ?_
  have hk := k_ok (bd_Kg b hg) n.isLt
  rw [scaleOf_apply, kAmax_at C Kf hC g hg, (sexpo_spec hk.1 hk.2).1]
  rfl

include hC in
theorem vAmax_at (g : ℕ) (hg : g < 5) (d : Fin 160) : Model.vAmax (Model.cols C g hg) (ix2 0 d) = ((vmax (Kg Kf g) d.val * c0 : ℝ) : EReal) := by
  refine (vAmax_step _ d).trans ?_
  rw [EReal.coe_mul]
  refine congrArg (fun x : EReal => x * ((c0 : ℝ) : EReal)) ?_
  refine (Finset.fold_congr fun k _ => ?_).trans (fold_max_coe _)
  rw [colsR C Kf hC g hg, abs_coe]

include hC b in
theorem v11_at (g : ℕ) (hg : g < 5) (d : Fin 160) (s : Fin 1024) :
    (shapeCast S1x1x160x1024 (Model.vCode (Model.cols C g hg) (Model.invOf (Model.vAmax (Model.cols C g hg)))) : FVec Ideal S1x1x160x1024 .fp8e4m3) (ix4 0 0 d s)
      = ((vcode (Kg Kf g) s.val d.val : ℝ) : EReal) := by
  refine (vCode_step _ _ d s).trans ?_
  have hk := v_ok (bd_Kg b hg) d.isLt
  rw [invOf_apply, vAmax_at C Kf hC g hg, (sexpo_spec hk.1 hk.2).2, colsR C Kf hC g hg, ← EReal.coe_mul, clip_coe]
  rfl

include hC b in
theorem v16_at (g : ℕ) (hg : g < 5) (d : Fin 160) (l : Fin 128) :
    (shapeCast S1x160x128 (transpose S160x128 [1, 0] (broadcastTo S128x160 (shapeCast S1x160 (Model.scaleOf (Model.vAmax (Model.cols C g hg)))))) :
      FVec Ideal S1x160x128 .f32) (ix3 0 d l) = (((2 : ℝ) ^ ve (Kg Kf g) d.val : ℝ) : EReal) := by
  refine (vcol_step _ d l).trans ?_
  have hk := v_ok (bd_Kg b hg) d.isLt
  rw [scaleOf_apply, vAmax_at C Kf hC g hg, (sexpo_spec hk.1 hk.2).1]
  rfl

/-! ## The stores of all groups -/

include hC b in
theorem c13_lo (Z) (g : Fin 5) (j : Fin 1024) (d : Fin 256) (hd : d.val < 160) :
    View.canon (Model.grp (Model.pc13 C) Z 5 (Nat.le_refl 5)) (ix3 g j d) = ((kcode (Kg Kf g.val) j.val d.val : ℝ) : EReal) := by
  refine grp_at _ _ _ g.val g.isLt _ (fun L => ?_) (fun n hn h L => ?_) 5 _ g.isLt
  · unfold Model.pc13
    exact (hit3 _ L g j d 0 j ⟨d.val, hd⟩ (by show g.val = g.val + 0; omega) (Nat.zero_add _).symm (Nat.zero_add _).symm).trans (v13_at C Kf hC b g.val g.isLt j ⟨d.val, hd⟩)
  · unfold Model.pc13
    exact miss3 _ L g j d (by omega)

theorem c13_hi (Z) (g : Fin 5) (j : Fin 1024) (d : Fin 256) (hd : 160 ≤ d.val) :
    View.canon (Model.grp (Model.pc13 C) Z 5 (Nat.le_refl 5)) (ix3 g j d) = View.canon Z (ix3 g j d) := by
  refine grp_miss _ _ _ (fun n hn L => ?_) 5 _
  unfold Model.pc13
  exact miss3 _ L g j d (by omega)

include hC in
theorem c14_lo (Z) (g : Fin 5) (j : Fin 1024) (d : Fin 256) (hd : d.val < 160) :
    View.canon (Model.grp (Model.pc14 C) Z 5 (Nat.le_refl 5)) (ix3 g j d) = ((ks (Kg Kf g.val) j.val d.val : ℝ) : EReal) := by
  refine grp_at _ _ _ g.val g.isLt _ (fun L => ?_) (fun n hn h L => ?_) 5 _ g.isLt
  · unfold Model.pc14
    exact (hit3 _ L g j d 0 j ⟨d.val, hd⟩ (by show g.val = g.val + 0; omega) (Nat.zero_add _).symm (Nat.zero_add _).symm).trans (v14_at C Kf hC g.val g.isLt j ⟨d.val, hd⟩)
  · unfold Model.pc14
    exact miss3 _ L g j d (by omega)

theorem c14_hi (Z) (g : Fin 5) (j : Fin 1024) (d : Fin 256) (hd : 160 ≤ d.val) :
    View.canon (Model.grp (Model.pc14 C) Z 5 (Nat.le_refl 5)) (ix3 g j d) = View.canon Z (ix3 g j d) := by
  refine grp_miss _ _ _ (fun n hn L => ?_) 5 _
  unfold Model.pc14
  exact miss3 _ L g j d (by omega)

include hC b in
theorem c15 (Z) (g : Fin 5) (n' : Fin 16) (l : Fin 128) :
    View.canon (Model.grp (Model.pc15 C) Z 5 (Nat.le_refl 5)) (ix3 g n' l) = (((2 : ℝ) ^ ke (Kg Kf g.val) n'.val : ℝ) : EReal) := by
  refine grp_at _ _ _ g.val g.isLt _ (fun L => ?_) (fun n hn h L => ?_) 5 _ g.isLt
  · unfold Model.pc15
    exact (hit3 _ L g n' l 0 n' l (by show g.val = g.val + 0; omega) (Nat.zero_add _).symm (Nat.zero_add _).symm).trans (v15_at C Kf hC b g.val g.isLt n' l)
  · unfold Model.pc15
    exact miss3 _ L g n' l (by omega)

include hC b in
theorem c16 (Z) (g : Fin 5) (d : Fin 160) (l : Fin 128) :
    View.canon (Model.grp (Model.pc16 C) Z 5 (Nat.le_refl 5)) (ix3 g d l) = (((2 : ℝ) ^ ve (Kg Kf g.val) d.val : ℝ) : EReal) := by
  refine grp_at _ _ _ g.val g.isLt _ (fun L => ?_) (fun n hn h L => ?_) 5 _ g.isLt
  · unfold Model.pc16
    exact (hit3 _ L g d l 0 d l (by show g.val = g.val + 0; omega) (Nat.zero_add _).symm (Nat.zero_add _).symm).trans (v16_at C Kf hC b g.val g.isLt d l)
  · unfold Model.pc16
    exact miss3 _ L g d l (by omega)

include hC b in
theorem c11 (Z) (g : Fin 5) (d : Fin 160) (s : Fin 1024) :
    View.canon (Model.grp (Model.pc11 C) Z 5 (Nat.le_refl 5)) (ix4 0 g d s) = ((vcode (Kg Kf g.val) s.val d.val : ℝ) : EReal) := by
  refine grp_at _ _ _ g.val g.isLt _ (fun L => ?_) (fun n hn h L => ?_) 5 _ g.isLt
  · unfold Model.pc11
    exact (hit4 _ L 0 rfl g rfl d s d s rfl rfl).trans (v11_at C Kf hC b g.val g.isLt d s)
  · unfold Model.pc11
    exact miss4 _ L 0 g d s h

end

/-! ## What the points of a batch find -/

/-- The quantised keys and values of a batch, as kept from its first point on. -/
structure Ready (w : S1x5x160x1024.Idx → Elt Ideal .fp8e4m3) (s0 : S5x1024x256.Idx → Elt Ideal .fp8e4m3) (s1 : S5x1024x256.Idx → Elt Ideal .bf16)
    (s2 : S5x16x128.Idx → Elt Ideal .f32) (s3 : S5x160x128.Idx → Elt Ideal .f32) (Kf Vf : ℕ → ℕ → ℝ) : Prop where
  r13 : ∀ (g : Fin 5) (j : Fin 1024) (d : Fin 256), s0 (ix3 g j d) = ((if d.val < 160 then kcode (Kg Kf g.val) j.val d.val else 0 : ℝ) : EReal)
  r14 : ∀ (g : Fin 5) (j : Fin 1024) (d : Fin 256), s1 (ix3 g j d) = ((if d.val < 160 then ks (Kg Kf g.val) j.val d.val else 0 : ℝ) : EReal)
  r15 : ∀ (g : Fin 5) (n : Fin 16) (l : Fin 128), s2 (ix3 g n l) = (((2 : ℝ) ^ ke (Kg Kf g.val) n.val : ℝ) : EReal)
  r16 : ∀ (g : Fin 5) (d : Fin 160) (l : Fin 128), s3 (ix3 g d l) = (((2 : ℝ) ^ ve (Kg Vf g.val) d.val : ℝ) : EReal)
  r11 : ∀ (g : Fin 5) (d : Fin 160) (j : Fin 1024), w (ix4 0 g d j) = ((vcode (Kg Vf g.val) j.val d.val : ℝ) : EReal)

theorem good_of_ready {M : Model.Mem Ideal} {X Kf Vf : ℕ → ℕ → ℝ} (R : Ready M.C11 M.C13 M.C14 M.C15 M.C16 Kf Vf)
    (hX : ∀ (s : Fin 1024) (c : Fin 640), M.C2 (ix3 0 s c) = ((X s.val c.val : ℝ) : EReal)) (bx : Bd X 1024 640)
    (h17 : ∀ (L) (a : Fin 256) (b : Fin 512), (∃ p ∈ L, ix2 a b ∈ p.1.set) → M.R17 L (ix2 a b) = View.canon L (ix2 a b))
    (h18 : ∀ (L) (a : Fin 32) (b : Fin 256), (∃ p ∈ L, ix2 a b ∈ p.1.set) → M.R18 L (ix2 a b) = View.canon L (ix2 a b)) :
    Good M X (Kg Kf (Model.gi M.i)) (Kg Vf (Model.gi M.i)) where
  hX := hX
  h13 := R.r13 _
  h14 := R.r14 _
  h15 := R.r15 _
  h16 := R.r16 _
  h11 := R.r11 _
  h17 := h17
  h18 := h18
  bx := bx

/-- The zeros under the columns past the heads. -/
theorem zero8 {inb} (i : S5x1024x256.Idx) (Z : List (Model.Pc Ideal S5x1024x256 .fp8e4m3))
    (hZ : Z = [⟨Rect.unit ![0, 0, 0] S5x1024x256.size inb, broadcast S5x1024x256 (Scalar.ofBits (F := Ideal) .fp8e4m3 0x00#8)⟩]) : View.canon Z i = 0 := by
  subst hZ
  refine (canon_hit _ _ _ _ i fun a => ?_).trans ?_
  · match a with
    | 0 => show _ = 0 + 1 * _; omega
    | 1 => show _ = 0 + 1 * _; omega
    | 2 => show _ = 0 + 1 * _; omega
  · show Ideal.ofBits .fp8e4m3 0x00#8 = 0
    simp [Ideal.ofBits, Ideal.e4m3fn]

theorem zero16 {inb} (i : S5x1024x256.Idx) (Z : List (Model.Pc Ideal S5x1024x256 .bf16))
    (hZ : Z = [⟨Rect.unit ![0, 0, 0] S5x1024x256.size inb, broadcast S5x1024x256 (Scalar.ofBits (F := Ideal) .bf16 0x0000#16)⟩]) : View.canon Z i = 0 := by
  subst hZ
  refine (canon_hit _ _ _ _ i fun a => ?_).trans ?_
  · match a with
    | 0 => show _ = 0 + 1 * _; omega
    | 1 => show _ = 0 + 1 * _; omega
    | 2 => show _ = 0 + 1 * _; omega
  · show Ideal.ofBits .bf16 0x0000#16 = 0
    simp [Ideal.ofBits, Ideal.ieee]

/-- The stores of the first point of all. -/
theorem ready_first (CK CV : Vec Ideal S1x1024x800 .bf16) (Kf Vf : ℕ → ℕ → ℝ) {inb inb'}
    (hK : ∀ (s : Fin 1024) (c : Fin 800), CK (ix3 0 s c) = ((Kf s.val c.val : ℝ) : EReal)) (bk : Bd Kf 1024 800)
    (hV : ∀ (s : Fin 1024) (c : Fin 800), CV (ix3 0 s c) = ((Vf s.val c.val : ℝ) : EReal)) (bv : Bd Vf 1024 800) :
    Ready (View.canon (Model.grp (Model.pc11 CV) [] 5 (Nat.le_refl 5)))
      (View.canon (Model.grp (Model.pc13 CK) [⟨Rect.unit ![0, 0, 0] S5x1024x256.size inb, broadcast S5x1024x256 (Scalar.ofBits (F := Ideal) .fp8e4m3 0x00#8)⟩] 5 (Nat.le_refl 5)))
      (View.canon (Model.grp (Model.pc14 CK) [⟨Rect.unit ![0, 0, 0] S5x1024x256.size inb', broadcast S5x1024x256 (Scalar.ofBits (F := Ideal) .bf16 0x0000#16)⟩] 5 (Nat.le_refl 5)))
      (View.canon (Model.grp (Model.pc15 CK) [] 5 (Nat.le_refl 5))) (View.canon (Model.grp (Model.pc16 CV) [] 5 (Nat.le_refl 5))) Kf Vf where
  r13 g j d := by
    by_cases h : d.val < 160
    · rw [if_pos h]; exact c13_lo CK Kf hK bk _ g j d h
    · rw [if_neg h]; exact (c13_hi CK _ g j d (by omega)).trans ((zero8 _ _ rfl).trans EReal.coe_zero.symm)
  r14 g j d := by
    by_cases h : d.val < 160
    · rw [if_pos h]; exact c14_lo CK Kf hK _ g j d h
    · rw [if_neg h]; exact (c14_hi CK _ g j d (by omega)).trans ((zero16 _ _ rfl).trans EReal.coe_zero.symm)
  r15 g n l := c15 CK Kf hK bk _ g n l
  r16 g d l := c16 CV Vf hV bv _ g d l
  r11 g d j := c11 CV Vf hV bv _ g d j

/-- The stores of a later batch's first point, over an earlier batch's contents. -/
theorem ready_later (m13 : Memref sig .tc .vmem S5x1024x256 .fp8e4m3) (m14 : Memref sig .tc .vmem S5x1024x256 .bf16) (f13) (f14)
    (CK CV : Vec Ideal S1x1024x800 .bf16) (Kf Vf : ℕ → ℕ → ℝ)
    (hK : ∀ (s : Fin 1024) (c : Fin 800), CK (ix3 0 s c) = ((Kf s.val c.val : ℝ) : EReal)) (bk : Bd Kf 1024 800)
    (hV : ∀ (s : Fin 1024) (c : Fin 800), CV (ix3 0 s c) = ((Vf s.val c.val : ℝ) : EReal)) (bv : Bd Vf 1024 800)
    (h13 : ∀ (g : Fin 5) (j : Fin 1024) (d : Fin 256), 160 ≤ d.val → (m13.view.read (Elt Ideal) f13 (ix3 g j d) : EReal) = 0)
    (h14 : ∀ (g : Fin 5) (j : Fin 1024) (d : Fin 256), 160 ≤ d.val → (m14.view.read (Elt Ideal) f14 (ix3 g j d) : EReal) = 0) :
    Ready (View.canon (Model.grp (Model.pc11 CV) [] 5 (Nat.le_refl 5)))
      (m13.view.read (Elt Ideal) (m13.view.writes (Elt Ideal) f13 (Model.grp (Model.pc13 CK) [] 5 (Nat.le_refl 5))))
      (m14.view.read (Elt Ideal) (m14.view.writes (Elt Ideal) f14 (Model.grp (Model.pc14 CK) [] 5 (Nat.le_refl 5))))
      (View.canon (Model.grp (Model.pc15 CK) [] 5 (Nat.le_refl 5))) (View.canon (Model.grp (Model.pc16 CV) [] 5 (Nat.le_refl 5))) Kf Vf where
  r13 g j d := by
    by_cases h : d.val < 160
    · rw [if_pos h]
      refine (View.read_writes_apply_eq_canon _ _ _ _ ⟨_, grp_mem (Model.pc13 CK) [] g.val g.isLt 5 _ g.isLt, ?_⟩).trans (c13_lo CK Kf hK bk _ g j d h)
      rw [Model.pc13, Rect.mem_set_unit (inb := Model.inb_g g.isLt)]
      intro a
      match a with
      | 0 => show g.val ≤ g.val ∧ g.val < g.val + 1; omega
      | 1 => show 0 ≤ j.val ∧ j.val < 0 + 1024; omega
      | 2 => show 0 ≤ d.val ∧ d.val < 0 + 160; omega
    · rw [if_neg h]
      refine (View.read_writes_apply_of_forall_not_mem _ _ _ _ fun p hp hm => ?_).trans ((h13 g j d (by omega)).trans EReal.coe_zero.symm)
      obtain ⟨n, hn, rfl⟩ := mem_grp _ _ _ _ hp
      rw [Model.pc13, Rect.mem_set_unit (inb := Model.inb_g hn)] at hm
      have := (hm 2).2
      change d.val < 0 + 160 at this
      omega
  r14 g j d := by
    by_cases h : d.val < 160
    · rw [if_pos h]
      refine (View.read_writes_apply_eq_canon _ _ _ _ ⟨_, grp_mem (Model.pc14 CK) [] g.val g.isLt 5 _ g.isLt, ?_⟩).trans (c14_lo CK Kf hK _ g j d h)
      rw [Model.pc14, Rect.mem_set_unit (inb := Model.inb_g g.isLt)]
      intro a
      match a with
      | 0 => show g.val ≤ g.val ∧ g.val < g.val + 1; omega
      | 1 => show 0 ≤ j.val ∧ j.val < 0 + 1024; omega
      | 2 => show 0 ≤ d.val ∧ d.val < 0 + 160; omega
    · rw [if_neg h]
      refine (View.read_writes_apply_of_forall_not_mem _ _ _ _ fun p hp hm => ?_).trans ((h14 g j d (by omega)).trans EReal.coe_zero.symm)
      obtain ⟨n, hn, rfl⟩ := mem_grp _ _ _ _ hp
      rw [Model.pc14, Rect.mem_set_unit (inb := Model.inb_g hn)] at hm
      have := (hm 2).2
      change d.val < 0 + 160 at this
      omega
  r15 g n l := c15 CK Kf hK bk _ g n l
  r16 g d l := c16 CV Vf hV bv _ g d l
  r11 g d j := c11 CV Vf hV bv _ g d j

end Cert.KernelIdeal.Eval
end
-- ==== Proof.Out.Points.lean ====
/-
What the points of the grid find in their memories and what they store, over the reals.
-/
module

public import proofs.«01_k».proof.Proof.Ideal.BridgeA
public import proofs.«01_k».proof.Proof.Ideal.BridgeB
public import proofs.«01_k».proof.Proof.Ideal.BridgeC
public import proofs.«01_k».proof.Proof.Ideal.BridgePA
public import proofs.«01_k».proof.Proof.Ideal.BridgePC
public import proofs.«01_k».proof.Proof.Out.PrepEval

@[expose] public section

set_option maxRecDepth 16384

noncomputable section

namespace Cert.KernelIdeal.Body

open Cert.KernelIdeal.Gen Cert.KernelIdeal.Model Cert.KernelIdeal.Eval Cert.KernelIdeal.Spec
open Idealize.ShloMosaic Idealize.ShloMosaic.TcCoe Idealize.ShloMosaic.Tactic

/-- A load of the whole of a memory written over earlier contents, where a store covers. -/
theorem whole_over {n0 n1 : ℕ} {e : EltTy} (m : Memref sig .tc .vmem ⟨2, ![n0, n1]⟩ e) (f : m.view.ty.Contents (Elt Ideal)) {inb}
    (L : List (Pc Ideal ⟨2, ![n0, n1]⟩ e)) (a : Fin n0) (b : Fin n1) (h : ∃ p ∈ L, ix2 a b ∈ p.1.set) :
    View.readAt (Elt Ideal) m.view (Rect.unit (s := ⟨2, ![n0, n1]⟩) ![0, 0] ![n0, n1] inb).toLoadRect (m.view.writes (Elt Ideal) f L) (ix2 a b) = View.canon L (ix2 a b) := by
  refine Eq.trans ?_ (View.read_writes_apply_eq_canon m.view f (ix2 a b) L h)
  exact congrArg (m.view.read (Elt Ideal) (m.view.writes (Elt Ideal) f L)) (Canon.idx2 a b a b (Nat.zero_add _).symm (Nat.zero_add _).symm)

theorem ready_congr {w w' s0 s0' s1 s1' s2 s2' s3 s3'} {Kf Vf : ℕ → ℕ → ℝ} (h : w = w') (h0 : s0 = s0') (h1 : s1 = s1') (h2 : s2 = s2') (h3 : s3 = s3')
    (R : Ready w' s0' s1' s2' s3' Kf Vf) : Ready w s0 s1 s2 s3 Kf Vf := by
  subst h h0 h1 h2 h3
  exact R

/-- What the point of case A keeps for the batch. -/
theorem ready_A (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec Ideal S1x1024x640 .bf16) (x1 : Vec Ideal S1x1024x800 .bf16) (x2 : Vec Ideal S1x1024x800 .bf16)
    (Kf Vf : ℕ → ℕ → ℝ)
    (hK : ∀ (s : Fin 1024) (c : Fin 800), x1 (ix3 0 s c) = ((Kf s.val c.val : ℝ) : EReal)) (bk : Bd Kf 1024 800)
    (hV : ∀ (s : Fin 1024) (c : Fin 800), x2 (ix3 0 s c) = ((Vf s.val c.val : ℝ) : EReal)) (bv : Bd Vf 1024 800)
    : Ready (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.1) (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.1) (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.1) (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.1) (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).2.2.2.2.2.1) Kf Vf := by
  refine ready_congr (congrArg View.canon (run_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2)) (congrArg View.canon (run_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2)) (congrArg View.canon (run_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2)) (congrArg View.canon (run_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2)) (congrArg View.canon (run_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2)) ?_
  exact ready_first (inb := in3 (leB rfl) (leB rfl) (leB rfl)) (inb' := in3 (leB rfl) (leB rfl) (leB rfl)) (arg3.view.read (Elt Ideal) (harg3.unread x1)) (arg4.view.read (Elt Ideal) (harg4.unread x2)) Kf Vf (fun s c => (congrFun (harg3.read_unread x1) _).trans (hK s c)) bk (fun s c => (congrFun (harg4.read_unread x2) _).trans (hV s c)) bv

/-- The result's block at the point of case A. -/
theorem out_A (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : cond0_0 i) (hc1 : cond0_1 i)
    (x0 : Vec Ideal S1x1024x640 .bf16) (x1 : Vec Ideal S1x1024x800 .bf16) (x2 : Vec Ideal S1x1024x800 .bf16)
    (X Kf Vf : ℕ → ℕ → ℝ)
    (hX : ∀ (s : Fin 1024) (c : Fin 640), x0 (ix3 0 s c) = ((X s.val c.val : ℝ) : EReal)) (bx : Bd X 1024 640)
    (hK : ∀ (s : Fin 1024) (c : Fin 800), x1 (ix3 0 s c) = ((Kf s.val c.val : ℝ) : EReal)) (bk : Bd Kf 1024 800)
    (hV : ∀ (s : Fin 1024) (c : Fin 800), x2 (ix3 0 s c) = ((Vf s.val c.val : ℝ) : EReal)) (bv : Bd Vf 1024 800)
    (s : Fin 1024) (cc : Fin 640) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2).1 (ix3 0 s cc) = Spec.out X (Kg Kf (gi i)) (Kg Vf (gi i)) (cc.val / 160) s.val (cc.val % 160) := by
  refine (congrFun (congrArg View.canon (run_A_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2)) _).trans ?_
  refine out_at (good_of_ready (Kf := Kf) (Vf := Vf) ?_ ?_ bx ?_ ?_) s cc
  · refine ready_congr (View.read_writes_junk_eq_canon _ _) (View.read_writes_junk_eq_canon _ _) (View.read_writes_junk_eq_canon _ _) (View.read_writes_junk_eq_canon _ _) (View.read_writes_junk_eq_canon _ _) ?_
    exact ready_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 Kf Vf hK bk hV bv
  · exact fun s c => (congrFun (harg2.read_unread x0) _).trans (hX s c)
  · exact fun L a b _ => Canon.cov2 arg17.view L a b a b (Nat.zero_add _).symm (Nat.zero_add _).symm
  · exact fun L a b _ => Canon.cov2 arg18.view L a b a b (Nat.zero_add _).symm (Nat.zero_add _).symm

/-- The result's block at the point of case B. -/
theorem out_B (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : ¬cond0_1 i)
    (x0 : Vec Ideal S1x1024x640 .bf16) (x1 : Vec Ideal S1x1024x800 .bf16) (x2 : Vec Ideal S1x1024x800 .bf16) (xo9 : Vec Ideal S1x5x160x1024 .fp8e4m3) (xs0 : Vec Ideal S5x1024x256 .fp8e4m3) (xs1 : Vec Ideal S5x1024x256 .bf16) (xs2 : Vec Ideal S5x16x128 .f32) (xs3 : Vec Ideal S5x160x128 .f32) (xs4 : Vec Ideal S256x512 .fp8e4m3) (xs5 : Vec Ideal S32x256 .bf16)
    (X Kf Vf : ℕ → ℕ → ℝ)
    (hX : ∀ (s : Fin 1024) (c : Fin 640), x0 (ix3 0 s c) = ((X s.val c.val : ℝ) : EReal)) (bx : Bd X 1024 640)
    (R : Ready xo9 xs0 xs1 xs2 xs3 Kf Vf)
    (s : Fin 1024) (cc : Fin 640) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).1 (ix3 0 s cc) = Spec.out X (Kg Kf (gi i)) (Kg Vf (gi i)) (cc.val / 160) s.val (cc.val % 160) := by
  refine (congrFun (congrArg View.canon (run_B_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5)) _).trans ?_
  refine out_at (good_of_ready (Kf := Kf) (Vf := Vf) ?_ ?_ bx ?_ ?_) s cc
  · have e11 : (memB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).C11 = xo9 := harg11.read_unread xo9
    have e13 : (memB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).C13 = xs0 := harg13.read_unread xs0
    have e14 : (memB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).C14 = xs1 := harg14.read_unread xs1
    have e15 : (memB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).C15 = xs2 := harg15.read_unread xs2
    have e16 : (memB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xo9 xs0 xs1 xs2 xs3 xs4 xs5).C16 = xs3 := harg16.read_unread xs3
    exact ready_congr e11 e13 e14 e15 e16 R
  · exact fun s c => (congrFun (harg2.read_unread x0) _).trans (hX s c)
  · exact fun L a b h => whole_over arg17 (harg17.unread xs4) L a b h
  · exact fun L a b h => whole_over arg18 (harg18.unread xs5) L a b h

/-- What the point of case C keeps for the batch. -/
theorem ready_C (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec Ideal S1x1024x640 .bf16) (x1 : Vec Ideal S1x1024x800 .bf16) (x2 : Vec Ideal S1x1024x800 .bf16) (xs0 : Vec Ideal S5x1024x256 .fp8e4m3) (xs1 : Vec Ideal S5x1024x256 .bf16) (xs4 : Vec Ideal S256x512 .fp8e4m3) (xs5 : Vec Ideal S32x256 .bf16)
    (Kf Vf : ℕ → ℕ → ℝ)
    (hK : ∀ (s : Fin 1024) (c : Fin 800), x1 (ix3 0 s c) = ((Kf s.val c.val : ℝ) : EReal)) (bk : Bd Kf 1024 800)
    (hV : ∀ (s : Fin 1024) (c : Fin 800), x2 (ix3 0 s c) = ((Vf s.val c.val : ℝ) : EReal)) (bv : Bd Vf 1024 800)
    (h13 : ∀ (g : Fin 5) (j : Fin 1024) (d : Fin 256), 160 ≤ d.val → (xs0 (ix3 g j d) : EReal) = 0)
    (h14 : ∀ (g : Fin 5) (j : Fin 1024) (d : Fin 256), 160 ≤ d.val → (xs1 (ix3 g j d) : EReal) = 0)
    : Ready (View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.1) (arg13.view.read (Elt Ideal) (arg13.view.writes (Elt Ideal) (harg13.unread xs0) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.1)) (arg14.view.read (Elt Ideal) (arg14.view.writes (Elt Ideal) (harg14.unread xs1) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.1)) (View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.1) (View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).2.2.2.2.2.1) Kf Vf := by
  refine ready_congr (congrArg View.canon (run_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5)) (congrArg (fun L => arg13.view.read (Elt Ideal) (arg13.view.writes (Elt Ideal) (harg13.unread xs0) L)) (run_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5)) (congrArg (fun L => arg14.view.read (Elt Ideal) (arg14.view.writes (Elt Ideal) (harg14.unread xs1) L)) (run_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5)) (congrArg View.canon (run_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5)) (congrArg View.canon (run_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5)) ?_
  exact ready_later arg13 arg14 (harg13.unread xs0) (harg14.unread xs1) (arg3.view.read (Elt Ideal) (harg3.unread x1)) (arg4.view.read (Elt Ideal) (harg4.unread x2)) Kf Vf (fun s c => (congrFun (harg3.read_unread x1) _).trans (hK s c)) bk (fun s c => (congrFun (harg4.read_unread x2) _).trans (hV s c)) bv (fun g j d h => (congrFun (harg13.read_unread xs0) _).trans (h13 g j d h)) (fun g j d h => (congrFun (harg14.read_unread xs1) _).trans (h14 g j d h))

/-- The result's block at the point of case C. -/
theorem out_C (c : Dev nD) (i : grid0.Coords) (arg2 : Memref sig .tc .vmem S1x1024x640 .bf16) (harg2 : arg2.IsWhole) (arg3 : Memref sig .tc .vmem S1x1024x800 .bf16) (harg3 : arg3.IsWhole) (arg4 : Memref sig .tc .vmem S1x1024x800 .bf16) (harg4 : arg4.IsWhole) (arg5 : Memref sig .tc .vmem S1x1024x640 .bf16) (harg5 : arg5.IsWhole) (arg6 : Memref sig .tc .vmem S1x4x8x160 .f32) (harg6 : arg6.IsWhole) (arg7 : Memref sig .tc .vmem S1x4x160x1024 .fp8e4m3) (harg7 : arg7.IsWhole) (arg8 : Memref sig .tc .vmem S1x8x20 .f32) (harg8 : arg8.IsWhole) (arg9 : Memref sig .tc .vmem S1x5x160x1024 .fp8e4m3) (harg9 : arg9.IsWhole) (arg10 : Memref sig .tc .vmem S5x2x16 .f32) (harg10 : arg10.IsWhole) (arg11 : Memref sig .tc .vmem S1x5x160x1024 .fp8e4m3) (harg11 : arg11.IsWhole) (arg12 : Memref sig .tc .vmem S5x2x160 .f32) (harg12 : arg12.IsWhole) (arg13 : Memref sig .tc .vmem S5x1024x256 .fp8e4m3) (harg13 : arg13.IsWhole) (arg14 : Memref sig .tc .vmem S5x1024x256 .bf16) (harg14 : arg14.IsWhole) (arg15 : Memref sig .tc .vmem S5x16x128 .f32) (harg15 : arg15.IsWhole) (arg16 : Memref sig .tc .vmem S5x160x128 .f32) (harg16 : arg16.IsWhole) (arg17 : Memref sig .tc .vmem S256x512 .fp8e4m3) (harg17 : arg17.IsWhole) (arg18 : Memref sig .tc .vmem S32x256 .bf16) (harg18 : arg18.IsWhole) (arg19 : Memref sig .tc .vmem S8x128 .f32) (harg19 : arg19.IsWhole) (arg20 : Memref sig .tc .vmem S4x8x128 .f32) (harg20 : arg20.IsWhole) (arg21 : Memref sig .tc .vmem S4x8x128 .f32) (harg21 : arg21.IsWhole) (arg22 : Memref sig .tc .vmem S1024x32 .f32) (harg22 : arg22.IsWhole) (arg23 : Memref sig .tc .vmem S1024x512 .f32) (harg23 : arg23.IsWhole) (arg24 : Memref sig .tc .vmem S1024x512 .fp8e4m3) (harg24 : arg24.IsWhole) (arg25 : Memref sig .tc .vmem S640x128 .bf16) (harg25 : arg25.IsWhole) (hc0 : ¬cond0_0 i) (hc1 : cond0_1 i)
    (x0 : Vec Ideal S1x1024x640 .bf16) (x1 : Vec Ideal S1x1024x800 .bf16) (x2 : Vec Ideal S1x1024x800 .bf16) (xs0 : Vec Ideal S5x1024x256 .fp8e4m3) (xs1 : Vec Ideal S5x1024x256 .bf16) (xs4 : Vec Ideal S256x512 .fp8e4m3) (xs5 : Vec Ideal S32x256 .bf16)
    (X Kf Vf : ℕ → ℕ → ℝ)
    (hX : ∀ (s : Fin 1024) (c : Fin 640), x0 (ix3 0 s c) = ((X s.val c.val : ℝ) : EReal)) (bx : Bd X 1024 640)
    (hK : ∀ (s : Fin 1024) (c : Fin 800), x1 (ix3 0 s c) = ((Kf s.val c.val : ℝ) : EReal)) (bk : Bd Kf 1024 800)
    (hV : ∀ (s : Fin 1024) (c : Fin 800), x2 (ix3 0 s c) = ((Vf s.val c.val : ℝ) : EReal)) (bv : Bd Vf 1024 800)
    (h13 : ∀ (g : Fin 5) (j : Fin 1024) (d : Fin 256), 160 ≤ d.val → (xs0 (ix3 g j d) : EReal) = 0)
    (h14 : ∀ (g : Fin 5) (j : Fin 1024) (d : Fin 256), 160 ≤ d.val → (xs1 (ix3 g j d) : EReal) = 0)
    (s : Fin 1024) (cc : Fin 640) :
    View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5).1 (ix3 0 s cc) = Spec.out X (Kg Kf (gi i)) (Kg Vf (gi i)) (cc.val / 160) s.val (cc.val % 160) := by
  refine (congrFun (congrArg View.canon (run_C_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5)) _).trans ?_
  refine out_at (good_of_ready (Kf := Kf) (Vf := Vf) ?_ ?_ bx ?_ ?_) s cc
  · refine ready_congr (View.read_writes_junk_eq_canon _ _) rfl rfl (View.read_writes_junk_eq_canon _ _) (View.read_writes_junk_eq_canon _ _) ?_
    exact ready_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 xs0 xs1 xs4 xs5 Kf Vf hK bk hV bv h13 h14
  · exact fun s c => (congrFun (harg2.read_unread x0) _).trans (hX s c)
  · exact fun L a b h => whole_over arg17 (harg17.unread xs4) L a b h
  · exact fun L a b h => whole_over arg18 (harg18.unread xs5) L a b h

end Cert.KernelIdeal.Body

end
-- ==== Proof.Out.Final.lean ====
/-
The kernel's result after the run, over the reals: every grid point leaves in its block the attention of its batch and
its group of heads, and the blocks tile the array.
-/
module

public import proofs.«01_k».proof.Proof.Ideal.Frame
public import proofs.«01_k».proof.Proof.Out.Points

@[expose] public section

set_option maxRecDepth 16384

noncomputable section

namespace Cert.KernelIdeal.Value

open Cert.KernelIdeal Cert.KernelIdeal.Gen Cert.KernelIdeal.Eval Cert.KernelIdeal.Spec Cert.KernelIdeal.Body
open Idealize.ShloMosaic Idealize.ShloMosaic.TcCoe Idealize.SL.Sem
open Idealize.ShloMosaic.Pipeline (Dat)

variable (m : (ℓ : Loc nD τ sig) → Buf (Elt Ideal) ℓ)

/-- Where the blocks lie. -/
theorem idx : ∀ t : Fin cfg0.N, win0_0.index t = ![t.val / 5, 0, t.val % 5] ∧ win0_1.index t = ![t.val / 5, 0, 0]
    ∧ win0_2.index t = ![t.val / 5, 0, 0] ∧ win0_3.index t = ![t.val / 5, 0, t.val % 5] :=
  (by decide +kernel : ∀ t : Fin grid0.N, _)

/-- The group of a point. -/
theorem gi_eq : ∀ t : Fin cfg0.N, Model.gi (grid0.coords t) = t.val % 5 :=
  (by decide +kernel : ∀ t : Fin grid0.N, _)

/-- The three arguments. -/
abbrev AQ (c : Dev nD) : FVec Ideal S2x1024x3200 .bf16 := m ((c : Thread nD τ).loc main_arg0)
abbrev AK (c : Dev nD) : FVec Ideal S2x1024x800 .bf16 := m ((c : Thread nD τ).loc main_arg1)
abbrev AV (c : Dev nD) : FVec Ideal S2x1024x800 .bf16 := m ((c : Thread nD τ).loc main_arg2)

theorem blk0 (c : Dev nD) (t : Fin cfg0.N) (b : Fin 2) (hb : b.val = t.val / 5) (s : Fin 1024) (cc : Fin 640) :
    (iblk m c 0 t : S1x1024x640.Idx → Elt Ideal .bf16) (ix3 0 s cc) = AQ m c (ix3 b s ⟨640 * (t.val % 5) + cc.val, by omega⟩) := by
  blk_point [iblk, V, idx t]

theorem blk1 (c : Dev nD) (t : Fin cfg0.N) (b : Fin 2) (hb : b.val = t.val / 5) (s : Fin 1024) (cc : Fin 800) :
    (iblk m c 1 t : S1x1024x800.Idx → Elt Ideal .bf16) (ix3 0 s cc) = AK m c (ix3 b s cc) := by
  blk_point [iblk, V, idx t]

theorem blk2 (c : Dev nD) (t : Fin cfg0.N) (b : Fin 2) (hb : b.val = t.val / 5) (s : Fin 1024) (cc : Fin 800) :
    (iblk m c 2 t : S1x1024x800.Idx → Elt Ideal .bf16) (ix3 0 s cc) = AV m c (ix3 b s cc) := by
  blk_point [iblk, V, idx t]

section
variable (c : Dev nD) (X K W : ℕ → ℕ → ℕ → ℝ)
variable (hX : ∀ (b : Fin 2) (s : Fin 1024) (i : Fin 3200), AQ m c (ix3 b s i) = ((X b.val s.val i.val : ℝ) : EReal))
variable (hK : ∀ (b : Fin 2) (s : Fin 1024) (i : Fin 800), AK m c (ix3 b s i) = ((K b.val s.val i.val : ℝ) : EReal))
variable (hV : ∀ (b : Fin 2) (s : Fin 1024) (i : Fin 800), AV m c (ix3 b s i) = ((W b.val s.val i.val : ℝ) : EReal))
variable (bX : ∀ b < 2, Bd (X b) 1024 3200) (bK : ∀ b < 2, Bd (K b) 1024 800) (bV : ∀ b < 2, Bd (W b) 1024 800)

/-- The queries of a point. -/
def Xg (n : ℕ) (s i : ℕ) : ℝ := X (n / 5) s (640 * (n % 5) + i)

include bX in
theorem bd_Xg (n : ℕ) (hn : n < 10) : Bd (Xg X n) 1024 640 := fun s hs i hi => bX (n / 5) (by omega) s hs _ (by omega)

include hX in
theorem q0 (t : Fin cfg0.N) (s : Fin 1024) (i : Fin 640) : (iblk m c 0 t : S1x1024x640.Idx → Elt Ideal .bf16) (ix3 0 s i) = ((Xg X t.val s.val i.val : ℝ) : EReal) := by
  have ht : t.val < 10 := t.isLt
  exact (blk0 m c t ⟨t.val / 5, by omega⟩ rfl s i).trans (hX _ _ _)

include hK in
theorem k0 (t : Fin cfg0.N) (s : Fin 1024) (i : Fin 800) : (iblk m c 1 t : S1x1024x800.Idx → Elt Ideal .bf16) (ix3 0 s i) = ((K (t.val / 5) s.val i.val : ℝ) : EReal) := by
  have ht : t.val < 10 := t.isLt
  exact (blk1 m c t ⟨t.val / 5, by omega⟩ rfl s i).trans (hK _ _ _)

include hV in
theorem v0 (t : Fin cfg0.N) (s : Fin 1024) (i : Fin 800) : (iblk m c 2 t : S1x1024x800.Idx → Elt Ideal .bf16) (ix3 0 s i) = ((W (t.val / 5) s.val i.val : ℝ) : EReal) := by
  have ht : t.val < 10 := t.isLt
  exact (blk2 m c t ⟨t.val / 5, by omega⟩ rfl s i).trans (hV _ _ _)

/-- What a point leaves for the later ones of its batch. -/
def Left (n : ℕ) (hn : n < cfg0.N) : Prop :=
  Ready (outsAt0 m c n hn).2.1 (outsAt0 m c n hn).2.2.1 (outsAt0 m c n hn).2.2.2.1 (outsAt0 m c n hn).2.2.2.2.1 (outsAt0 m c n hn).2.2.2.2.2.1 (K (n / 5)) (W (n / 5))

theorem pad0 {w s0 s1 s2 s3} {Kf Vf : ℕ → ℕ → ℝ} (R : Ready w s0 s1 s2 s3 Kf Vf) (g : Fin 5) (j : Fin 1024) (d : Fin 256) (h : 160 ≤ d.val) : (s0 (ix3 g j d) : EReal) = 0 :=
  (R.r13 g j d).trans (by rw [if_neg (by omega), EReal.coe_zero])

theorem pad1 {w s0 s1 s2 s3} {Kf Vf : ℕ → ℕ → ℝ} (R : Ready w s0 s1 s2 s3 Kf Vf) (g : Fin 5) (j : Fin 1024) (d : Fin 256) (h : 160 ≤ d.val) : (s1 (ix3 g j d) : EReal) = 0 :=
  (R.r14 g j d).trans (by rw [if_neg (by omega), EReal.coe_zero])

include hK hV bK bV in
theorem left_A (t : Fin cfg0.N) (h0 : t.val % 10 = 0) (h1 : t.val % 5 = 0) : Left m c K W t.val t.isLt := by
  have ht : t.val < 10 := t.isLt
  unfold Left
  rw [outsAt0_A m c t h0 h1]
  dsimp only
  unfold out0_A_9 sout0_A_0 sout0_A_1 sout0_A_2 sout0_A_3
  exact ready_congr (View.read_writes_junk_eq_canon _ _) (View.read_writes_junk_eq_canon _ _) (View.read_writes_junk_eq_canon _ _) (View.read_writes_junk_eq_canon _ _) (View.read_writes_junk_eq_canon _ _)
    (ready_A c (grid0.coords t) _ _ _ _ _ _ _ _ _ _ _ _ _ _ _ _ _ _ _ _ _ _ _ _ _ _ _ _ _ _ _ _ _ _ _ _ _ _ _ _ _ _ _ _ _ _ _ _ _ _ _ _ _ (K (t.val / 5)) (W (t.val / 5)) (k0 m c K hK t) (bK _ (by omega)) (v0 m c W hV t) (bV _ (by omega)))

include hK hV bK bV in
theorem left_C (t : Fin cfg0.N) (h0 : ¬t.val % 10 = 0) (h1 : t.val % 5 = 0) (L : Left m c K W (t.val - 1) (Nat.lt_of_le_of_lt (Nat.sub_le _ _) t.isLt)) : Left m c K W t.val t.isLt := by
  have ht : t.val < 10 := t.isLt
  unfold Left at L ⊢
  rw [outsAt0_C m c t h0 h1]
  dsimp only
  unfold out0_C_9 sout0_C_0 sout0_C_1 sout0_C_2 sout0_C_3
  exact ready_congr (View.read_writes_junk_eq_canon _ _) rfl rfl (View.read_writes_junk_eq_canon _ _) (View.read_writes_junk_eq_canon _ _)
    (ready_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ (K (t.val / 5)) (W (t.val / 5)) (k0 m c K hK t) (bK _ (by omega)) (v0 m c W hV t) (bV _ (by omega)) (pad0 L) (pad1 L))

theorem left_B (t : Fin cfg0.N) (h0 : ¬t.val % 10 = 0) (h1 : ¬t.val % 5 = 0) (L : Left m c K W (t.val - 1) (Nat.lt_of_le_of_lt (Nat.sub_le _ _) t.isLt)) : Left m c K W t.val t.isLt := by
  unfold Left at L ⊢
  rw [outsAt0_B m c t h0 h1]
  dsimp only
  unfold out0_B_9 sout0_B_0 sout0_B_1 sout0_B_2 sout0_B_3
  rw [show (t.val - 1) / 5 = t.val / 5 by omega] at L
  exact L

include hK hV bK bV in
theorem left_all : ∀ (n : ℕ) (hn : n < cfg0.N), Left m c K W n hn
  | 0, hn => left_A m c K W hK hV bK bV ⟨0, hn⟩ rfl rfl
  | n + 1, hn => by
    have hn' : n + 1 < 10 := hn
    have L := left_all n (Nat.lt_of_succ_lt hn)
    by_cases h1 : (n + 1) % 5 = 0
    · exact left_C m c K W hK hV bK bV ⟨n + 1, hn⟩ (by show ¬(n + 1) % 10 = 0; omega) h1 L
    · exact left_B m c K W ⟨n + 1, hn⟩ (by show ¬(n + 1) % 10 = 0; omega) h1 L

include hX hK hV bX bK bV in
/-- The result's block at a point. -/
theorem out_pt (t : Fin cfg0.N) (s : Fin 1024) (i : Fin 640) :
    (outsAt0 m c t.val t.isLt).1 (ix3 0 s i) = Spec.out (Xg X t.val) (Kg (K (t.val / 5)) (t.val % 5)) (Kg (W (t.val / 5)) (t.val % 5)) (i.val / 160) s.val (i.val % 160) := by
  have ht : t.val < 10 := t.isLt
  rw [← gi_eq t]
  by_cases h0 : t.val % 10 = 0
  · rw [outsAt0_A m c t h0 (by omega)]
    dsimp only
    unfold out0_A_3
    exact (congrFun (View.read_writes_junk_eq_canon _ _) _).trans
      (out_A c (grid0.coords t) _ _ _ _ _ _ _ _ _ _ _ _ _ _ _ _ _ _ _ _ _ _ _ _ _ _ _ _ _ _ _ _ _ _ _ _ _ _ _ _ _ _ _ _ _ _ _ _ _ _ _ _ _ (Xg X t.val) (K (t.val / 5)) (W (t.val / 5)) (q0 m c X hX t) (bd_Xg X bX _ ht) (k0 m c K hK t) (bK _ (by omega)) (v0 m c W hV t) (bV _ (by omega)) s i)
  · have L := left_all m c K W hK hV bK bV (t.val - 1) (Nat.lt_of_le_of_lt (Nat.sub_le _ _) t.isLt)
    unfold Left at L
    by_cases h1 : t.val % 5 = 0
    · rw [outsAt0_C m c t h0 h1]
      dsimp only
      unfold out0_C_3
      exact (congrFun (View.read_writes_junk_eq_canon _ _) _).trans
        (out_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ (Xg X t.val) (K (t.val / 5)) (W (t.val / 5)) (q0 m c X hX t) (bd_Xg X bX _ ht) (k0 m c K hK t) (bK _ (by omega)) (v0 m c W hV t) (bV _ (by omega)) (pad0 L) (pad1 L) s i)
    · rw [show (t.val - 1) / 5 = t.val / 5 by omega] at L
      rw [outsAt0_B m c t h0 h1]
      dsimp only
      unfold out0_B_3
      exact (congrFun (View.read_writes_junk_eq_canon _ _) _).trans
        (out_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (Xg X t.val) (K (t.val / 5)) (W (t.val / 5)) (q0 m c X hX t) (bd_Xg X bX _ ht) L s i)

/-- The result's entry at an index, over the reals. -/
def G (X K W : ℕ → ℕ → ℕ → ℝ) (b s i : ℕ) : EReal :=
  Spec.out (fun s' i' => X b s' (640 * (i / 640) + i')) (Kg (K b) (i / 640)) (Kg (W b) (i / 640)) (i % 640 / 160) s (i % 640 % 160)

include hX hK hV bX bK bV in
/-- The result after the run. -/
theorem final : (Body.dats m 0 c).arrAt 3 cfg0.N = (fun j : S2x1024x3200.Idx => G X K W (j 0).val (j 1).val (j 2).val) := by
  refine (Body.dats m 0 c).arrAt_eq_of_covers 3 _ (by decide +kernel) fun t _ y => ?_
  blk_simp
  rw [Body.after0_3]
  have hp := out_pt m c X K W hX hK hV bX bK bV t
  change (outsAt0 m c t.val t.isLt).1 (y : S1x1024x640.Idx) = _
  have ht : t.val < 10 := t.isLt
  have e : (y : S1x1024x640.Idx) = ix3 0 (y 1) (y 2) := by
    funext a
    match a with
    | 0 => exact Fin.ext (by have h : (y 0).val < 1 := (y 0).isLt; show (y 0).val = 0; omega)
    | 1 => rfl
    | 2 => rfl
  have hy : (y 2).val < 640 := (y 2).isLt
  refine ((congrArg _ e).trans (hp (y 1) (y 2))).trans ?_
  rw [(idx t).2.2.2]
  show _ = G X K W (t.val / 5) (0 * 1024 + (y 1).val) (t.val % 5 * 640 + (y 2).val)
  unfold G
  rw [show (t.val % 5 * 640 + (y 2).val) / 640 = t.val % 5 by omega, show (t.val % 5 * 640 + (y 2).val) % 640 = (y 2).val by omega, Nat.zero_mul, Nat.zero_add]
  rfl

/-- The run of the kernel, with its result named. -/
theorem run (ρ : Dev nD → PrngReg) (R : (c : Dev nD) → FVec Ideal S2x1024x3200 .bf16) (hR : ∀ c, (Body.dats m 0 c).arrAt 3 cfg0.N = R c) :
    θ_run defs (onTc (τ := τ) (main (F := Ideal))) ⟨m, fun _ => 0, ρ⟩ (fun r => ∀ c : Dev nD,
      r.2.mem ((c.tc : Thread nD τ).loc main_v0_0) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r (h : (∀ c : Dev nD, r.2.mem ((c.tc : Thread nD τ).loc main_v0_0) = R c) ∧ _) c =>
      ⟨h.1 c, h.2.1 c⟩)
    (θ_run_and ((θ_run defs _ _).mono (fun _ h c =>
      ((Dat.toRForget_arrAt_iff (Body.dats m 0 c) (fgt := Body.forgets0) (w := 3) (by decide) _ _).mp ((h.1 c).1 3)).trans (hR c))
      (Body.run_main_quiescent m ρ)) (Body.frame m ρ))

end

end Cert.KernelIdeal.Value
end
-- ==== Proof.Out.Ref.lean ====
/-
The reference read at an index: each intermediate as the real the attention's statement names, and the result as
`Spec.out`.
-/
module

public import proofs.«01_k».proof.Proof.Gen.ReferenceIdeal.Run
public import proofs.«01_k».proof.Proof.Out.Spec
public import Idealize.ShloMosaic.Lib.Ring

@[expose] public section

set_option maxRecDepth 16384

noncomputable section

namespace Cert.ReferenceIdeal.Out

open Cert.ReferenceIdeal Cert.ReferenceIdeal.Gen Cert.ReferenceIdeal.Value
open Idealize.ShloMosaic Idealize.ShloMosaic.StableHlo
open Cert.KernelIdeal.Spec Cert.KernelIdeal.Scale Cert.KernelIdeal.Row

theorem bits_128 : Ideal.ofBits .f32 1124073472#32 = ((128 : ℝ) : EReal) := by
  simp [Ideal.ofBits, Ideal.ieee, -EReal.coe_mul]; norm_num

theorem bits_1024 : Ideal.ofBits .f32 1149239296#32 = ((1024 : ℝ) : EReal) := by
  simp [Ideal.ofBits, Ideal.ieee, -EReal.coe_mul]; norm_num

theorem bits_256 : Ideal.ofBits .f32 0x43800000#32 = ((256 : ℝ) : EReal) := by
  simp [Ideal.ofBits, Ideal.ieee, -EReal.coe_mul]; norm_num

theorem bits_256th : Ideal.ofBits .f32 0x3B800000#32 = ((1 / 256 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

theorem fold_max_of {ι κ : Type} [Fintype ι] (S : Finset κ) (f : κ → EReal) (b : EReal) (e : ι → κ)
    (h1 : ∀ k, e k ∈ S) (h2 : ∀ i ∈ S, ∃ k, e k = i) :
    S.fold max b f = (Finset.univ : Finset ι).fold max b (fun k => f (e k)) := by
  apply le_antisymm
  · rw [Finset.fold_max_le]
    refine ⟨(Finset.le_fold_max _).mpr (Or.inl le_rfl), fun i hi => ?_⟩
    obtain ⟨k, rfl⟩ := h2 i hi
    exact (Finset.le_fold_max _).mpr (Or.inr ⟨k, Finset.mem_univ _, le_rfl⟩)
  · rw [Finset.fold_max_le]
    exact ⟨(Finset.le_fold_max _).mpr (Or.inl le_rfl), fun k _ => (Finset.le_fold_max _).mpr (Or.inr ⟨e k, h1 k, le_rfl⟩)⟩

theorem fold_min_of {ι κ : Type} [Fintype ι] (S : Finset κ) (f : κ → EReal) (b : EReal) (e : ι → κ)
    (h1 : ∀ k, e k ∈ S) (h2 : ∀ i ∈ S, ∃ k, e k = i) :
    S.fold min b f = (Finset.univ : Finset ι).fold min b (fun k => f (e k)) := by
  apply le_antisymm
  · rw [Finset.le_fold_min]
    exact ⟨(Finset.fold_min_le _).mpr (Or.inl le_rfl), fun k _ => (Finset.fold_min_le _).mpr (Or.inr ⟨e k, h1 k, le_rfl⟩)⟩
  · rw [Finset.le_fold_min]
    refine ⟨(Finset.fold_min_le _).mpr (Or.inl le_rfl), fun i hi => ?_⟩
    obtain ⟨k, rfl⟩ := h2 i hi
    exact (Finset.fold_min_le _).mpr (Or.inr ⟨k, Finset.mem_univ _, le_rfl⟩)

theorem reduce_max {ι : Type} [Fintype ι] {s t : Shape} {axes : List (Fin s.rank)} (x : FVec Ideal s .f32) (h : s.ReducesTo axes t)
    (hu : 0 < S_.numel) (j : t.Idx) (e : ι → s.Idx) (h1 : ∀ k, h.drop (e k) = j) (h2 : ∀ i, h.drop i = j → ∃ k, e k = i) :
    Host.reduce FloatOps.maximumf x (constant (F := Ideal) S_ .f32 0xFF800000#32) h hu j
      = (Finset.univ : Finset ι).fold max ⊥ (fun k => x (e k)) := by
  refine (Host.reduce_eq_fold (max : EReal → EReal → EReal) x (constant (F := Ideal) S_ .f32 0xFF800000#32) h hu j).trans ?_
  rw [fold_max_of _ _ _ e (fun k => by simp [h1]) (fun i hi => h2 i (by simpa using hi))]
  exact congrArg (fun b => Finset.fold max b _ _) bits_bot

theorem reduce_min {ι : Type} [Fintype ι] {s t : Shape} {axes : List (Fin s.rank)} (x : FVec Ideal s .f32) (h : s.ReducesTo axes t)
    (hu : 0 < S_.numel) (j : t.Idx) (e : ι → s.Idx) (h1 : ∀ k, h.drop (e k) = j) (h2 : ∀ i, h.drop i = j → ∃ k, e k = i) :
    Host.reduce FloatOps.minimumf x (constant (F := Ideal) S_ .f32 0x7F800000#32) h hu j
      = (Finset.univ : Finset ι).fold min ⊤ (fun k => x (e k)) := by
  refine (Host.reduce_eq_fold (min : EReal → EReal → EReal) x (constant (F := Ideal) S_ .f32 0x7F800000#32) h hu j).trans ?_
  rw [fold_min_of _ _ _ e (fun k => by simp [h1]) (fun i hi => h2 i (by simpa using hi))]
  exact congrArg (fun b => Finset.fold min b _ _) bits_top

theorem pow_bits : ∀ k : Fin 254, IntOp.shli ArithUnit.host (IntOp.addi 1#32 (BitVec.ofNat 32 k.val)) 23#32
    = BitVec.ofNat 32 (k.val + 1) <<< 23 := by decide +kernel

/-- The scale the reference takes: the smallest power of two above the value, among the floats. -/
theorem rscale_of (t r : EReal) (hr : r = (Finset.univ : Finset (Fin 254)).fold min ⊤ (fun n => if t < pw (n.val + 1) then pw (n.val + 1) else ⊤)) :
    (if t < Ideal.ofBits FTy.f32 8388608#32 then (id (constant (F := Ideal) S_ FTy.f32 1065353216#32) ix0 : EReal) else r) = rscale t := by
  subst hr
  rfl

theorem pow_at (t : EReal) (k : Fin 254) :
    (if t < Ideal.ofBits FTy.f32 (IntOp.shli ArithUnit.host (IntOp.addi (1#32) (BitVec.ofNat 32 k.val)) 23#32) then
        Ideal.ofBits FTy.f32 (IntOp.shli ArithUnit.host (IntOp.addi (1#32) (BitVec.ofNat 32 k.val)) 23#32)
      else (id (constant (F := Ideal) S_ FTy.f32 2139095040#32) ix0 : EReal)) = if t < pw (k.val + 1) then pw (k.val + 1) else ⊤ := by
  have hc : (id (constant (F := Ideal) S_ FTy.f32 2139095040#32) ix0 : EReal) = ⊤ := bits_top
  have hk := k.isLt
  rw [hc, pow_bits, ofBits_shl (by omega)]

theorem abs_at (x : EReal) (r : ℝ) (h : x = (r : EReal)) : (FloatOps.absf (F := Ideal) (φ := .f32) x : EReal) = ((|r| : ℝ) : EReal) := by
  rw [h]; rfl

theorem sle_nat (a b : Nat) (ha : a < 1024) (hb : b < 1024) (x y : EReal) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) := by
    show BitVec.ofBool (BitVec.sle (BitVec.ofNat 32 a) (BitVec.ofNat 32 b)) = _
    congr 1
    rw [BitVec.sle_eq_decide, BitVec.toInt_eq_toNat_of_lt (by simp; omega), BitVec.toInt_eq_toNat_of_lt (by simp; omega)]
    simp [Nat.mod_eq_of_lt (show a < 4294967296 by omega), Nat.mod_eq_of_lt (show b < 4294967296 by omega)]
  rw [h]
  by_cases hab : a ≤ b
  · rw [if_pos hab, decide_eq_true hab]; rfl
  · rw [if_neg hab, decide_eq_false hab]; rfl

variable (V0 : Valuation τ sig (Elt Ideal))

/-- The result's value over the arguments. -/
def res : FVec Ideal S2x1024x3200 .bf16 := shapeCast _ (transpose S2x1024x5x4x160 [0, 3, 1, 2, 4] (truncf .bf16 (Host.divf (mulf (mulf (Host.dotGeneral dot_S2x5x4x1024x1024_S2x1024x5x160_S2x5x4x1024x160_4_1_23_3_01_02 none (minimumf (broadcastInDim S2x5x4x1024x1024 ![] bcast_S_S2x5x4x1024x1024 (id (constant S_ .f32 0x43E00000#32))) (maximumf (broadcastInDim S2x5x4x1024x1024 ![] bcast_S_S2x5x4x1024x1024 (id (constant S_ .f32 0x00000000#32))) (mulf (res_main_v131 V0) (broadcastInDim S2x5x4x1024x1024 ![] bcast_S_S2x5x4x1024x1024 (constant S_ .f32 0x43800000#32))))) (minimumf (broadcastInDim S2x1024x5x160 ![] bcast_S_S2x1024x5x160 (id (constant S_ .f32 0x43E00000#32))) (maximumf (broadcastInDim S2x1024x5x160 ![] bcast_S_S2x1024x5x160 (id (constant S_ .f32 0xC3E00000#32))) (Host.divf (res_main_v66 V0) (broadcastInDim S2x1024x5x160 ![0, 1, 2, 3] bcast_S2x1x5x160_S2x1024x5x160_0_1_2_3 (res_main_v87 V0)))))) (broadcastInDim S2x5x4x1024x160 ![] bcast_S_S2x5x4x1024x160 (constant S_ .f32 0x3B800000#32))) (broadcastInDim S2x5x4x1024x160 ![0, 1, 2, 3, 4] bcast_S2x5x1x1x160_S2x5x4x1024x160_0_1_2_3_4 (broadcastInDim S2x5x1x1x160 ![0, 1, 4] bcast_S2x5x160_S2x5x1x1x160_0_1_4 (shapeCast _ (res_main_v87 V0) shapeCasts_S2x1x5x160_S2x5x160)))) (broadcastInDim S2x5x4x1024x160 ![0, 1, 2, 3, 4] bcast_S2x5x4x1024x1_S2x5x4x1024x160_0_1_2_3_4 (broadcastInDim S2x5x4x1024x1 ![0, 1, 2, 3] bcast_S2x5x4x1024_S2x5x4x1024x1_0_1_2_3 (Host.reduceAdd (res_main_v131 V0) (constant S_ .f32 0x00000000#32) reducesTo_S2x5x4x1024x1024_S2x5x4x1024_d4 h_S_)))) bitsLt_bf16_f32) transposes_S2x5x4x1024x160_S2x1024x5x4x160_0_3_1_2_4) shapeCasts_S2x1024x5x4x160_S2x1024x3200

theorem bits256 : Ideal.ofBits FTy.f32 1132462080#32 = ((256 : ℝ) : EReal) := bits_256
theorem bits256th : Ideal.ofBits FTy.f32 998244352#32 = ((1 / 256 : ℝ) : EReal) := bits_256th
theorem bits_0 : Ideal.ofBits .f32 0x00000000#32 = (0 : EReal) := by
  simp [Ideal.ofBits, Ideal.ieee]

theorem step20 (f : FVec Ideal S2x8x20 .f32) (b : Fin 2) (n : Fin 8) (G : Fin 20) :
    (mulf (broadcastInDim S2x8x1x20x1 ![0, 1, 3] bcast_S2x8x20_S2x8x1x20x1_0_1_3 f) (broadcastInDim S2x8x1x20x1 ![] bcast_S_S2x8x1x20x1 (constant S_ .f32 0x3B124925#32)) : FVec Ideal S2x8x1x20x1 .f32) (ix5 b n 0 G 0) = f (ix3 b n G) * ((c0 : ℝ) : EReal) := by
  rw [← ofBits_c0]
  pointwise

theorem step45 (f : FVec Ideal S2x16x5 .f32) (b : Fin 2) (n : Fin 16) (g : Fin 5) :
    (mulf (broadcastInDim S2x16x1x5x1 ![0, 1, 3] bcast_S2x16x5_S2x16x1x5x1_0_1_3 f) (broadcastInDim S2x16x1x5x1 ![] bcast_S_S2x16x1x5x1 (constant S_ .f32 0x3B124925#32)) : FVec Ideal S2x16x1x5x1 .f32) (ix5 b n 0 g 0) = f (ix3 b n g) * ((c0 : ℝ) : EReal) := by
  rw [← ofBits_c0]
  pointwise

theorem step71 (f : FVec Ideal S2x5x160 .f32) (b : Fin 2) (g : Fin 5) (d : Fin 160) :
    (mulf (broadcastInDim S2x1x5x160 ![0, 2, 3] bcast_S2x5x160_S2x1x5x160_0_2_3 f) (broadcastInDim S2x1x5x160 ![] bcast_S_S2x1x5x160 (constant S_ .f32 0x3B124925#32)) : FVec Ideal S2x1x5x160 .f32) (ix4 b 0 g d) = f (ix3 b g d) * ((c0 : ℝ) : EReal) := by
  rw [← ofBits_c0]
  pointwise

theorem powsv36 (k : Fin 254) : (res_main_v26 V0 : FVec Ideal S254 .f32) (ix1 k) = Ideal.ofBits FTy.f32 (IntOp.shli ArithUnit.host (IntOp.addi (1#32) (BitVec.ofNat 32 k.val)) 23#32) := by
  pointwise [res_main_v26]

theorem stepv36 (A R : FVec Ideal S2x8x1x20x1 .f32) (b : Fin 2) (n : Fin 8) (G : Fin 20) :
    (select (cmpf .olt (A) (broadcastInDim S2x8x1x20x1 ![] bcast_S_S2x8x1x20x1 (constant S_ .f32 0x00800000#32))) (broadcastInDim S2x8x1x20x1 ![] bcast_S_S2x8x1x20x1 (id (constant S_ .f32 0x3F800000#32))) R : FVec Ideal S2x8x1x20x1 .f32) (ix5 b n 0 G 0) = if A (ix5 b n 0 G 0) < Ideal.ofBits FTy.f32 8388608#32 then (id (constant (F := Ideal) S_ FTy.f32 1065353216#32) ix0 : EReal) else R (ix5 b n 0 G 0) := by
  pointwise

def inv36 (A : FVec Ideal S2x8x1x20x1 .f32) (P : FVec Ideal S254 .f32) : FVec Ideal S2x8x1x20x1x254 .f32 :=
  (select (cmpf .olt (broadcastInDim S2x8x1x20x1x254 ![0, 1, 2, 3, 4, 5] bcast_S2x8x1x20x1x1_S2x8x1x20x1x254_0_1_2_3_4_5 (broadcastInDim S2x8x1x20x1x1 ![0, 1, 2, 3, 4] bcast_S2x8x1x20x1_S2x8x1x20x1x1_0_1_2_3_4 (A))) (broadcastInDim S2x8x1x20x1x254 ![0, 1, 2, 3, 4, 5] bcast_S1x1x1x1x1x254_S2x8x1x20x1x254_0_1_2_3_4_5 (broadcastInDim S1x1x1x1x1x254 ![5] bcast_S254_S1x1x1x1x1x254_5 P))) (broadcastInDim S2x8x1x20x1x254 ![5] bcast_S254_S2x8x1x20x1x254_5 P) (broadcastInDim S2x8x1x20x1x254 ![] bcast_S_S2x8x1x20x1x254 (id (constant S_ .f32 0x7F800000#32))))

theorem inv36_at (A : FVec Ideal S2x8x1x20x1 .f32) (P : FVec Ideal S254 .f32) (b : Fin 2) (n : Fin 8) (G : Fin 20) (k : Fin 254) :
    inv36 A P (ix6 b n 0 G 0 k) = if A (ix5 b n 0 G 0) < P (ix1 k) then P (ix1 k) else (id (constant (F := Ideal) S_ FTy.f32 2139095040#32) ix0 : EReal) := by
  pointwise [inv36]

theorem powsv61 (k : Fin 254) : (res_main_v51 V0 : FVec Ideal S254 .f32) (ix1 k) = Ideal.ofBits FTy.f32 (IntOp.shli ArithUnit.host (IntOp.addi (1#32) (BitVec.ofNat 32 k.val)) 23#32) := by
  pointwise [res_main_v51]

theorem stepv61 (A R : FVec Ideal S2x16x1x5x1 .f32) (b : Fin 2) (n : Fin 16) (g : Fin 5) :
    (select (cmpf .olt (A) (broadcastInDim S2x16x1x5x1 ![] bcast_S_S2x16x1x5x1 (constant S_ .f32 0x00800000#32))) (broadcastInDim S2x16x1x5x1 ![] bcast_S_S2x16x1x5x1 (id (constant S_ .f32 0x3F800000#32))) R : FVec Ideal S2x16x1x5x1 .f32) (ix5 b n 0 g 0) = if A (ix5 b n 0 g 0) < Ideal.ofBits FTy.f32 8388608#32 then (id (constant (F := Ideal) S_ FTy.f32 1065353216#32) ix0 : EReal) else R (ix5 b n 0 g 0) := by
  pointwise

def inv61 (A : FVec Ideal S2x16x1x5x1 .f32) (P : FVec Ideal S254 .f32) : FVec Ideal S2x16x1x5x1x254 .f32 :=
  (select (cmpf .olt (broadcastInDim S2x16x1x5x1x254 ![0, 1, 2, 3, 4, 5] bcast_S2x16x1x5x1x1_S2x16x1x5x1x254_0_1_2_3_4_5 (broadcastInDim S2x16x1x5x1x1 ![0, 1, 2, 3, 4] bcast_S2x16x1x5x1_S2x16x1x5x1x1_0_1_2_3_4 (A))) (broadcastInDim S2x16x1x5x1x254 ![0, 1, 2, 3, 4, 5] bcast_S1x1x1x1x1x254_S2x16x1x5x1x254_0_1_2_3_4_5 (broadcastInDim S1x1x1x1x1x254 ![5] bcast_S254_S1x1x1x1x1x254_5 P))) (broadcastInDim S2x16x1x5x1x254 ![5] bcast_S254_S2x16x1x5x1x254_5 P) (broadcastInDim S2x16x1x5x1x254 ![] bcast_S_S2x16x1x5x1x254 (id (constant S_ .f32 0x7F800000#32))))

theorem inv61_at (A : FVec Ideal S2x16x1x5x1 .f32) (P : FVec Ideal S254 .f32) (b : Fin 2) (n : Fin 16) (g : Fin 5) (k : Fin 254) :
    inv61 A P (ix6 b n 0 g 0 k) = if A (ix5 b n 0 g 0) < P (ix1 k) then P (ix1 k) else (id (constant (F := Ideal) S_ FTy.f32 2139095040#32) ix0 : EReal) := by
  pointwise [inv61]

theorem powsv87 (k : Fin 254) : (res_main_v77 V0 : FVec Ideal S254 .f32) (ix1 k) = Ideal.ofBits FTy.f32 (IntOp.shli ArithUnit.host (IntOp.addi (1#32) (BitVec.ofNat 32 k.val)) 23#32) := by
  pointwise [res_main_v77]

theorem stepv87 (A R : FVec Ideal S2x1x5x160 .f32) (b : Fin 2) (g : Fin 5) (d : Fin 160) :
    (select (cmpf .olt (A) (broadcastInDim S2x1x5x160 ![] bcast_S_S2x1x5x160 (constant S_ .f32 0x00800000#32))) (broadcastInDim S2x1x5x160 ![] bcast_S_S2x1x5x160 (id (constant S_ .f32 0x3F800000#32))) R : FVec Ideal S2x1x5x160 .f32) (ix4 b 0 g d) = if A (ix4 b 0 g d) < Ideal.ofBits FTy.f32 8388608#32 then (id (constant (F := Ideal) S_ FTy.f32 1065353216#32) ix0 : EReal) else R (ix4 b 0 g d) := by
  pointwise

def inv87 (A : FVec Ideal S2x1x5x160 .f32) (P : FVec Ideal S254 .f32) : FVec Ideal S2x1x5x160x254 .f32 :=
  (select (cmpf .olt (broadcastInDim S2x1x5x160x254 ![0, 1, 2, 3, 4] bcast_S2x1x5x160x1_S2x1x5x160x254_0_1_2_3_4 (broadcastInDim S2x1x5x160x1 ![0, 1, 2, 3] bcast_S2x1x5x160_S2x1x5x160x1_0_1_2_3 (A))) (broadcastInDim S2x1x5x160x254 ![0, 1, 2, 3, 4] bcast_S1x1x1x1x254_S2x1x5x160x254_0_1_2_3_4 (broadcastInDim S1x1x1x1x254 ![4] bcast_S254_S1x1x1x1x254_4 P))) (broadcastInDim S2x1x5x160x254 ![4] bcast_S254_S2x1x5x160x254_4 P) (broadcastInDim S2x1x5x160x254 ![] bcast_S_S2x1x5x160x254 (id (constant S_ .f32 0x7F800000#32))))

theorem inv87_at (A : FVec Ideal S2x1x5x160 .f32) (P : FVec Ideal S254 .f32) (b : Fin 2) (g : Fin 5) (d : Fin 160) (k : Fin 254) :
    inv87 A P (ix5 b 0 g d k) = if A (ix4 b 0 g d) < P (ix1 k) then P (ix1 k) else (id (constant (F := Ideal) S_ FTy.f32 2139095040#32) ix0 : EReal) := by
  pointwise [inv87]

section
theorem lt3200 (g : Fin 5) (c : Fin 640) : 640 * g.val + c.val < 3200 := by omega
theorem lt800 (g : Fin 5) (c : Fin 160) : 160 * g.val + c.val < 800 := by omega

variable (b : Fin 2) (g : Fin 5) (X K V : ℕ → ℕ → ℝ)
variable (hx : ∀ (s : Fin 1024) (c : Fin 640), (V0 (Proc.tc.devRef main_arg0) : FVec Ideal S2x1024x3200 .bf16) (ix3 b s ⟨640 * g.val + c.val, lt3200 g c⟩) = ((X s.val c.val : ℝ) : EReal))
variable (hk : ∀ (s : Fin 1024) (c : Fin 160), (V0 (Proc.tc.devRef main_arg1) : FVec Ideal S2x1024x800 .bf16) (ix3 b s ⟨160 * g.val + c.val, lt800 g c⟩) = ((K s.val c.val : ℝ) : EReal))
variable (hv : ∀ (s : Fin 1024) (c : Fin 160), (V0 (Proc.tc.devRef main_arg2) : FVec Ideal S2x1024x800 .bf16) (ix3 b s ⟨160 * g.val + c.val, lt800 g c⟩) = ((V s.val c.val : ℝ) : EReal))
variable (bx : Bd X 1024 640) (bk : Bd K 1024 160) (bv : Bd V 1024 160)

include hx in
theorem x_at (s : Fin 1024) (c : Fin 3200) (s' c' : ℕ) (hs : s.val = s') (hc : c.val = 640 * g.val + c') (h : c' < 640) :
    (V0 (Proc.tc.devRef main_arg0) : FVec Ideal S2x1024x3200 .bf16) (ix3 b s c) = ((X s' c' : ℝ) : EReal) := by
  subst hs
  have := hx s ⟨c', h⟩
  rw [← this]
  exact congrArg _ (congrArg (ix3 b s) (Fin.ext hc))

include hk in
theorem k_at (s : Fin 1024) (c : Fin 800) (s' c' : ℕ) (hs : s.val = s') (hc : c.val = 160 * g.val + c') (h : c' < 160) :
    (V0 (Proc.tc.devRef main_arg1) : FVec Ideal S2x1024x800 .bf16) (ix3 b s c) = ((K s' c' : ℝ) : EReal) := by
  subst hs
  have := hk s ⟨c', h⟩
  rw [← this]
  exact congrArg _ (congrArg (ix3 b s) (Fin.ext hc))

include hv in
theorem v_at (s : Fin 1024) (c : Fin 800) (s' c' : ℕ) (hs : s.val = s') (hc : c.val = 160 * g.val + c') (h : c' < 160) :
    (V0 (Proc.tc.devRef main_arg2) : FVec Ideal S2x1024x800 .bf16) (ix3 b s c) = ((V s' c' : ℝ) : EReal) := by
  subst hs
  have := hv s ⟨c', h⟩
  rw [← this]
  exact congrArg _ (congrArg (ix3 b s) (Fin.ext hc))

include hx in
theorem v13_at (n : Fin 8) (h : Fin 4) (d : Fin 160) (G : Fin 20) (hG : G.val = 4 * g.val + h.val) :
    (res_main_v13 V0 : FVec Ideal S2x8x1x20x160 .f32) (ix5 b n 0 G d) = ((qm X n.val (160 * h.val + d.val) : ℝ) : EReal) := by
  pointwise [res_main_v13, res_main_v9]
  refine (congrArg (Ideal.div · _) (Finset.sum_congr rfl fun x _ => x_at V0 b g X hx _ _ (128 * n.val + x.val) (160 * h.val + d.val) (by simp only []; omega) (by simp only []; omega) (by omega))).trans ?_
  rw [coe_sum, bits_128, Ideal.div_coe (by norm_num), ← EReal.coe_mul]
  rfl

include hx in
theorem v15_at (n : Fin 8) (r : Fin 128) (h : Fin 4) (d : Fin 160) (G : Fin 20) (hG : G.val = 4 * g.val + h.val) :
    (res_main_v15 V0 : FVec Ideal S2x8x128x20x160 .f32) (ix5 b n r G d) = ((xd X (128 * n.val + r.val) (160 * h.val + d.val) : ℝ) : EReal) := by
  have e := v13_at V0 b g X hx n h d G hG
  unfold res_main_v15
  obtain ⟨A, hA⟩ : ∃ A : FVec Ideal S2x8x1x20x160 .f32, A = res_main_v13 V0 := ⟨_, rfl⟩
  rw [← hA] at e ⊢
  clear hA
  pointwise [res_main_v9]
  refine (congrArg₂ (fun x y : EReal => x - y) (x_at V0 b g X hx _ _ (128 * n.val + r.val) (160 * h.val + d.val) (by simp only []; omega) (by simp only []; omega) (by omega)) e).trans ?_
  rw [← EReal.coe_sub, xd, show (128 * n.val + r.val) / 128 = n.val by omega]

include hx in
theorem v20_at (n : Fin 8) (h : Fin 4) (G : Fin 20) (hG : G.val = 4 * g.val + h.val) :
    (res_main_v20 V0 : FVec Ideal S2x8x1x20x1 .f32) (ix5 b n 0 G 0) = ((qmax X n.val h.val * c0 : ℝ) : EReal) := by
  have e : ∀ p : Fin 128 × Fin 160, (res_main_v15 V0 : FVec Ideal _ .f32) (ix5 b n p.1 G p.2) = ((xd X (128 * n.val + p.1.val) (160 * h.val + p.2.val) : ℝ) : EReal) := fun p => v15_at V0 b g X hx n p.1 h p.2 G hG
  unfold res_main_v20
  obtain ⟨A, hA⟩ : ∃ A : FVec Ideal S2x8x128x20x160 .f32, A = res_main_v15 V0 := ⟨_, rfl⟩
  rw [← hA] at e ⊢
  clear hA
  have hR := reduce_max (Host.absf A) reducesTo_S2x8x128x20x160_S2x8x20_d2_4 h_S_ (ix3 b n G) (fun p : Fin 128 × Fin 160 => (ix5 b n p.1 G p.2)) (fun p => by funext a; match a with | ⟨0, _⟩ => rfl | ⟨1, _⟩ => rfl | ⟨2, _⟩ => rfl) (fun i hi => by
      refine ⟨(i 2, i 4), ?_⟩
      have e0 : i 0 = b := congrFun hi 0
      have e1 : i 1 = n := congrFun hi 1
      have e3 : i 3 = G := congrFun hi 2
      rw [← e0, ← e1, ← e3]
      funext a; match a with | ⟨0, _⟩ => rfl | ⟨1, _⟩ => rfl | ⟨2, _⟩ => rfl | ⟨3, _⟩ => rfl | ⟨4, _⟩ => rfl)
  have hf : (fun p : Fin 128 × Fin 160 => (Host.absf A : FVec Ideal _ .f32) (ix5 b n p.1 G p.2)) = fun p => ((|xd X (128 * n.val + p.1.val) (160 * h.val + p.2.val)| : ℝ) : EReal) := funext fun p => abs_at _ _ (e p)
  rw [hf, fold_max_coe] at hR
  refine (step20 _ b n G).trans ?_
  rw [hR, ← EReal.coe_mul]
  rfl

include hx bx in
theorem v36_at (n : Fin 8) (h : Fin 4) (G : Fin 20) (hG : G.val = 4 * g.val + h.val) :
    (res_main_v36 V0 : FVec Ideal S2x8x1x20x1 .f32) (ix5 b n 0 G 0) = (((2 : ℝ) ^ qe X n.val h.val : ℝ) : EReal) := by
  rw [qe, ← rscale_coe (q_ok bx n.isLt h.isLt).2, ← v20_at V0 b g X hx n h G hG]
  have hP := powsv36 V0
  unfold res_main_v36
  obtain ⟨A, hA⟩ : ∃ A : FVec Ideal _ .f32, A = res_main_v20 V0 := ⟨_, rfl⟩
  obtain ⟨P, hP'⟩ : ∃ A : FVec Ideal S254 .f32, A = res_main_v26 V0 := ⟨_, rfl⟩
  rw [← hP'] at hP ⊢
  rw [← hA]
  clear hA hP'
  have hR := reduce_min (inv36 A P) reducesTo_S2x8x1x20x1x254_S2x8x1x20x1_d5 h_S_ (ix5 b n 0 G 0) (fun k : Fin 254 => (ix6 b n 0 G 0 k)) (fun p => by funext a; match a with | ⟨0, _⟩ => rfl | ⟨1, _⟩ => rfl | ⟨2, _⟩ => rfl | ⟨3, _⟩ => rfl | ⟨4, _⟩ => rfl) (fun i hi => by
      refine ⟨i 5, ?_⟩
      have e0 : i 0 = b := congrFun hi 0
      have e1 : i 1 = n := congrFun hi 1
      have e2 : i 2 = (0 : Fin 1) := congrFun hi 2
      have e3 : i 3 = G := congrFun hi 3
      have e4 : i 4 = (0 : Fin 1) := congrFun hi 4
      funext a
      match a with | ⟨0, _⟩ => exact e0.symm | ⟨1, _⟩ => exact e1.symm | ⟨2, _⟩ => exact e2.symm | ⟨3, _⟩ => exact e3.symm | ⟨4, _⟩ => exact e4.symm | ⟨5, _⟩ => rfl)
  refine (stepv36 A _ b n G).trans (rscale_of _ _ (Eq.trans hR ?_))
  refine congrArg (fun f => Finset.fold min ⊤ f _) (funext fun k => ?_)
  exact (inv36_at A P b n G k).trans (by rw [hP, pow_at])

include hk in
theorem v7_at (s : Fin 1024) (d : Fin 160) :
    (res_main_v7 V0 : FVec Ideal S2x1024x5x160 .f32) (ix4 b s g d) = ((ks K s.val d.val : ℝ) : EReal) := by
  pointwise [res_main_v7, res_main_v1]
  refine (congrArg₂ (fun x y : EReal => x - y) (k_at V0 b g K hk _ _ s.val d.val rfl (by simp only []; omega) (by omega))
    (congrArg (Ideal.div · _) (Finset.sum_congr rfl fun x _ => k_at V0 b g K hk _ _ x.val d.val rfl (by simp only []; omega) (by omega)))).trans ?_
  rw [coe_sum, bits_1024, Ideal.div_coe (by norm_num), ← EReal.coe_mul, ← EReal.coe_sub]
  rfl

include hk in
theorem v40_at (n : Fin 16) (r : Fin 64) (d : Fin 160) :
    (res_main_v40 V0 : FVec Ideal S2x16x64x5x160 .f32) (ix5 b n r g d) = ((ks K (64 * n.val + r.val) d.val : ℝ) : EReal) := by
  rw [← v7_at V0 b g K hk ⟨64 * n.val + r.val, by omega⟩ d]
  pointwise [res_main_v40]
  blk_ext

include hk in
theorem v45_at (n : Fin 16) :
    (res_main_v45 V0 : FVec Ideal S2x16x1x5x1 .f32) (ix5 b n 0 g 0) = ((kmax K n.val * c0 : ℝ) : EReal) := by
  have e : ∀ p : Fin 64 × Fin 160, (res_main_v40 V0 : FVec Ideal _ .f32) (ix5 b n p.1 g p.2) = ((ks K (64 * n.val + p.1.val) p.2.val : ℝ) : EReal) := fun p => v40_at V0 b g K hk n p.1 p.2
  unfold res_main_v45
  obtain ⟨A, hA⟩ : ∃ A : FVec Ideal S2x16x64x5x160 .f32, A = res_main_v40 V0 := ⟨_, rfl⟩
  rw [← hA] at e ⊢
  clear hA
  have hR := reduce_max (Host.absf A) reducesTo_S2x16x64x5x160_S2x16x5_d2_4 h_S_ (ix3 b n g) (fun p : Fin 64 × Fin 160 => (ix5 b n p.1 g p.2)) (fun p => by funext a; match a with | ⟨0, _⟩ => rfl | ⟨1, _⟩ => rfl | ⟨2, _⟩ => rfl) (fun i hi => by
      refine ⟨(i 2, i 4), ?_⟩
      have e0 : i 0 = b := congrFun hi 0
      have e1 : i 1 = n := congrFun hi 1
      have e3 : i 3 = g := congrFun hi 2
      rw [← e0, ← e1, ← e3]
      funext a; match a with | ⟨0, _⟩ => rfl | ⟨1, _⟩ => rfl | ⟨2, _⟩ => rfl | ⟨3, _⟩ => rfl | ⟨4, _⟩ => rfl)
  have hf : (fun p : Fin 64 × Fin 160 => (Host.absf A : FVec Ideal _ .f32) (ix5 b n p.1 g p.2)) = fun p => ((|ks K (64 * n.val + p.1.val) p.2.val| : ℝ) : EReal) := funext fun p => abs_at _ _ (e p)
  rw [hf, fold_max_coe] at hR
  refine (step45 _ b n g).trans ?_
  rw [hR, ← EReal.coe_mul]
  rfl

include hk bk in
theorem v61_at (n : Fin 16) :
    (res_main_v61 V0 : FVec Ideal S2x16x1x5x1 .f32) (ix5 b n 0 g 0) = (((2 : ℝ) ^ ke K n.val : ℝ) : EReal) := by
  rw [ke, ← rscale_coe (k_ok bk n.isLt).2, ← v45_at V0 b g K hk n]
  have hP := powsv61 V0
  unfold res_main_v61
  obtain ⟨A, hA⟩ : ∃ A : FVec Ideal _ .f32, A = res_main_v45 V0 := ⟨_, rfl⟩
  obtain ⟨P, hP'⟩ : ∃ A : FVec Ideal S254 .f32, A = res_main_v51 V0 := ⟨_, rfl⟩
  rw [← hP'] at hP ⊢
  rw [← hA]
  clear hA hP'
  have hR := reduce_min (inv61 A P) reducesTo_S2x16x1x5x1x254_S2x16x1x5x1_d5 h_S_ (ix5 b n 0 g 0) (fun k : Fin 254 => (ix6 b n 0 g 0 k)) (fun p => by funext a; match a with | ⟨0, _⟩ => rfl | ⟨1, _⟩ => rfl | ⟨2, _⟩ => rfl | ⟨3, _⟩ => rfl | ⟨4, _⟩ => rfl) (fun i hi => by
      refine ⟨i 5, ?_⟩
      have e0 : i 0 = b := congrFun hi 0
      have e1 : i 1 = n := congrFun hi 1
      have e2 : i 2 = (0 : Fin 1) := congrFun hi 2
      have e3 : i 3 = g := congrFun hi 3
      have e4 : i 4 = (0 : Fin 1) := congrFun hi 4
      funext a
      match a with | ⟨0, _⟩ => exact e0.symm | ⟨1, _⟩ => exact e1.symm | ⟨2, _⟩ => exact e2.symm | ⟨3, _⟩ => exact e3.symm | ⟨4, _⟩ => exact e4.symm | ⟨5, _⟩ => rfl)
  refine (stepv61 A _ b n g).trans (rscale_of _ _ (Eq.trans hR ?_))
  refine congrArg (fun f => Finset.fold min ⊤ f _) (funext fun k => ?_)
  exact (inv61_at A P b n g k).trans (by rw [hP, pow_at])

include hv in
theorem v66_at (s : Fin 1024) (d : Fin 160) :
    (res_main_v66 V0 : FVec Ideal S2x1024x5x160 .f32) (ix4 b s g d) = ((V s.val d.val : ℝ) : EReal) := by
  pointwise [res_main_v66]
  exact v_at V0 b g V hv _ _ s.val d.val rfl (by simp only []; omega) (by omega)

include hv in
theorem v71_at (d : Fin 160) :
    (res_main_v71 V0 : FVec Ideal S2x1x5x160 .f32) (ix4 b 0 g d) = ((vmax V d.val * c0 : ℝ) : EReal) := by
  have e : ∀ p : Fin 1024, (res_main_v66 V0 : FVec Ideal _ .f32) (ix4 b p g d) = ((V p.val d.val : ℝ) : EReal) := fun p => v66_at V0 b g V hv p d
  unfold res_main_v71
  obtain ⟨A, hA⟩ : ∃ A : FVec Ideal S2x1024x5x160 .f32, A = res_main_v66 V0 := ⟨_, rfl⟩
  rw [← hA] at e ⊢
  clear hA
  have hR := reduce_max (Host.absf A) reducesTo_S2x1024x5x160_S2x5x160_d1 h_S_ (ix3 b g d) (fun p : Fin 1024 => (ix4 b p g d)) (fun p => by funext a; match a with | ⟨0, _⟩ => rfl | ⟨1, _⟩ => rfl | ⟨2, _⟩ => rfl) (fun i hi => by
      refine ⟨i 1, ?_⟩
      have e0 : i 0 = b := congrFun hi 0
      have e2 : i 2 = g := congrFun hi 1
      have e3 : i 3 = d := congrFun hi 2
      rw [← e0, ← e2, ← e3]
      funext a; match a with | ⟨0, _⟩ => rfl | ⟨1, _⟩ => rfl | ⟨2, _⟩ => rfl | ⟨3, _⟩ => rfl)
  have hf : (fun p : Fin 1024 => (Host.absf A : FVec Ideal _ .f32) (ix4 b p g d)) = fun p => ((|V p.val d.val| : ℝ) : EReal) := funext fun p => abs_at _ _ (e p)
  rw [hf, fold_max_coe] at hR
  refine (step71 _ b g d).trans ?_
  rw [hR, ← EReal.coe_mul]
  rfl

include hv bv in
theorem v87_at (d : Fin 160) :
    (res_main_v87 V0 : FVec Ideal S2x1x5x160 .f32) (ix4 b 0 g d) = (((2 : ℝ) ^ ve V d.val : ℝ) : EReal) := by
  rw [ve, ← rscale_coe (v_ok bv d.isLt).2, ← v71_at V0 b g V hv d]
  have hP := powsv87 V0
  unfold res_main_v87
  obtain ⟨A, hA⟩ : ∃ A : FVec Ideal _ .f32, A = res_main_v71 V0 := ⟨_, rfl⟩
  obtain ⟨P, hP'⟩ : ∃ A : FVec Ideal S254 .f32, A = res_main_v77 V0 := ⟨_, rfl⟩
  rw [← hP'] at hP ⊢
  rw [← hA]
  clear hA hP'
  have hR := reduce_min (inv87 A P) reducesTo_S2x1x5x160x254_S2x1x5x160_d4 h_S_ (ix4 b 0 g d) (fun k : Fin 254 => (ix5 b 0 g d k)) (fun p => by funext a; match a with | ⟨0, _⟩ => rfl | ⟨1, _⟩ => rfl | ⟨2, _⟩ => rfl | ⟨3, _⟩ => rfl) (fun i hi => by
      refine ⟨i 4, ?_⟩
      have e0 : i 0 = b := congrFun hi 0
      have e1 : i 1 = (0 : Fin 1) := congrFun hi 1
      have e2 : i 2 = g := congrFun hi 2
      have e3 : i 3 = d := congrFun hi 3
      funext a
      match a with | ⟨0, _⟩ => exact e0.symm | ⟨1, _⟩ => exact e1.symm | ⟨2, _⟩ => exact e2.symm | ⟨3, _⟩ => exact e3.symm | ⟨4, _⟩ => rfl)
  refine (stepv87 A _ b g d).trans (rscale_of _ _ (Eq.trans hR ?_))
  refine congrArg (fun f => Finset.fold min ⊤ f _) (funext fun k => ?_)
  exact (inv87_at A P b g d k).trans (by rw [hP, pow_at])

theorem pow_inv (x : ℝ) (e : ℤ) : Ideal.div (x : EReal) (((2 : ℝ) ^ e : ℝ) : EReal) = ((x * (2 : ℝ) ^ (-e) : ℝ) : EReal) := by
  rw [Ideal.div_coe (zpow_ne_zero _ (by norm_num)), ← EReal.coe_mul, zpow_neg, one_div]

theorem clip_at (x : EReal) (r : ℝ) (h : x = (r : EReal)) :
    min (id (constant (F := Ideal) S_ FTy.f32 1138753536#32) ix0 : EReal) (max (id (constant (F := Ideal) S_ FTy.f32 3286237184#32) ix0 : EReal) x) = ((clip r : ℝ) : EReal) := by
  rw [h, ← clip_coe, ← ofBits_448, ← ofBits_n448]; rfl

include hx hk bx bk in
theorem v126_at (h : Fin 4) (s j : Fin 1024) :
    (res_main_v126 V0 : FVec Ideal S2x5x4x1024x1024 .f32) (ix5 b g h s j) = masked (fun j : Fin 1024 => score X K h.val s.val j.val) s.val j := by
  have hs : s.val = 128 * (s.val / 128) + s.val % 128 := by omega
  have hj : j.val = 64 * (j.val / 64) + j.val % 64 := by omega
  have hq := s.isLt
  have hkk := j.isLt
  have e36 := v36_at V0 b g X hx bx ⟨s.val / 128, by omega⟩ h ⟨g.val * 4 + h.val, by omega⟩ (by simp only []; omega)
  have e61 := v61_at V0 b g K hk bk ⟨j.val / 64, by omega⟩
  have e40 := fun d => v40_at V0 b g K hk ⟨j.val / 64, by omega⟩ ⟨j.val % 64, by omega⟩ d
  have e15 := fun d => v15_at V0 b g X hx ⟨s.val / 128, by omega⟩ ⟨s.val % 128, by omega⟩ h d ⟨g.val * 4 + h.val, by omega⟩ (by simp only []; omega)
  have e7 := fun d => v7_at V0 b g K hk j d
  have e13 := fun d => v13_at V0 b g X hx ⟨s.val / 128, by omega⟩ h d ⟨g.val * 4 + h.val, by omega⟩ (by simp only []; omega)
  unfold res_main_v126
  obtain ⟨A36, hA36⟩ : ∃ A : FVec Ideal S2x8x1x20x1 .f32, A = res_main_v36 V0 := ⟨_, rfl⟩
  simp only [← hA36] at *
  obtain ⟨A61, hA61⟩ : ∃ A : FVec Ideal S2x16x1x5x1 .f32, A = res_main_v61 V0 := ⟨_, rfl⟩
  simp only [← hA61] at *
  obtain ⟨A40, hA40⟩ : ∃ A : FVec Ideal S2x16x64x5x160 .f32, A = res_main_v40 V0 := ⟨_, rfl⟩
  simp only [← hA40] at *
  obtain ⟨A15, hA15⟩ : ∃ A : FVec Ideal S2x8x128x20x160 .f32, A = res_main_v15 V0 := ⟨_, rfl⟩
  simp only [← hA15] at *
  obtain ⟨A7, hA7⟩ : ∃ A : FVec Ideal S2x1024x5x160 .f32, A = res_main_v7 V0 := ⟨_, rfl⟩
  simp only [← hA7] at *
  obtain ⟨A13, hA13⟩ : ∃ A : FVec Ideal S2x8x1x20x160 .f32, A = res_main_v13 V0 := ⟨_, rfl⟩
  simp only [← hA13] at *
  clear hx hk
  pointwise
  rw [sle_nat _ _ j.isLt s.isLt]
  unfold masked
  refine if_congr Iff.rfl ?_ bits_bot
  refine (congrArg₂ (fun x y : EReal => x * y) (congrArg₂ (fun x y : EReal => x + y) (congrArg₂ (fun x y : EReal => x * y) (congrArg₂ (fun x y : EReal => x * y) (Finset.sum_congr rfl fun d _ => congrArg₂ (fun x y : EReal => x * y)
    (clip_at _ (ks K j.val d.val * (2 : ℝ) ^ (-ke K (j.val / 64))) ?_) (clip_at _ (xd X s.val (160 * h.val + d.val) * (2 : ℝ) ^ (-qe X (s.val / 128) h.val)) ?_)) e36) e61)
    (Finset.sum_congr rfl fun d _ => congrArg₂ (fun x y : EReal => x * y) (e7 d) (e13 d))) ofBits_sm).trans ?_
  · rw [e40 d, e61, pow_inv, ← hj]
  · rw [e15 d, e36, pow_inv, ← hs]
  · simp only [← EReal.coe_mul, coe_sum, ← EReal.coe_add]
    unfold score qcode kcode
    congr 1
    refine congrArg₂ (fun x y : ℝ => x * y) (congrArg₂ (fun x y : ℝ => x + y) (congrArg₂ (fun x y : ℝ => x * y) (congrArg₂ (fun x y : ℝ => x * y) (Finset.sum_congr rfl fun d _ => mul_comm _ _) rfl) rfl) (Finset.sum_congr rfl fun d _ => mul_comm _ _)) rfl

set_option maxHeartbeats 2000000 in
include hx hk hv bx bk bv in
theorem res_at (h : Fin 4) (s : Fin 1024) (d : Fin 160) (c : Fin 3200) (hc : c.val = 640 * g.val + (160 * h.val + d.val)) :
    res V0 (ix3 b s c) = Cert.KernelIdeal.Spec.out X K V h.val s.val d.val := by
  have e87 := v87_at V0 b g V hv bv d
  have e66 := fun j => v66_at V0 b g V hv j d
  have e126 := fun j => v126_at V0 b g X K hx hk bx bk h s j
  have e131 : ∀ j : Fin 1024, (res_main_v131 V0 : FVec Ideal S2x5x4x1024x1024 .f32) (ix5 b g h s j)
      = Ideal.exp (masked (fun j : Fin 1024 => score X K h.val s.val j.val) s.val j
        - Finset.univ.fold max ⊥ (masked (fun j : Fin 1024 => score X K h.val s.val j.val) s.val)) := fun j => by
    unfold res_main_v131
    obtain ⟨A, hA⟩ : ∃ A : FVec Ideal S2x5x4x1024x1024 .f32, A = res_main_v126 V0 := ⟨_, rfl⟩
    rw [← hA]
    have e126 : ∀ j, A (ix5 b g h s j) = _ := fun j => (congrFun hA _).trans (e126 j)
    clear hA
    have hR := reduce_max A reducesTo_S2x5x4x1024x1024_S2x5x4x1024_d4 h_S_ (ix4 b g h s) (fun p : Fin 1024 => ix5 b g h s p) (fun p => by funext a; match a with | ⟨0, _⟩ => rfl | ⟨1, _⟩ => rfl | ⟨2, _⟩ => rfl | ⟨3, _⟩ => rfl) (fun i hi => by
      refine ⟨i 4, ?_⟩
      have e0 : i 0 = b := congrFun hi 0
      have e1 : i 1 = g := congrFun hi 1
      have e2 : i 2 = h := congrFun hi 2
      have e3 : i 3 = s := congrFun hi 3
      rw [← e0, ← e1, ← e2, ← e3]
      funext a; match a with | ⟨0, _⟩ => rfl | ⟨1, _⟩ => rfl | ⟨2, _⟩ => rfl | ⟨3, _⟩ => rfl | ⟨4, _⟩ => rfl)
    rw [show (fun p : Fin 1024 => A (ix5 b g h s p)) = _ from funext e126] at hR
    generalize Host.reduce FloatOps.maximumf A _ _ _ = R at hR ⊢
    pointwise
    rw [hR, e126]
  unfold res
  obtain ⟨P, hP⟩ : ∃ A : FVec Ideal S2x5x4x1024x1024 .f32, A = res_main_v131 V0 := ⟨_, rfl⟩
  simp only [← hP] at *
  obtain ⟨A87, hA87⟩ : ∃ A : FVec Ideal S2x1x5x160 .f32, A = res_main_v87 V0 := ⟨_, rfl⟩
  simp only [← hA87] at *
  obtain ⟨A66, hA66⟩ : ∃ A : FVec Ideal S2x1024x5x160 .f32, A = res_main_v66 V0 := ⟨_, rfl⟩
  simp only [← hA66] at *
  clear e126 hx hk hv
  have ec : c = ⟨640 * g.val + (160 * h.val + d.val), by omega⟩ := Fin.ext hc
  have hdiv : c.val / 160 % 4 = h.val := by omega
  pointwise
  have hcl : ∀ j : Fin 1024, (id (constant (F := Ideal) S_ FTy.f32 1138753536#32) ix0 : EReal) = ((448 : ℝ) : EReal) := fun _ => ofBits_448
  have l1 : c.val / 640 < 5 := by omega
  have l2 : c.val / 160 % 4 < 4 := by omega
  have l3 : c.val % 160 < 160 := by omega
  have i1 : (⟨c.val / 640, l1⟩ : Fin 5) = g := Fin.ext (by simp only []; omega)
  have i2 : (⟨c.val / 160 % 4, l2⟩ : Fin 4) = h := Fin.ext hdiv
  have i3 : (⟨c.val % 160, l3⟩ : Fin 160) = d := Fin.ext (by simp only []; omega)
  clear hcl ec
  subst i1 i2 i3
  rw [bits256, bits256th]
  unfold Cert.KernelIdeal.Spec.out rrow
  refine congrArg₂ Ideal.div (congrArg₂ (fun x y : EReal => x * y) (congrArg (fun x : EReal => x * _) (Finset.sum_congr rfl fun j _ => ?_)) e87) (Finset.sum_congr rfl fun j _ => e131 j)
  rw [e131, clip_at _ (V j.val (c.val % 160) * (2 : ℝ) ^ (-ve V (c.val % 160))) (by rw [e66, e87, pow_inv])]
  refine (mul_comm _ _).trans (congrArg (fun x : EReal => ((vcode V j.val (c.val % 160) : ℝ) : EReal) * x) ?_)
  exact congrArg₂ min ofBits_448 (congrArg₂ max bits_0 rfl)
end

end Cert.ReferenceIdeal.Out
end
-- ==== Proof.Out.Agree.lean ====
/-
Finite arrays are arrays of reals, of which the kernel's result and the reference's are the same.
-/
module

public import proofs.«01_k».proof.Proof.Out.Final
public import proofs.«01_k».proof.Proof.Out.Ref
public import proofs.«01_k».proof.Pre_finite
public import proofs.«01_k».proof.Proof.Gen.Pre_finite

@[expose] public section

set_option maxRecDepth 16384

noncomputable section

namespace Cert.Agree

open Idealize.ShloMosaic Cert.KernelIdeal.Spec Cert.KernelIdeal.Eval Cert.KernelIdeal.Value

/-- The reals of an array. -/
def re {n : ℕ} (A : FVec Ideal ⟨3, ![2, 1024, n]⟩ .bf16) (b s i : ℕ) : ℝ :=
  if h : b < 2 ∧ s < 1024 ∧ i < n then (A (ix3 ⟨b, h.1⟩ ⟨s, h.2.1⟩ ⟨i, h.2.2⟩) : EReal).toReal else 0

theorem big : Ideal.ofBits .bf16 0x7F7F#16 = ((338953138925153547590470800371487866880 : ℝ) : EReal) := by
  simp [Ideal.ofBits, Ideal.ieee, -EReal.coe_mul]
  norm_num

/-- A number is one of the finite ones of the format's range. -/
def Fin' (x : EReal) : Prop := |x.toReal| ≤ (2 : ℝ) ^ (128 : ℤ) ∧ x = (x.toReal : EReal)

theorem fin_of (x : EReal) (h : (FloatOps.cmpf (F := Ideal) (φ := .bf16) .ole (FloatOps.absf (F := Ideal) (φ := .bf16) x) (Ideal.ofBits .bf16 0x7F7F#16)) = 1#1) : Fin' x := by
  have hle : max x (-x) ≤ Ideal.ofBits .bf16 0x7F7F#16 := by
    by_contra hc
    have : Ideal.cmp .ole (max x (-x)) (Ideal.ofBits .bf16 0x7F7F#16) = 0#1 := by simp [Ideal.cmp, hc]
    exact absurd (this.symm.trans h) (by decide)
  rw [big] at hle
  have h1 := (le_max_left _ _).trans hle
  have h2 := (le_max_right _ _).trans hle
  induction x using EReal.rec with
  | bot => exact absurd h2 (by simp)
  | top => exact absurd h1 (by simp)
  | coe r =>
    rw [← EReal.coe_neg] at h2
    have h1 := EReal.coe_le_coe_iff.mp h1
    have h2 := EReal.coe_le_coe_iff.mp h2
    refine ⟨?_, rfl⟩
    rw [EReal.toReal_coe]
    refine (abs_le.mpr ⟨?_, h1⟩).trans (by norm_num)
    linarith

section
variable (A : FVec Ideal ⟨3, ![2, 1024, 3200]⟩ .bf16) (B C : FVec Ideal ⟨3, ![2, 1024, 800]⟩ .bf16)

theorem finA (h : (Cert.Pre_finite.fn (F := Ideal) A B C).1 = fun _ => 1#1) (b : Fin 2) (s : Fin 1024) (i : Fin 3200) : Fin' (A (ix3 b s i)) :=
  fin_of _ (congrFun h (ix3 b s i))

theorem finB (h : (Cert.Pre_finite.fn (F := Ideal) A B C).2.1 = fun _ => 1#1) (b : Fin 2) (s : Fin 1024) (i : Fin 800) : Fin' (B (ix3 b s i)) :=
  fin_of _ (congrFun h (ix3 b s i))

theorem finC (h : (Cert.Pre_finite.fn (F := Ideal) A B C).2.2 = fun _ => 1#1) (b : Fin 2) (s : Fin 1024) (i : Fin 800) : Fin' (C (ix3 b s i)) :=
  fin_of _ (congrFun h (ix3 b s i))

end

theorem re_eq {n : ℕ} (A : FVec Ideal ⟨3, ![2, 1024, n]⟩ .bf16) (h : ∀ (b : Fin 2) (s : Fin 1024) (i : Fin n), Fin' (A (ix3 b s i)))
    (b : Fin 2) (s : Fin 1024) (i : Fin n) : A (ix3 b s i) = ((re A b.val s.val i.val : ℝ) : EReal) := by
  rw [re, dif_pos ⟨b.isLt, s.isLt, i.isLt⟩]
  exact (h b s i).2

theorem re_bd {n : ℕ} (A : FVec Ideal ⟨3, ![2, 1024, n]⟩ .bf16) (h : ∀ (b : Fin 2) (s : Fin 1024) (i : Fin n), Fin' (A (ix3 b s i)))
    (b : ℕ) (hb : b < 2) : Bd (re A b) 1024 n := fun s hs i hi => by
  rw [re, dif_pos ⟨hb, hs, hi⟩]
  exact (h ⟨b, hb⟩ ⟨s, hs⟩ ⟨i, hi⟩).1

/-- The reference's result, over the reals. -/
theorem ref (V0 : Valuation Cert.ReferenceIdeal.τ Cert.ReferenceIdeal.sig (Elt Ideal)) (X K W : ℕ → ℕ → ℕ → ℝ)
    (hX : ∀ (b : Fin 2) (s : Fin 1024) (i : Fin 3200), (V0 (Proc.tc.devRef Cert.ReferenceIdeal.main_arg0) : FVec Ideal ⟨3, ![2, 1024, 3200]⟩ .bf16) (ix3 b s i) = ((X b.val s.val i.val : ℝ) : EReal))
    (hK : ∀ (b : Fin 2) (s : Fin 1024) (i : Fin 800), (V0 (Proc.tc.devRef Cert.ReferenceIdeal.main_arg1) : FVec Ideal ⟨3, ![2, 1024, 800]⟩ .bf16) (ix3 b s i) = ((K b.val s.val i.val : ℝ) : EReal))
    (hV : ∀ (b : Fin 2) (s : Fin 1024) (i : Fin 800), (V0 (Proc.tc.devRef Cert.ReferenceIdeal.main_arg2) : FVec Ideal ⟨3, ![2, 1024, 800]⟩ .bf16) (ix3 b s i) = ((W b.val s.val i.val : ℝ) : EReal))
    (bX : ∀ b < 2, Bd (X b) 1024 3200) (bK : ∀ b < 2, Bd (K b) 1024 800) (bV : ∀ b < 2, Bd (W b) 1024 800) (b : Fin 2) (s : Fin 1024) (i : Fin 3200) :
    Cert.ReferenceIdeal.Out.res V0 (ix3 b s i) = G X K W b.val s.val i.val := by
  have hi := i.isLt
  have hg : i.val / 640 < 5 := by omega
  refine Cert.ReferenceIdeal.Out.res_at V0 b ⟨i.val / 640, hg⟩ (fun s' i' => X b.val s' (640 * (i.val / 640) + i')) (Kg (K b.val) (i.val / 640)) (Kg (W b.val) (i.val / 640))
    (fun s c => hX b s _) (fun s c => hK b s _) (fun s c => hV b s _) (fun s hs d hd => bX _ b.isLt s hs _ (by omega)) (bd_Kg (bK _ b.isLt) hg) (bd_Kg (bV _ b.isLt) hg)
    ⟨i.val % 640 / 160, by omega⟩ s ⟨i.val % 640 % 160, by omega⟩ i (by show i.val = 640 * (i.val / 640) + (160 * (i.val % 640 / 160) + i.val % 640 % 160); omega)

end Cert.Agree
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Bits.Frame
public import proofs.«01_k».proof.Proof.Out.Agree
public import Idealize.ShloMosaic.Adequacy
public import Idealize.ShloMosaic.Init

@[expose] public section

set_option maxRecDepth 16384

noncomputable section

namespace Cert.Proof

open Idealize.ShloMosaic Idealize.ShloMosaic.StableHlo Idealize.SL.Sem Cert.Kernel

/-- The reference runs, leaves its arguments as they were, and has no semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On finite arguments the kernel's result and the reference's are the same array. -/
theorem agrees : Cert.algebraic_KernelIdeal_ReferenceIdeal_pre_finite := by
  intro m g m' g' hpre hargs
  refine ⟨fun c => Cert.ReferenceIdeal.Out.res (launchContents m' c), ?_, ?_⟩
  · refine Cert.KernelIdeal.Value.run m g _ fun c => ?_
    obtain ⟨hA, hB, hC⟩ := hpre c
    have fA := Cert.Agree.finA _ _ _ hA
    have fB := Cert.Agree.finB _ _ _ hB
    have fC := Cert.Agree.finC _ _ _ hC
    have eA := Cert.Agree.re_eq _ fA
    have eB := Cert.Agree.re_eq _ fB
    have eC := Cert.Agree.re_eq _ fC
    refine (Cert.KernelIdeal.Value.final m c _ _ _ eA eB eC (Cert.Agree.re_bd _ fA) (Cert.Agree.re_bd _ fB) (Cert.Agree.re_bd _ fC)).trans ?_
    funext j
    have hj : j = ix3 (j 0) (j 1) (j 2) := by
      funext a
      match a with
      | 0 => rfl
      | 1 => rfl
      | 2 => rfl
    refine Eq.trans ?_ (congrArg (Cert.ReferenceIdeal.Out.res (launchContents m' c)) hj).symm
    refine (Cert.Agree.ref (launchContents m' c) _ _ _ ?_ ?_ ?_ (Cert.Agree.re_bd _ fA) (Cert.Agree.re_bd _ fB) (Cert.Agree.re_bd _ fC) (j 0) (j 1) (j 2)).symm
    · exact fun b s i => (congrFun (hargs c).1 (ix3 b s i)).trans (eA b s i)
    · exact fun b s i => (congrFun (hargs c).2.1 (ix3 b s i)).trans (eB b s i)
    · exact fun b s i => (congrFun (hargs c).2.2 (ix3 b s i)).trans (eC b s i)
  · exact Cert.ReferenceIdeal.Value.run (F := Ideal) m' g'

/-- The claims of this certificate. -/
theorem claim : Cert.Claim := by
  refine ⟨Cert.Kernel.Gen.facts, Cert.KernelIdeal.Gen.facts, Cert.ReferenceIdeal.Gen.facts, Cert.Pre_finite.Gen.facts, ?_⟩
  refine ⟨fun m ρ _ => Cert.Kernel.Body.frame m ρ, fun m ρ _ => Cert.KernelIdeal.Body.frame m ρ, fun m ρ _ => Cert.KernelIdeal.Body.frame m ρ,
    frame_reference, fun m ρ _ => frame_reference m ρ trivial, ?_, agrees⟩
  exact IdealRules.named_const.statement Cert.KernelIdeal.κ "sm_log2e" .f32 0x3DE995B3#32 _ rfl

end Cert.Proof

end
